-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 [hPre_tables_in_range : Cert.Pre_tables_in_range.Facts] (m : (ℓ : Loc Cert.Kernel2.nD Cert.Kernel2.τ Cert.Kernel2.sig) → Buf (Elt Bits) ℓ) : Prop :=
  ∀ c : Dev Cert.Kernel2.nD,
    (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).1 = (fun _ => 1#1)
    ∧ (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.1 = (fun _ => 1#1)
    ∧ (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.2.1 = (fun _ => 1#1)
    ∧ (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.2.2 = (fun _ => 1#1)

def Pre_Kernel2Ideal [hPre_tables_in_range : Cert.Pre_tables_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables_in_range [hPre_tables_in_range : Cert.Pre_tables_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_tables_in_range : Cert.Pre_tables_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_tables_in_range [hReference2Ideal : Cert.Reference2Ideal.Facts] [hPre_tables_in_range : Cert.Pre_tables_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def preserves_Kernel_KernelIdeal : Prop :=
  IdealRules.named_const.Statement Cert.KernelIdeal.κ "q_scale" .f32 0x3E38AA3B#32 (((8 * (Real.log 2))⁻¹ : ℝ) : EReal)

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_v58) = v1 c
          ∧ r.2.mem ((c.tc : Thread Cert.Reference4Ideal.nD Cert.Reference4Ideal.τ).loc Cert.Reference4Ideal.main_v56) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v44)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v44) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v44) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_values : Cert.Pre_finite_values.Facts) (hPre_tables_in_range : Cert.Pre_tables_in_range.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Kernel2 (hKernel2 := hKernel2) (hPre_tables_in_range := hPre_tables_in_range)
    ∧ quiescent_Kernel2Ideal (hKernel2Ideal := hKernel2Ideal) (hPre_tables_in_range := hPre_tables_in_range)
    ∧ quiescent_Reference2Ideal (hReference2Ideal := hReference2Ideal)
    ∧ quiescent_Reference2Ideal_pre_tables_in_range (hReference2Ideal := hReference2Ideal) (hPre_tables_in_range := hPre_tables_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Kernel2_Kernel2Ideal
    ∧ algebraic_Kernel2Ideal_Reference2Ideal (hKernel2Ideal := hKernel2Ideal) (hReference2Ideal := hReference2Ideal) (hPre_tables_in_range := hPre_tables_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite_values.lean ====
abbrev S8x4096x7168 : Shape := ⟨3, ![8, 4096, 7168]⟩
abbrev S64 : Shape := ⟨1, ![64]⟩
abbrev S128 : Shape := ⟨1, ![128]⟩
abbrev S8x4096x512 : Shape := ⟨3, ![8, 4096, 512]⟩
abbrev S_ : Shape := ⟨0, ![]⟩

class Facts : Prop where
  slices_S8x4096x7168_S8x4096x512_0_0_1024 : S8x4096x7168.Slices ![0, 0, 1024] S8x4096x512
  bitsLt_bf16_f32 : FTy.bits .bf16 < FTy.bits .f32
  bcast_S_S8x4096x512 : S_.BroadcastsInDim S8x4096x512 (![] : Fin 0 → Fin S8x4096x512.rank)
  bcast_S_S64 : S_.BroadcastsInDim S64 (![] : Fin 0 → Fin S64.rank)

variable [Facts]

def fn_part1 {F : FTy → Type} [FloatOps F] (main_arg6 : FVec F S64 .f32) (main_v4 : IVec S8x4096x512 1) (main_v7 : IVec S64 1) (main_v10 : IVec S64 1) (main_v13 : IVec S64 1) (main_v16 : IVec S64 1) (main_v17 : FVec F S64 .f32) (main_cst_4 : FVec F S_ .f32) : IVec S8x4096x512 1 × IVec S64 1 × IVec S64 1 × IVec S64 1 × IVec S64 1 × IVec S64 1 × IVec S64 1 :=
  let main_v18 : FVec F S64 .f32 := broadcastInDim S64 ![] bcast_S_S64 main_cst_4
  let main_v19 : IVec S64 1 := cmpf .olt main_v17 main_v18
  let main_v20 : FVec F S64 .f32 := Host.absf main_arg6
  let main_cst_5 : FVec F S_ .f32 := constant S_ .f32 0x7F800000#32
  let main_v21 : FVec F S64 .f32 := broadcastInDim S64 ![] bcast_S_S64 main_cst_5
  let main_v22 : IVec S64 1 := cmpf .olt main_v20 main_v21
  (main_v4, main_v7, main_v10, main_v13, main_v16, main_v19, main_v22)

def fn {F : FTy → Type} [FloatOps F] (main_arg0 : FVec F S8x4096x7168 .bf16) (main_arg1 : FVec F S64 .f32) (main_arg2 : FVec F S64 .f32) (main_arg3 : FVec F S64 .f32) (main_arg4 : FVec F S64 .f32) (main_arg5 : FVec F S64 .f32) (main_arg6 : FVec F S64 .f32) (main_arg7 : FVec F S128 .f32) : IVec S8x4096x512 1 × IVec S64 1 × IVec S64 1 × IVec S64 1 × IVec S64 1 × IVec S64 1 × IVec S64 1 :=
  let main_v0 : FVec F S8x4096x512 .bf16 := (extractStridedSlice S8x4096x512 ![0, 0, 1024] · slices_S8x4096x7168_S8x4096x512_0_0_1024) main_arg0
  let main_v1 : FVec F S8x4096x512 .f32 := (extf .f32 · bitsLt_bf16_f32) main_v0
  let main_v2 : FVec F S8x4096x512 .f32 := Host.absf main_v1
  let main_cst : FVec F S_ .f32 := constant S_ .f32 0x7F800000#32
  let main_v3 : FVec F S8x4096x512 .f32 := broadcastInDim S8x4096x512 ![] bcast_S_S8x4096x512 main_cst
  let main_v4 : IVec S8x4096x512 1 := cmpf .olt main_v2 main_v3
  let main_v5 : FVec F S64 .f32 := Host.absf main_arg1
  let main_cst_0 : FVec F S_ .f32 := constant S_ .f32 0x7F800000#32
  let main_v6 : FVec F S64 .f32 := broadcastInDim S64 ![] bcast_S_S64 main_cst_0
  let main_v7 : IVec S64 1 := cmpf .olt main_v5 main_v6
  let main_v8 : FVec F S64 .f32 := Host.absf main_arg2
  let main_cst_1 : FVec F S_ .f32 := constant S_ .f32 0x7F800000#32
  let main_v9 : FVec F S64 .f32 := broadcastInDim S64 ![] bcast_S_S64 main_cst_1
  let main_v10 : IVec S64 1 := cmpf .olt main_v8 main_v9
  let main_v11 : FVec F S64 .f32 := Host.absf main_arg3
  let main_cst_2 : FVec F S_ .f32 := constant S_ .f32 0x7F800000#32
  let main_v12 : FVec F S64 .f32 := broadcastInDim S64 ![] bcast_S_S64 main_cst_2
  let main_v13 : IVec S64 1 := cmpf .olt main_v11 main_v12
  let main_v14 : FVec F S64 .f32 := Host.absf main_arg4
  let main_cst_3 : FVec F S_ .f32 := constant S_ .f32 0x7F800000#32
  let main_v15 : FVec F S64 .f32 := broadcastInDim S64 ![] bcast_S_S64 main_cst_3
  let main_v16 : IVec S64 1 := cmpf .olt main_v14 main_v15
  let main_v17 : FVec F S64 .f32 := Host.absf main_arg5
  let main_cst_4 : FVec F S_ .f32 := constant S_ .f32 0x7F800000#32
  fn_part1 (F := F) main_arg6 main_v4 main_v7 main_v10 main_v13 main_v16 main_v17 main_cst_4
-- ==== Pre_tables_in_range.lean ====
abbrev S161792x1024 : Shape := ⟨2, ![161792, 1024]⟩
abbrev S316 : Shape := ⟨1, ![316]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S316 : S_.BroadcastsInDim S316 (![] : Fin 0 → Fin S316.rank)
  bcast_S_S1 : S_.BroadcastsInDim S1 (![] : Fin 0 → Fin S1.rank)

variable [Facts]

def fn {F : FTy → Type} [FloatOps F] (main_arg0 : FVec F S161792x1024 .f32) (main_arg1 : IVec S316 32) (main_arg2 : IVec S1 32) (main_arg3 : FVec F S32x1024x2048 .f32) (main_arg4 : FVec F S32x2048 .f32) (main_arg5 : FVec F S32x1024x1024 .f32) (main_arg6 : FVec F S32x1024 .f32) : IVec S316 1 × IVec S316 1 × IVec S1 1 × IVec S1 1 :=
  let main_c : IVec S_ 32 := constantI S_ 32 0#32
  let main_v0 : IVec S316 32 := broadcastInDim S316 ![] bcast_S_S316 main_c
  let main_v1 : IVec S316 1 := cmpi .sge main_arg1 main_v0
  let main_c_0 : IVec S_ 32 := constantI S_ 32 32#32
  let main_v2 : IVec S316 32 := broadcastInDim S316 ![] bcast_S_S316 main_c_0
  let main_v3 : IVec S316 1 := cmpi .slt main_arg1 main_v2
  let main_c_1 : IVec S_ 32 := constantI S_ 32 1#32
  let main_v4 : IVec S1 32 := broadcastInDim S1 ![] bcast_S_S1 main_c_1
  let main_v5 : IVec S1 1 := cmpi .sge main_arg2 main_v4
  let main_c_2 : IVec S_ 32 := constantI S_ 32 316#32
  let main_v6 : IVec S1 32 := broadcastInDim S1 ![] bcast_S_S1 main_c_2
  let main_v7 : IVec S1 1 := cmpi .sle main_arg2 main_v6
  (main_v1, main_v3, main_v5, main_v7)
-- ==== Kernel.lean ====
abbrev S8x4096x7168 : Shape := ⟨3, ![8, 4096, 7168]⟩
abbrev S64 : Shape := ⟨1, ![64]⟩
abbrev S128 : Shape := ⟨1, ![128]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x8x64 : Shape := ⟨4, ![1, 4096, 8, 64]⟩
abbrev S4096x512 : Shape := ⟨2, ![4096, 512]⟩
abbrev S1x64 : Shape := ⟨2, ![1, 64]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8x64 : Shape := ⟨2, ![8, 64]⟩
abbrev S8x4096x512 : Shape := ⟨3, ![8, 4096, 512]⟩
abbrev S8x512x4096 : Shape := ⟨3, ![8, 512, 4096]⟩
abbrev S1x512x512 : Shape := ⟨3, ![1, 512, 512]⟩
abbrev S4x64 : Shape := ⟨2, ![4, 64]⟩
abbrev S1x128 : Shape := ⟨2, ![1, 128]⟩
abbrev S1x256x512 : Shape := ⟨3, ![1, 256, 512]⟩
abbrev S1x512x4096 : Shape := ⟨3, ![1, 512, 4096]⟩
abbrev S1x4096x512 : Shape := ⟨3, ![1, 4096, 512]⟩
abbrev S1 : Shape := ⟨1, ![1]⟩
abbrev S1x1 : Shape := ⟨2, ![1, 1]⟩
abbrev S256x512 : Shape := ⟨2, ![256, 512]⟩
abbrev S4096x128 : Shape := ⟨2, ![4096, 128]⟩
abbrev S1x4096x128 : Shape := ⟨3, ![1, 4096, 128]⟩
abbrev S4096x256 : Shape := ⟨2, ![4096, 256]⟩
abbrev S256x64 : Shape := ⟨2, ![256, 64]⟩
abbrev S1x64x4096 : Shape := ⟨3, ![1, 64, 4096]⟩
abbrev S64x4096 : Shape := ⟨2, ![64, 4096]⟩
abbrev S256x4096 : Shape := ⟨2, ![256, 4096]⟩
abbrev S256 : Shape := ⟨1, ![256]⟩
abbrev S256x1 : Shape := ⟨2, ![256, 1]⟩
abbrev S256x256 : Shape := ⟨2, ![256, 256]⟩
abbrev S256x128 : Shape := ⟨2, ![256, 128]⟩
abbrev S1x256x128 : Shape := ⟨3, ![1, 256, 128]⟩

abbrev nBuf : Space → Nat
  | .hbm => 112
  | .vmem => 25
  | .smem => 0
  | _ => 0

abbrev bufTy : (tb : Table) → Fin (tcTables nBuf tb) → BufTy
  | .hbm, ⟨0, _⟩ => ⟨S8x4096x7168, .bf16⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S4096, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S4096x1, .f32⟩
  | .hbm, ⟨26, _⟩ => ⟨S1x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x64, .f32⟩
  | .hbm, ⟨31, _⟩ => ⟨S64, .i32⟩
  | .hbm, ⟨32, _⟩ => ⟨S_, .i32⟩
  | .hbm, ⟨33, _⟩ => ⟨S64, .i32⟩
  | .hbm, ⟨34, _⟩ => ⟨S64, .i1⟩
  | .hbm, ⟨35, _⟩ => ⟨S_, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S4096x64, .f32⟩
  | .hbm, ⟨42, _⟩ => ⟨S1x4096x1x64, .f32⟩
  | .hbm, ⟨43, _⟩ => ⟨S1x4096x8x64, .f32⟩
  | .hbm, ⟨44, _⟩ => ⟨S4096x512, .f32⟩
  | .hbm, ⟨45, _⟩ => ⟨S4096x64, .f32⟩
  | .hbm, ⟨46, _⟩ => ⟨S1x64, .f32⟩
  | .hbm, ⟨47, _⟩ => ⟨S4096x64, .f32⟩
  | .hbm, ⟨48, _⟩ => ⟨S4096x64, .f32⟩
  | .hbm, ⟨49, _⟩ => ⟨S1x4096x1x64, .f32⟩
  | .hbm, ⟨50, _⟩ => ⟨S1x4096x8x64, .f32⟩
  | .hbm, ⟨51, _⟩ => ⟨S4096x512, .f32⟩
  | .hbm, ⟨52, _⟩ => ⟨S512, .i32⟩
  | .hbm, ⟨53, _⟩ => ⟨S512x1, .i32⟩
  | .hbm, ⟨54, _⟩ => ⟨S_, .i32⟩
  | .hbm, ⟨55, _⟩ => ⟨S_, .i32⟩
  | .hbm, ⟨56, _⟩ => ⟨S512x1, .i32⟩
  | .hbm, ⟨57, _⟩ => ⟨S512x1, .i32⟩
  | .hbm, ⟨58, _⟩ => ⟨S512x1, .i32⟩
  | .hbm, ⟨59, _⟩ => ⟨S_, .i32⟩
  | .hbm, ⟨60, _⟩ => ⟨S512x1, .i32⟩
  | .hbm, ⟨61, _⟩ => ⟨S512x1, .i1⟩
  | .hbm, ⟨62, _⟩ => ⟨S512x1, .i32⟩
  | .hbm, ⟨63, _⟩ => ⟨S512x1, .i32⟩
  | .hbm, ⟨64, _⟩ => ⟨S_, .i32⟩
  | .hbm, ⟨65, _⟩ => ⟨S512x1, .i32⟩
  | .hbm, ⟨66, _⟩ => ⟨S512x1, .i1⟩
  | .hbm, ⟨67, _⟩ => ⟨S512x1, .i1⟩
  | .hbm, ⟨68, _⟩ => ⟨S_, .i32⟩
  | .hbm, ⟨69, _⟩ => ⟨S512x1, .i32⟩
  | .hbm, ⟨70, _⟩ => ⟨S512x1, .i32⟩
  | .hbm, ⟨71, _⟩ => ⟨S512x1, .i32⟩
  | .hbm, ⟨72, _⟩ => ⟨S1x512, .i32⟩
  | .hbm, ⟨73, _⟩ => ⟨S_, .i32⟩
  | .hbm, ⟨74, _⟩ => ⟨S_, .i32⟩
  | .hbm, ⟨75, _⟩ => ⟨S1x512, .i32⟩
  | .hbm, ⟨76, _⟩ => ⟨S1x512, .i32⟩
  | .hbm, ⟨77, _⟩ => ⟨S1x512, .i32⟩
  | .hbm, ⟨78, _⟩ => ⟨S_, .i32⟩
  | .hbm, ⟨79, _⟩ => ⟨S1x512, .i32⟩
  | .hbm, ⟨80, _⟩ => ⟨S1x512, .i1⟩
  | .hbm, ⟨81, _⟩ => ⟨S1x512, .i32⟩
  | .hbm, ⟨82, _⟩ => ⟨S1x512, .i32⟩
  | .hbm, ⟨83, _⟩ => ⟨S_, .i32⟩
  | .hbm, ⟨84, _⟩ => ⟨S1x512, .i32⟩
  | .hbm, ⟨85, _⟩ => ⟨S1x512, .i1⟩
  | .hbm, ⟨86, _⟩ => ⟨S1x512, .i1⟩
  | .hbm, ⟨87, _⟩ => ⟨S_, .i32⟩
  | .hbm, ⟨88, _⟩ => ⟨S1x512, .i32⟩
  | .hbm, ⟨89, _⟩ => ⟨S1x512, .i32⟩
  | .hbm, ⟨90, _⟩ => ⟨S1x512, .i32⟩
  | .hbm, ⟨91, _⟩ => ⟨S512x512, .i32⟩
  | .hbm, ⟨92, _⟩ => ⟨S512x512, .i32⟩
  | .hbm, ⟨93, _⟩ => ⟨S512x512, .i1⟩
  | .hbm, ⟨94, _⟩ => ⟨S512x512, .bf16⟩
  | .hbm, ⟨95, _⟩ => ⟨S1x64, .f32⟩
  | .hbm, ⟨96, _⟩ => ⟨S8x64, .f32⟩
  | .hbm, ⟨97, _⟩ => ⟨S512, .f32⟩
  | .hbm, ⟨98, _⟩ => ⟨S1x512, .f32⟩
  | .hbm, ⟨99, _⟩ => ⟨S1x64, .f32⟩
  | .hbm, ⟨100, _⟩ => ⟨S8x64, .f32⟩
  | .hbm, ⟨101, _⟩ => ⟨S512, .f32⟩
  | .hbm, ⟨102, _⟩ => ⟨S1x512, .f32⟩
  | .hbm, ⟨103, _⟩ => ⟨S8x4096x512, .bf16⟩
  | .hbm, ⟨104, _⟩ => ⟨S8x512x4096, .bf16⟩
  | .hbm, ⟨105, _⟩ => ⟨S1x64, .f32⟩
  | .hbm, ⟨106, _⟩ => ⟨S1x64, .f32⟩
  | .hbm, ⟨107, _⟩ => ⟨S1x64, .f32⟩
  | .hbm, ⟨108, _⟩ => ⟨S1x64, .f32⟩
  | .hbm, ⟨109, _⟩ => ⟨S4x64, .f32⟩
  | .hbm, ⟨110, _⟩ => ⟨S1x128, .f32⟩
  | .hbm, ⟨111, _⟩ => ⟨S8x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x512x4096, .bf16⟩
  | .local _ .vmem, ⟨18, _⟩ => ⟨S1x512x4096, .bf16⟩
  | .local _ .vmem, ⟨19, _⟩ => ⟨S1x4096x512, .bf16⟩
  | .local _ .vmem, ⟨20, _⟩ => ⟨S1x4096x512, .bf16⟩
  | .local _ .vmem, ⟨21, _⟩ => ⟨S4x64, .f32⟩
  | .local _ .vmem, ⟨22, _⟩ => ⟨S1x128, .f32⟩
  | .local _ .vmem, ⟨23, _⟩ => ⟨S1x256x512, .bf16⟩
  | .local _ .vmem, ⟨24, _⟩ => ⟨S1x256x512, .bf16⟩
  | _, _ => ⟨S8x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_c : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_0 : Ref sig .tc := ⟨.hbm, 68, rfl⟩
abbrev main_call1_v12 : Ref sig .tc := ⟨.hbm, 69, rfl⟩
abbrev main_call1_v13 : Ref sig .tc := ⟨.hbm, 70, rfl⟩
abbrev main_v36 : Ref sig .tc := ⟨.hbm, 71, rfl⟩
abbrev main_v37 : Ref sig .tc := ⟨.hbm, 72, rfl⟩
abbrev main_c_7 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_c : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_0 : Ref sig .tc := ⟨.hbm, 87, rfl⟩
abbrev main_call2_v12 : Ref sig .tc := ⟨.hbm, 88, rfl⟩
abbrev main_call2_v13 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51_0 : Ref sig .tc := ⟨.hbm, 103, rfl⟩
abbrev main_v51_1 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem5_1 : DmaSem sig := 24

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![8, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S4x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== KernelIdeal.lean ====
variable {F : FTy → Type} [FloatOps F] [Named F]
def κ : String → Option EReal := fun
  | "q_scale" => some (((8 * (Real.log 2))⁻¹ : ℝ) : EReal)
  | _ => none
-- ==== ReferenceIdeal.lean ====
abbrev S8x4096x7168 : Shape := ⟨3, ![8, 4096, 7168]⟩
abbrev S64 : Shape := ⟨1, ![64]⟩
abbrev S128 : Shape := ⟨1, ![128]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S8x4096x512 : Shape := ⟨3, ![8, 4096, 512]⟩
abbrev S8x4096x4x2x64 : Shape := ⟨5, ![8, 4096, 4, 2, 64]⟩
abbrev S8x4096x4x128 : Shape := ⟨4, ![8, 4096, 4, 128]⟩
abbrev S8x4096x4x2 : Shape := ⟨4, ![8, 4096, 4, 2]⟩
abbrev S8x4096x4x2x1 : Shape := ⟨5, ![8, 4096, 4, 2, 1]⟩
abbrev S1x1x1x1x64 : Shape := ⟨5, ![1, 1, 1, 1, 64]⟩
abbrev S1x4096x1x1x64 : Shape := ⟨5, ![1, 4096, 1, 1, 64]⟩
abbrev S8x4096x4x2x32 : Shape := ⟨5, ![8, 4096, 4, 2, 32]⟩
abbrev S8x4x2x4096x4096 : Shape := ⟨5, ![8, 4, 2, 4096, 4096]⟩
abbrev S8x4x2x4096 : Shape := ⟨4, ![8, 4, 2, 4096]⟩
abbrev S8x4x2x4096x1 : Shape := ⟨5, ![8, 4, 2, 4096, 1]⟩
abbrev S8x4x1x4096x4096 : Shape := ⟨5, ![8, 4, 1, 4096, 4096]⟩
abbrev S8x4x4096x4096 : Shape := ⟨4, ![8, 4, 4096, 4096]⟩
abbrev S8x4x128x4096 : Shape := ⟨4, ![8, 4, 128, 4096]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩

abbrev nBuf : Space → Nat
  | .hbm => 153
  | .vmem => 0
  | .smem => 0
  | _ => 0

abbrev hbmTy0_0 (i : Nat) : BufTy := match i % 128 with
  | 0 => ⟨S8x4096x7168, .bf16⟩
  | 1 => ⟨S64, .f32⟩
  | 2 => ⟨S64, .f32⟩
  | 3 => ⟨S64, .f32⟩
  | 4 => ⟨S64, .f32⟩
  | 5 => ⟨S64, .f32⟩
  | 6 => ⟨S64, .f32⟩
  | 7 => ⟨S128, .f32⟩
  | 8 => ⟨S8x4096x7168, .f32⟩
  | 9 => ⟨S4096, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S4096x1, .f32⟩
  | 27 => ⟨S1x32, .f32⟩
  | 28 => ⟨S4096x32, .f32⟩
  | 29 => ⟨S4096x32, .f32⟩
  | 30 => ⟨S4096x32, .f32⟩
  | 31 => ⟨S4096x64, .f32⟩
  | 32 => ⟨S4096x64, .f32⟩
  | 33 => ⟨S4096x64, .f32⟩
  | 34 => ⟨S8x4096x512, .f32⟩
  | 35 => ⟨S8x4096x4x2x64, .f32⟩
  | 36 => ⟨S8x4096x512, .f32⟩
  | 37 => ⟨S8x4096x4x2x64, .f32⟩
  | 38 => ⟨S8x4096x512, .f32⟩
  | 39 => ⟨S8x4096x4x128, .f32⟩
  | 40 => ⟨S8x4096x4x2x64, .f32⟩
  | 41 => ⟨S_, .f32⟩
  | 42 => ⟨S8x4096x4x2, .f32⟩
  | 43 => ⟨S8x4096x4x2x1, .f32⟩
  | 44 => ⟨S_, .f32⟩
  | 45 => ⟨S8x4096x4x2x1, .f32⟩
  | 46 => ⟨S8x4096x4x2x1, .f32⟩
  | 47 => ⟨S_, .f32⟩
  | 48 => ⟨S8x4096x4x2x1, .f32⟩
  | 49 => ⟨S8x4096x4x2x1, .f32⟩
  | 50 => ⟨S8x4096x4x2x1, .f32⟩
  | 51 => ⟨S8x4096x4x2x64, .f32⟩
  | 52 => ⟨S8x4096x4x2x64, .f32⟩
  | 53 => ⟨S1x1x1x1x64, .f32⟩
  | 54 => ⟨S8x4096x4x2x64, .f32⟩
  | 55 => ⟨S8x4096x4x2x64, .f32⟩
  | 56 => ⟨S1x4096x1x1x64, .f32⟩
  | 57 => ⟨S1x4096x1x1x64, .f32⟩
  | 58 => ⟨S8x4096x4x2x32, .f32⟩
  | 59 => ⟨S8x4096x4x2x32, .f32⟩
  | 60 => ⟨S8x4096x4x2x64, .f32⟩
  | 61 => ⟨S8x4096x4x2x64, .f32⟩
  | 62 => ⟨S8x4096x4x2x32, .f32⟩
  | 63 => ⟨S8x4096x4x2x64, .f32⟩
  | 64 => ⟨S8x4096x4x2x64, .f32⟩
  | 65 => ⟨S8x4096x4x2x64, .f32⟩
  | 66 => ⟨S8x4096x4x2x64, .f32⟩
  | 67 => ⟨S8x4096x4x2x64, .f32⟩
  | 68 => ⟨S_, .f32⟩
  | 69 => ⟨S8x4096x4x2, .f32⟩
  | 70 => ⟨S8x4096x4x2x1, .f32⟩
  | 71 => ⟨S_, .f32⟩
  | 72 => ⟨S8x4096x4x2x1, .f32⟩
  | 73 => ⟨S8x4096x4x2x1, .f32⟩
  | 74 => ⟨S_, .f32⟩
  | 75 => ⟨S8x4096x4x2x1, .f32⟩
  | 76 => ⟨S8x4096x4x2x1, .f32⟩
  | 77 => ⟨S8x4096x4x2x1, .f32⟩
  | 78 => ⟨S8x4096x4x2x64, .f32⟩
  | 79 => ⟨S8x4096x4x2x64, .f32⟩
  | 80 => ⟨S1x1x1x1x64, .f32⟩
  | 81 => ⟨S8x4096x4x2x64, .f32⟩
  | 82 => ⟨S8x4096x4x2x64, .f32⟩
  | 83 => ⟨S1x4096x1x1x64, .f32⟩
  | 84 => ⟨S1x4096x1x1x64, .f32⟩
  | 85 => ⟨S8x4096x4x2x32, .f32⟩
  | 86 => ⟨S8x4096x4x2x32, .f32⟩
  | 87 => ⟨S8x4096x4x2x64, .f32⟩
  | 88 => ⟨S8x4096x4x2x64, .f32⟩
  | 89 => ⟨S8x4096x4x2x32, .f32⟩
  | 90 => ⟨S8x4096x4x2x64, .f32⟩
  | 91 => ⟨S8x4096x4x2x64, .f32⟩
  | 92 => ⟨S8x4096x4x2x64, .f32⟩
  | 93 => ⟨S8x4096x4x2x64, .f32⟩
  | 94 => ⟨S64, .f32⟩
  | 95 => ⟨S_, .f32⟩
  | 96 => ⟨S_, .f32⟩
  | 97 => ⟨S_, .f32⟩
  | 98 => ⟨S64, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S8x4x2x4096x4096, .f32⟩
  | 106 => ⟨S_, .f32⟩
  | 107 => ⟨S8x4x2x4096x4096, .f32⟩
  | 108 => ⟨S8x4x2x4096x4096, .f32⟩
  | 109 => ⟨S_, .f32⟩
  | 110 => ⟨S8x4x2x4096, .f32⟩
  | 111 => ⟨S_, .f32⟩
  | 112 => ⟨S8x4x2x4096, .f32⟩
  | 113 => ⟨S8x4x2x4096, .f32⟩
  | 114 => ⟨S8x4x2x4096x1, .f32⟩
  | 115 => ⟨S8x4x2x4096x4096, .f32⟩
  | 116 => ⟨S8x4x2x4096x4096, .f32⟩
  | 117 => ⟨S8x4x2x4096x4096, .f32⟩
  | 118 => ⟨S_, .f32⟩
  | 119 => ⟨S8x4x2x4096, .f32⟩
  | 120 => ⟨S8x4x2x4096x1, .f32⟩
  | 121 => ⟨S8x4x2x4096x4096, .f32⟩
  | 122 => ⟨S8x4x2x4096x4096, .f32⟩
  | 123 => ⟨S8x4x1x4096x4096, .f32⟩
  | 124 => ⟨S8x4x4096x4096, .f32⟩
  | 125 => ⟨S8x4x1x4096x4096, .f32⟩
  | 126 => ⟨S8x4x4096x4096, .f32⟩
  | 127 => ⟨S8x4x4096x4096, .f32⟩
  | _ => ⟨S8x4096x7168, .bf16⟩

abbrev hbmTy0_1 (i : Nat) : BufTy := match i % 128 with
  | 0 => ⟨S8x4x4096x4096, .f32⟩
  | 1 => ⟨S8x4x4096x4096, .f32⟩
  | 2 => ⟨S8x4x128x4096, .f32⟩
  | 3 => ⟨S8x4096x4x128, .f32⟩
  | 4 => ⟨S8x4096x4x128, .f32⟩
  | 5 => ⟨S_, .f32⟩
  | 6 => ⟨S8x4096x4, .f32⟩
  | 7 => ⟨S8x4096x4x1, .f32⟩
  | 8 => ⟨S_, .f32⟩
  | 9 => ⟨S8x4096x4x1, .f32⟩
  | 10 => ⟨S8x4096x4x1, .f32⟩
  | 11 => ⟨S_, .f32⟩
  | 12 => ⟨S8x4096x4x1, .f32⟩
  | 13 => ⟨S8x4096x4x1, .f32⟩
  | 14 => ⟨S8x4096x4x1, .f32⟩
  | 15 => ⟨S8x4096x4x128, .f32⟩
  | 16 => ⟨S8x4096x4x128, .f32⟩
  | 17 => ⟨S1x1x1x128, .f32⟩
  | 18 => ⟨S8x4096x4x128, .f32⟩
  | 19 => ⟨S8x4096x4x128, .f32⟩
  | 20 => ⟨S_, .f32⟩
  | 21 => ⟨S8x4096x4x128, .f32⟩
  | 22 => ⟨S8x4096x4x128, .f32⟩
  | 23 => ⟨S8x4096x512, .f32⟩
  | 24 => ⟨S8x4096x512, .bf16⟩
  | _ => ⟨S8x4096x7168, .bf16⟩

abbrev hbmTy (i : Nat) : BufTy := match i / 128 with
  | 0 => hbmTy0_0 i
  | 1 => hbmTy0_1 i
  | _ => ⟨S8x4096x7168, .bf16⟩

abbrev bufTy : (tb : Table) → Fin (tcTables nBuf tb) → BufTy
  | .hbm, ⟨i, _⟩ => hbmTy i
  | _, _ => ⟨S8x4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_10 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_11 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_12 : Ref sig .tc := ⟨.hbm, 103, rfl⟩
abbrev main_v82 : Ref sig .tc := ⟨.hbm, 104, rfl⟩
abbrev main_v83 : Ref sig .tc := ⟨.hbm, 105, rfl⟩
abbrev main_cst_13 : Ref sig .tc := ⟨.hbm, 106, rfl⟩
abbrev main_v84 : Ref sig .tc := ⟨.hbm, 107, rfl⟩
abbrev main_v85 : Ref sig .tc := ⟨.hbm, 108, rfl⟩
abbrev main_cst_14 : Ref sig .tc := ⟨.hbm, 109, rfl⟩
abbrev main_v86 : Ref sig .tc := ⟨.hbm, 110, rfl⟩
abbrev main_cst_15 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_16 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_cst_17 : Ref sig .tc := ⟨.hbm, 133, rfl⟩
abbrev main_v107 : Ref sig .tc := ⟨.hbm, 134, rfl⟩
abbrev main_v108 : Ref sig .tc := ⟨.hbm, 135, rfl⟩
abbrev main_cst_18 : Ref sig .tc := ⟨.hbm, 136, rfl⟩
abbrev main_v109 : Ref sig .tc := ⟨.hbm, 137, rfl⟩
abbrev main_v110 : Ref sig .tc := ⟨.hbm, 138, rfl⟩
abbrev main_cst_19 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_cst_20 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩

abbrev nD : Nat := 1
abbrev τ : Topo := Topo.v7x

variable {F : FTy → Type} [FloatOps F]
-- ==== Kernel2.lean ====
abbrev S161792x1024 : Shape := ⟨2, ![161792, 1024]⟩
abbrev S316 : Shape := ⟨1, ![316]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S512x2048 : Shape := ⟨2, ![512, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 10
  | .vmem => 12
  | .smem => 2
  | _ => 0

abbrev bufTy : (tb : Table) → Fin (tcTables nBuf tb) → BufTy
  | .hbm, ⟨0, _⟩ => ⟨S161792x1024, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1024x2048, .bf16⟩
  | .hbm, ⟨6, _⟩ => ⟨S32x1024x1024, .bf16⟩
  | .hbm, ⟨7, _⟩ => ⟨S32x1x2048, .f32⟩
  | .hbm, ⟨8, _⟩ => ⟨S32x1x1024, .f32⟩
  | .hbm, ⟨9, _⟩ => ⟨S161792x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .smem, ⟨0, _⟩ => ⟨S316, .i32⟩
  | .local _ .smem, ⟨1, _⟩ => ⟨S1, .i32⟩
  | _, _ => ⟨S161792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![316], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S316.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S316) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S316.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S316) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S316.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S316) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S316.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S316) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S161792x1024 : Shape := ⟨2, ![161792, 1024]⟩
abbrev S316 : Shape := ⟨1, ![316]⟩
abbrev S1 : Shape := ⟨1, ![1]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S316x1 : Shape := ⟨2, ![316, 1]⟩
abbrev S316x512 : Shape := ⟨2, ![316, 512]⟩
abbrev S161792 : Shape := ⟨1, ![161792]⟩
abbrev S_ : Shape := ⟨0, ![]⟩
abbrev S161792x1 : Shape := ⟨2, ![161792, 1]⟩
abbrev S32 : Shape := ⟨1, ![32]⟩
abbrev S1x32 : Shape := ⟨2, ![1, 32]⟩
abbrev S161792x32 : Shape := ⟨2, ![161792, 32]⟩
abbrev S161792x32x2048 : Shape := ⟨3, ![161792, 32, 2048]⟩
abbrev S1x32x2048 : Shape := ⟨3, ![1, 32, 2048]⟩
abbrev S161792x32x1024 : Shape := ⟨3, ![161792, 32, 1024]⟩
abbrev S32x1024x161792 : Shape := ⟨3, ![32, 1024, 161792]⟩
abbrev S1x32x1024 : Shape := ⟨3, ![1, 32, 1024]⟩
abbrev S161792x32x1 : Shape := ⟨3, ![161792, 32, 1]⟩

abbrev nBuf : Space → Nat
  | .hbm => 75
  | .vmem => 0
  | .smem => 0
  | _ => 0

abbrev bufTy : (tb : Table) → Fin (tcTables nBuf tb) → BufTy
  | .hbm, ⟨0, _⟩ => ⟨S161792x1024, .f32⟩
  | .hbm, ⟨1, _⟩ => ⟨S316, .i32⟩
  | .hbm, ⟨2, _⟩ => ⟨S1, .i32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S316, .i32⟩
  | .hbm, ⟨8, _⟩ => ⟨S316x1, .i32⟩
  | .hbm, ⟨9, _⟩ => ⟨S316x512, .i32⟩
  | .hbm, ⟨10, _⟩ => ⟨S161792, .i32⟩
  | .hbm, ⟨11, _⟩ => ⟨S316x1, .i32⟩
  | .hbm, ⟨12, _⟩ => ⟨S316x512, .i32⟩
  | .hbm, ⟨13, _⟩ => ⟨S161792, .i32⟩
  | .hbm, ⟨14, _⟩ => ⟨S_, .i32⟩
  | .hbm, ⟨15, _⟩ => ⟨S161792, .i32⟩
  | .hbm, ⟨16, _⟩ => ⟨S161792, .i1⟩
  | .hbm, ⟨17, _⟩ => ⟨S161792x1, .i1⟩
  | .hbm, ⟨18, _⟩ => ⟨S161792x1, .i32⟩
  | .hbm, ⟨19, _⟩ => ⟨S32, .i32⟩
  | .hbm, ⟨20, _⟩ => ⟨S1x32, .i32⟩
  | .hbm, ⟨21, _⟩ => ⟨S161792x32, .i32⟩
  | .hbm, ⟨22, _⟩ => ⟨S161792x32, .i32⟩
  | .hbm, ⟨23, _⟩ => ⟨S161792x32, .i1⟩
  | .hbm, ⟨24, _⟩ => ⟨S161792x32, .i1⟩
  | .hbm, ⟨25, _⟩ => ⟨S161792x32, .i1⟩
  | .hbm, ⟨26, _⟩ => ⟨S_, .f32⟩
  | .hbm, ⟨27, _⟩ => ⟨S_, .f32⟩
  | .hbm, ⟨28, _⟩ => ⟨S161792x32, .f32⟩
  | .hbm, ⟨29, _⟩ => ⟨S161792x32, .f32⟩
  | .hbm, ⟨30, _⟩ => ⟨S161792x32, .f32⟩
  | .hbm, ⟨31, _⟩ => ⟨S161792x32x2048, .f32⟩
  | .hbm, ⟨32, _⟩ => ⟨S1x32x2048, .f32⟩
  | .hbm, ⟨33, _⟩ => ⟨S161792x32x2048, .f32⟩
  | .hbm, ⟨34, _⟩ => ⟨S161792x32x2048, .f32⟩
  | .hbm, ⟨35, _⟩ => ⟨S161792x32x1024, .f32⟩
  | .hbm, ⟨36, _⟩ => ⟨S161792x32x1024, .f32⟩
  | .hbm, ⟨37, _⟩ => ⟨S_, .f32⟩
  | .hbm, ⟨38, _⟩ => ⟨S161792x32x1024, .f32⟩
  | .hbm, ⟨39, _⟩ => ⟨S161792x32x1024, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S161792x32x1024, .f32⟩
  | .hbm, ⟨44, _⟩ => ⟨S161792x32x1024, .f32⟩
  | .hbm, ⟨45, _⟩ => ⟨S_, .f32⟩
  | .hbm, ⟨46, _⟩ => ⟨S161792x32x1024, .f32⟩
  | .hbm, ⟨47, _⟩ => ⟨S161792x32x1024, .f32⟩
  | .hbm, ⟨48, _⟩ => ⟨S_, .f32⟩
  | .hbm, ⟨49, _⟩ => ⟨S161792x32x1024, .f32⟩
  | .hbm, ⟨50, _⟩ => ⟨S161792x32x1024, .f32⟩
  | .hbm, ⟨51, _⟩ => ⟨S_, .f32⟩
  | .hbm, ⟨52, _⟩ => ⟨S161792x32x1024, .f32⟩
  | .hbm, ⟨53, _⟩ => ⟨S161792x32x1024, .f32⟩
  | .hbm, ⟨54, _⟩ => ⟨S161792x32x1024, .f32⟩
  | .hbm, ⟨55, _⟩ => ⟨S161792x32x1024, .f32⟩
  | .hbm, ⟨56, _⟩ => ⟨S_, .f32⟩
  | .hbm, ⟨57, _⟩ => ⟨S161792x32x1024, .f32⟩
  | .hbm, ⟨58, _⟩ => ⟨S161792x32x1024, .f32⟩
  | .hbm, ⟨59, _⟩ => ⟨S_, .f32⟩
  | .hbm, ⟨60, _⟩ => ⟨S161792x32x1024, .f32⟩
  | .hbm, ⟨61, _⟩ => ⟨S161792x32x1024, .f32⟩
  | .hbm, ⟨62, _⟩ => ⟨S161792x32x1024, .f32⟩
  | .hbm, ⟨63, _⟩ => ⟨S161792x32x1024, .f32⟩
  | .hbm, ⟨64, _⟩ => ⟨S32x1024x161792, .f32⟩
  | .hbm, ⟨65, _⟩ => ⟨S161792x32x1024, .f32⟩
  | .hbm, ⟨66, _⟩ => ⟨S1x32x1024, .f32⟩
  | .hbm, ⟨67, _⟩ => ⟨S161792x32x1024, .f32⟩
  | .hbm, ⟨68, _⟩ => ⟨S161792x32x1024, .f32⟩
  | .hbm, ⟨69, _⟩ => ⟨S161792x32x1, .f32⟩
  | .hbm, ⟨70, _⟩ => ⟨S161792x32x1, .f32⟩
  | .hbm, ⟨71, _⟩ => ⟨S161792x32x1024, .f32⟩
  | .hbm, ⟨72, _⟩ => ⟨S161792x32x1024, .f32⟩
  | .hbm, ⟨73, _⟩ => ⟨S_, .f32⟩
  | .hbm, ⟨74, _⟩ => ⟨S161792x1024, .f32⟩
  | _, _ => ⟨S161792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_cst_3 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩

abbrev nD : Nat := 1
abbrev τ : Topo := Topo.v7x

variable {F : FTy → Type} [FloatOps F]
-- ==== Kernel3.lean ====
abbrev S32768x1024 : Shape := ⟨2, ![32768, 1024]⟩
abbrev S8x6144 : Shape := ⟨2, ![8, 6144]⟩
abbrev S1024 : Shape := ⟨1, ![1024]⟩
abbrev S1024x7168 : Shape := ⟨2, ![1024, 7168]⟩
abbrev S7168 : Shape := ⟨1, ![7168]⟩
abbrev S8x1x6144 : Shape := ⟨3, ![8, 1, 6144]⟩
abbrev S1x1024 : Shape := ⟨2, ![1, 1024]⟩
abbrev S1x7168 : Shape := ⟨2, ![1, 7168]⟩
abbrev S32768x7168 : Shape := ⟨2, ![32768, 7168]⟩
abbrev S1024x1024 : Shape := ⟨2, ![1024, 1024]⟩
abbrev S1x1x1024 : Shape := ⟨3, ![1, 1, 1024]⟩
abbrev S1024x1792 : Shape := ⟨2, ![1024, 1792]⟩
abbrev S1x1792 : Shape := ⟨2, ![1, 1792]⟩
abbrev S1024x1 : Shape := ⟨2, ![1024, 1]⟩

abbrev nBuf : Space → Nat
  | .hbm => 10
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S8x6144, .f32⟩
  | .hbm, ⟨2, _⟩ => ⟨S1024, .f32⟩
  | .hbm, ⟨3, _⟩ => ⟨S1024x7168, .f32⟩
  | .hbm, ⟨4, _⟩ => ⟨S7168, .f32⟩
  | .hbm, ⟨5, _⟩ => ⟨S8x1x6144, .f32⟩
  | .hbm, ⟨6, _⟩ => ⟨S1024x7168, .bf16⟩
  | .hbm, ⟨7, _⟩ => ⟨S1x1024, .f32⟩
  | .hbm, ⟨8, _⟩ => ⟨S1x7168, .f32⟩
  | .hbm, ⟨9, _⟩ => ⟨S32768x7168, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1792, .bf16⟩
  | .local _ .vmem, ⟨8, _⟩ => ⟨S1024x1792, .bf16⟩
  | .local _ .vmem, ⟨9, _⟩ => ⟨S1x1792, .f32⟩
  | .local _ .vmem, ⟨10, _⟩ => ⟨S1x1792, .f32⟩
  | .local _ .vmem, ⟨11, _⟩ => ⟨S1024x1792, .bf16⟩
  | .local _ .vmem, ⟨12, _⟩ => ⟨S1024x1792, .bf16⟩
  | .local _ .vmem, ⟨13, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1792 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S32768x1024 : Shape := ⟨2, ![32768, 1024]⟩
abbrev S8x6144 : Shape := ⟨2, ![8, 6144]⟩
abbrev S1024 : Shape := ⟨1, ![1024]⟩
abbrev S1024x7168 : Shape := ⟨2, ![1024, 7168]⟩
abbrev S7168 : Shape := ⟨1, ![7168]⟩
abbrev S8x4096x1024 : Shape := ⟨3, ![8, 4096, 1024]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x7168 : Shape := ⟨3, ![8, 4096, 7168]⟩
abbrev S1x1x7168 : Shape := ⟨3, ![1, 1, 7168]⟩
abbrev S32768x7168 : Shape := ⟨2, ![32768, 7168]⟩

abbrev nBuf : Space → Nat
  | .hbm => 39
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x6144, .f32⟩
  | .hbm, ⟨2, _⟩ => ⟨S1024, .f32⟩
  | .hbm, ⟨3, _⟩ => ⟨S1024x7168, .f32⟩
  | .hbm, ⟨4, _⟩ => ⟨S7168, .f32⟩
  | .hbm, ⟨5, _⟩ => ⟨S8x4096x1024, .f32⟩
  | .hbm, ⟨6, _⟩ => ⟨S8x1024, .f32⟩
  | .hbm, ⟨7, _⟩ => ⟨S8x1x1024, .f32⟩
  | .hbm, ⟨8, _⟩ => ⟨S8x1024, .f32⟩
  | .hbm, ⟨9, _⟩ => ⟨S8x1x1024, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x1x1024, .f32⟩
  | .hbm, ⟨28, _⟩ => ⟨S8x1x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x7168, .f32⟩
  | .hbm, ⟨34, _⟩ => ⟨S1x1x7168, .f32⟩
  | .hbm, ⟨35, _⟩ => ⟨S8x4096x7168, .f32⟩
  | .hbm, ⟨36, _⟩ => ⟨S8x4096x7168, .f32⟩
  | .hbm, ⟨37, _⟩ => ⟨S32768x7168, .f32⟩
  | .hbm, ⟨38, _⟩ => ⟨S32768x7168, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel4.lean ====
abbrev S32768x512 : Shape := ⟨2, ![32768, 512]⟩
abbrev S32768x7168 : Shape := ⟨2, ![32768, 7168]⟩
abbrev S3x512x1024 : Shape := ⟨3, ![3, 512, 1024]⟩
abbrev S1024x1024 : Shape := ⟨2, ![1024, 1024]⟩
abbrev S32768x1024 : Shape := ⟨2, ![32768, 1024]⟩
abbrev S8x6144 : Shape := ⟨2, ![8, 6144]⟩
abbrev S1024 : Shape := ⟨1, ![1024]⟩
abbrev S1024x32 : Shape := ⟨2, ![1024, 32]⟩
abbrev S32 : Shape := ⟨1, ![32]⟩
abbrev S8x1x6144 : Shape := ⟨3, ![8, 1, 6144]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1x1024 : Shape := ⟨2, ![1, 1024]⟩
abbrev S32768x128 : Shape := ⟨2, ![32768, 128]⟩
abbrev S512x512 : Shape := ⟨2, ![512, 512]⟩
abbrev S512x1024 : Shape := ⟨2, ![512, 1024]⟩
abbrev S1x1x1024 : Shape := ⟨3, ![1, 1, 1024]⟩
abbrev S512x128 : Shape := ⟨2, ![512, 128]⟩
abbrev S1x512x1024 : Shape := ⟨3, ![1, 512, 1024]⟩
abbrev S512 : Shape := ⟨1, ![512]⟩
abbrev S512x1 : Shape := ⟨2, ![512, 1]⟩

abbrev nBuf : Space → Nat
  | .hbm => 25
  | .vmem => 31
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x7168, .bf16⟩
  | .hbm, ⟨4, _⟩ => ⟨S3x512x1024, .f32⟩
  | .hbm, ⟨5, _⟩ => ⟨S1024x1024, .f32⟩
  | .hbm, ⟨6, _⟩ => ⟨S32768x1024, .f32⟩
  | .hbm, ⟨7, _⟩ => ⟨S8x6144, .f32⟩
  | .hbm, ⟨8, _⟩ => ⟨S1024, .f32⟩
  | .hbm, ⟨9, _⟩ => ⟨S1024x32, .f32⟩
  | .hbm, ⟨10, _⟩ => ⟨S32, .f32⟩
  | .hbm, ⟨11, _⟩ => ⟨S8x1x6144, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S3x512x1024, .bf16⟩
  | .hbm, ⟨20, _⟩ => ⟨S1024x1024, .bf16⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S32768x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S3x512x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1024x128, .f32⟩
  | .local _ .vmem, ⟨24, _⟩ => ⟨S1x128, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x128, .f32⟩
  | .local _ .vmem, ⟨30, _⟩ => ⟨S512x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_c_0 : Ref sig .tc := ⟨.hbm, 15, rfl⟩
abbrev main_call1_v0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev main_v7_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  ![v16.toNat, c0_i32_4.toNat, c4_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference4Ideal.lean ====
abbrev S32768x512 : Shape := ⟨2, ![32768, 512]⟩
abbrev S32768x7168 : Shape := ⟨2, ![32768, 7168]⟩
abbrev S3x512x1024 : Shape := ⟨3, ![3, 512, 1024]⟩
abbrev S1024x1024 : Shape := ⟨2, ![1024, 1024]⟩
abbrev S32768x1024 : Shape := ⟨2, ![32768, 1024]⟩
abbrev S8x6144 : Shape := ⟨2, ![8, 6144]⟩
abbrev S1024 : Shape := ⟨1, ![1024]⟩
abbrev S1024x32 : Shape := ⟨2, ![1024, 32]⟩
abbrev S32 : Shape := ⟨1, ![32]⟩
abbrev S8x4096x1024 : Shape := ⟨3, ![8, 4096, 1024]⟩
abbrev S8x1024 : Shape := ⟨2, ![8, 1024]⟩
abbrev S8x1x1024 : Shape := ⟨3, ![8, 1, 1024]⟩
abbrev S32768x1x512 : Shape := ⟨3, ![32768, 1, 512]⟩
abbrev S32768x3x512 : Shape := ⟨3, ![32768, 3, 512]⟩
abbrev S8x4096x3x512 : Shape := ⟨4, ![8, 4096, 3, 512]⟩
abbrev S32768x3072 : Shape := ⟨2, ![32768, 3072]⟩
abbrev S8x4096x3x1024 : Shape := ⟨4, ![8, 4096, 3, 1024]⟩
abbrev S_ : Shape := ⟨0, ![]⟩
abbrev S3x1024x8x4096 : Shape := ⟨4, ![3, 1024, 8, 4096]⟩
abbrev S8x4096 : Shape := ⟨2, ![8, 4096]⟩
abbrev S8x4096x1 : Shape := ⟨3, ![8, 4096, 1]⟩
abbrev S1x1x1024 : Shape := ⟨3, ![1, 1, 1024]⟩
abbrev S8x4096x32 : Shape := ⟨3, ![8, 4096, 32]⟩
abbrev S1x1x32 : Shape := ⟨3, ![1, 1, 32]⟩
abbrev S32768x32 : Shape := ⟨2, ![32768, 32]⟩
abbrev S32768x128 : Shape := ⟨2, ![32768, 128]⟩

abbrev nBuf : Space → Nat
  | .hbm => 79
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x7168, .bf16⟩
  | .hbm, ⟨4, _⟩ => ⟨S3x512x1024, .f32⟩
  | .hbm, ⟨5, _⟩ => ⟨S1024x1024, .f32⟩
  | .hbm, ⟨6, _⟩ => ⟨S32768x1024, .f32⟩
  | .hbm, ⟨7, _⟩ => ⟨S8x6144, .f32⟩
  | .hbm, ⟨8, _⟩ => ⟨S1024, .f32⟩
  | .hbm, ⟨9, _⟩ => ⟨S1024x32, .f32⟩
  | .hbm, ⟨10, _⟩ => ⟨S32, .f32⟩
  | .hbm, ⟨11, _⟩ => ⟨S8x4096x1024, .f32⟩
  | .hbm, ⟨12, _⟩ => ⟨S8x1024, .f32⟩
  | .hbm, ⟨13, _⟩ => ⟨S8x1x1024, .f32⟩
  | .hbm, ⟨14, _⟩ => ⟨S8x1024, .f32⟩
  | .hbm, ⟨15, _⟩ => ⟨S8x1x1024, .f32⟩
  | .hbm, ⟨16, _⟩ => ⟨S8x1024, .f32⟩
  | .hbm, ⟨17, _⟩ => ⟨S8x1x1024, .f32⟩
  | .hbm, ⟨18, _⟩ => ⟨S32768x512, .f32⟩
  | .hbm, ⟨19, _⟩ => ⟨S32768x512, .f32⟩
  | .hbm, ⟨20, _⟩ => ⟨S32768x512, .f32⟩
  | .hbm, ⟨21, _⟩ => ⟨S32768x1x512, .f32⟩
  | .hbm, ⟨22, _⟩ => ⟨S32768x1x512, .f32⟩
  | .hbm, ⟨23, _⟩ => ⟨S32768x1x512, .f32⟩
  | .hbm, ⟨24, _⟩ => ⟨S32768x3x512, .f32⟩
  | .hbm, ⟨25, _⟩ => ⟨S8x4096x3x512, .f32⟩
  | .hbm, ⟨26, _⟩ => ⟨S32768x7168, .f32⟩
  | .hbm, ⟨27, _⟩ => ⟨S32768x3072, .f32⟩
  | .hbm, ⟨28, _⟩ => ⟨S8x4096x3x1024, .f32⟩
  | .hbm, ⟨29, _⟩ => ⟨S8x4096x3x1024, .f32⟩
  | .hbm, ⟨30, _⟩ => ⟨S8x4096x3x1024, .f32⟩
  | .hbm, ⟨31, _⟩ => ⟨S_, .f32⟩
  | .hbm, ⟨32, _⟩ => ⟨S8x4096x3x1024, .f32⟩
  | .hbm, ⟨33, _⟩ => ⟨S8x4096x3x1024, .f32⟩
  | .hbm, ⟨34, _⟩ => ⟨S_, .f32⟩
  | .hbm, ⟨35, _⟩ => ⟨S8x4096x3x1024, .f32⟩
  | .hbm, ⟨36, _⟩ => ⟨S8x4096x3x1024, .f32⟩
  | .hbm, ⟨37, _⟩ => ⟨S3x1024x8x4096, .f32⟩
  | .hbm, ⟨38, _⟩ => ⟨S8x4096x3x1024, .f32⟩
  | .hbm, ⟨39, _⟩ => ⟨S8x4096x3x1024, .f32⟩
  | .hbm, ⟨40, _⟩ => ⟨S_, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S_, .f32⟩
  | .hbm, ⟨48, _⟩ => ⟨S8x4096, .f32⟩
  | .hbm, ⟨49, _⟩ => ⟨S8x4096x1, .f32⟩
  | .hbm, ⟨50, _⟩ => ⟨S_, .f32⟩
  | .hbm, ⟨51, _⟩ => ⟨S8x4096x1, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S8x4096x1, .f32⟩
  | .hbm, ⟨57, _⟩ => ⟨S8x4096x1024, .f32⟩
  | .hbm, ⟨58, _⟩ => ⟨S8x4096x1024, .f32⟩
  | .hbm, ⟨59, _⟩ => ⟨S1x1x1024, .f32⟩
  | .hbm, ⟨60, _⟩ => ⟨S8x4096x1024, .f32⟩
  | .hbm, ⟨61, _⟩ => ⟨S8x4096x1024, .f32⟩
  | .hbm, ⟨62, _⟩ => ⟨S_, .f32⟩
  | .hbm, ⟨63, _⟩ => ⟨S8x1x1024, .f32⟩
  | .hbm, ⟨64, _⟩ => ⟨S8x1x1024, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S8x4096x32, .f32⟩
  | .hbm, ⟨70, _⟩ => ⟨S1x1x32, .f32⟩
  | .hbm, ⟨71, _⟩ => ⟨S8x4096x32, .f32⟩
  | .hbm, ⟨72, _⟩ => ⟨S8x4096x32, .f32⟩
  | .hbm, ⟨73, _⟩ => ⟨S32768x32, .f32⟩
  | .hbm, ⟨74, _⟩ => ⟨S_, .i32⟩
  | .hbm, ⟨75, _⟩ => ⟨S_, .f32⟩
  | .hbm, ⟨76, _⟩ => ⟨S32768x128, .f32⟩
  | .hbm, ⟨77, _⟩ => ⟨S32768x1024, .f32⟩
  | .hbm, ⟨78, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_2 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c : Ref sig .tc := ⟨.hbm, 74, rfl⟩
abbrev main_call0_v0 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Kernel5.lean ====
abbrev S8x1024 : Shape := ⟨2, ![8, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x1024 : Shape := ⟨2, ![8, 1024]⟩
abbrev S4x1024x6144 : Shape := ⟨3, ![4, 1024, 6144]⟩
abbrev S4x6144 : Shape := ⟨2, ![4, 6144]⟩
abbrev S_ : Shape := ⟨0, ![]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x6144, .f32⟩
  | .hbm, ⟨2, _⟩ => ⟨S4x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x6144x8, .f32⟩
  | .hbm, ⟨13, _⟩ => ⟨S4x8x6144, .f32⟩
  | .hbm, ⟨14, _⟩ => ⟨S4x1x6144, .f32⟩
  | .hbm, ⟨15, _⟩ => ⟨S4x8x6144, .f32⟩
  | .hbm, ⟨16, _⟩ => ⟨S4x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel6.lean ====
abbrev S8x4096x7168 : Shape := ⟨3, ![8, 4096, 7168]⟩
abbrev S3x1536 : Shape := ⟨2, ![3, 1536]⟩
abbrev S1536 : Shape := ⟨1, ![1536]⟩
abbrev S1x1536 : Shape := ⟨2, ![1, 1536]⟩
abbrev S3x8x4096x512 : Shape := ⟨4, ![3, 8, 4096, 512]⟩
abbrev S1x4096x128 : Shape := ⟨3, ![1, 4096, 128]⟩
abbrev S3x128 : Shape := ⟨2, ![3, 128]⟩
abbrev S1x128 : Shape := ⟨2, ![1, 128]⟩
abbrev S1x1x4096x128 : Shape := ⟨4, ![1, 1, 4096, 128]⟩
abbrev S4096x128 : Shape := ⟨2, ![4096, 128]⟩

abbrev nBuf : Space → Nat
  | .hbm => 5
  | .vmem => 8
  | .smem => 0
  | _ => 0

abbrev bufTy : (tb : Table) → Fin (tcTables nBuf tb) → BufTy
  | .hbm, ⟨0, _⟩ => ⟨S8x4096x7168, .bf16⟩
  | .hbm, ⟨1, _⟩ => ⟨S3x1536, .f32⟩
  | .hbm, ⟨2, _⟩ => ⟨S1536, .f32⟩
  | .hbm, ⟨3, _⟩ => ⟨S1x1536, .f32⟩
  | .hbm, ⟨4, _⟩ => ⟨S3x8x4096x512, .bf16⟩
  | .local _ .vmem, ⟨0, _⟩ => ⟨S1x4096x128, .bf16⟩
  | .local _ .vmem, ⟨1, _⟩ => ⟨S1x4096x128, .bf16⟩
  | .local _ .vmem, ⟨2, _⟩ => ⟨S3x128, .f32⟩
  | .local _ .vmem, ⟨3, _⟩ => ⟨S3x128, .f32⟩
  | .local _ .vmem, ⟨4, _⟩ => ⟨S1x128, .f32⟩
  | .local _ .vmem, ⟨5, _⟩ => ⟨S1x128, .f32⟩
  | .local _ .vmem, ⟨6, _⟩ => ⟨S1x1x4096x128, .bf16⟩
  | .local _ .vmem, ⟨7, _⟩ => ⟨S1x1x4096x128, .bf16⟩
  | _, _ => ⟨S8x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 12], ![false, false]⟩

def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg0.toNat, c0_i32_10.toNat, v26.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8x4096x7168 : Shape := ⟨3, ![8, 4096, 7168]⟩
abbrev S3x1536 : Shape := ⟨2, ![3, 1536]⟩
abbrev S1536 : Shape := ⟨1, ![1536]⟩
abbrev S8x4096x1536 : Shape := ⟨3, ![8, 4096, 1536]⟩
abbrev S_ : Shape := ⟨0, ![]⟩
abbrev S8x4098x1536 : Shape := ⟨3, ![8, 4098, 1536]⟩
abbrev S1x1536 : Shape := ⟨2, ![1, 1536]⟩
abbrev S1x1x1536 : Shape := ⟨3, ![1, 1, 1536]⟩
abbrev S8x4096x512 : Shape := ⟨3, ![8, 4096, 512]⟩
abbrev S1x8x4096x512 : Shape := ⟨4, ![1, 8, 4096, 512]⟩
abbrev S3x8x4096x512 : Shape := ⟨4, ![3, 8, 4096, 512]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x7168, .bf16⟩
  | .hbm, ⟨1, _⟩ => ⟨S3x1536, .f32⟩
  | .hbm, ⟨2, _⟩ => ⟨S1536, .f32⟩
  | .hbm, ⟨3, _⟩ => ⟨S8x4096x1536, .bf16⟩
  | .hbm, ⟨4, _⟩ => ⟨S8x4096x1536, .f32⟩
  | .hbm, ⟨5, _⟩ => ⟨S_, .i32⟩
  | .hbm, ⟨6, _⟩ => ⟨S_, .f32⟩
  | .hbm, ⟨7, _⟩ => ⟨S8x4098x1536, .f32⟩
  | .hbm, ⟨8, _⟩ => ⟨S8x4096x1536, .f32⟩
  | .hbm, ⟨9, _⟩ => ⟨S1x1536, .f32⟩
  | .hbm, ⟨10, _⟩ => ⟨S1536, .f32⟩
  | .hbm, ⟨11, _⟩ => ⟨S1x1x1536, .f32⟩
  | .hbm, ⟨12, _⟩ => ⟨S8x4096x1536, .f32⟩
  | .hbm, ⟨13, _⟩ => ⟨S8x4096x1536, .f32⟩
  | .hbm, ⟨14, _⟩ => ⟨S8x4096x1536, .f32⟩
  | .hbm, ⟨15, _⟩ => ⟨S1x1536, .f32⟩
  | .hbm, ⟨16, _⟩ => ⟨S1536, .f32⟩
  | .hbm, ⟨17, _⟩ => ⟨S1x1x1536, .f32⟩
  | .hbm, ⟨18, _⟩ => ⟨S8x4096x1536, .f32⟩
  | .hbm, ⟨19, _⟩ => ⟨S8x4096x1536, .f32⟩
  | .hbm, ⟨20, _⟩ => ⟨S8x4096x1536, .f32⟩
  | .hbm, ⟨21, _⟩ => ⟨S8x4096x1536, .f32⟩
  | .hbm, ⟨22, _⟩ => ⟨S1x1536, .f32⟩
  | .hbm, ⟨23, _⟩ => ⟨S1536, .f32⟩
  | .hbm, ⟨24, _⟩ => ⟨S1x1x1536, .f32⟩
  | .hbm, ⟨25, _⟩ => ⟨S8x4096x1536, .f32⟩
  | .hbm, ⟨26, _⟩ => ⟨S8x4096x1536, .f32⟩
  | .hbm, ⟨27, _⟩ => ⟨S8x4096x1536, .f32⟩
  | .hbm, ⟨28, _⟩ => ⟨S1x1x1536, .f32⟩
  | .hbm, ⟨29, _⟩ => ⟨S8x4096x1536, .f32⟩
  | .hbm, ⟨30, _⟩ => ⟨S8x4096x1536, .f32⟩
  | .hbm, ⟨31, _⟩ => ⟨S8x4096x512, .f32⟩
  | .hbm, ⟨32, _⟩ => ⟨S8x4096x512, .f32⟩
  | .hbm, ⟨33, _⟩ => ⟨S8x4096x512, .f32⟩
  | .hbm, ⟨34, _⟩ => ⟨S1x8x4096x512, .f32⟩
  | .hbm, ⟨35, _⟩ => ⟨S1x8x4096x512, .f32⟩
  | .hbm, ⟨36, _⟩ => ⟨S1x8x4096x512, .f32⟩
  | .hbm, ⟨37, _⟩ => ⟨S3x8x4096x512, .f32⟩
  | .hbm, ⟨38, _⟩ => ⟨S3x8x4096x512, .bf16⟩
  | _, _ => ⟨S8x4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]
-- ==== Kernel7.lean ====
abbrev S4096x33 : Shape := ⟨2, ![4096, 33]⟩
abbrev S4096x512 : Shape := ⟨2, ![4096, 512]⟩
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S_ : Shape := ⟨0, ![]⟩
abbrev S1 : Shape := ⟨1, ![1]⟩
abbrev S4095 : Shape := ⟨1, ![4095]⟩
abbrev S4096 : Shape := ⟨1, ![4096]⟩
abbrev S4096x1 : Shape := ⟨2, ![4096, 1]⟩
abbrev S8192x33 : Shape := ⟨2, ![8192, 33]⟩
abbrev S8192x64 : Shape := ⟨2, ![8192, 64]⟩
abbrev S8192x512 : Shape := ⟨2, ![8192, 512]⟩
abbrev S64x2x2x512 : Shape := ⟨4, ![64, 2, 2, 512]⟩
abbrev S64x2x1x512 : Shape := ⟨4, ![64, 2, 1, 512]⟩
abbrev S64x2x512 : Shape := ⟨3, ![64, 2, 512]⟩
abbrev S64x1024 : Shape := ⟨2, ![64, 1024]⟩
abbrev S1x64 : Shape := ⟨2, ![1, 64]⟩
abbrev S2x2x4096x512 : Shape := ⟨4, ![2, 2, 4096, 512]⟩
abbrev S512x64 : Shape := ⟨2, ![512, 64]⟩
abbrev S512x512 : Shape := ⟨2, ![512, 512]⟩
abbrev S1x2x512x512 : Shape := ⟨4, ![1, 2, 512, 512]⟩
abbrev S512x1024 : Shape := ⟨2, ![512, 1024]⟩
abbrev S1x1x512x512 : Shape := ⟨4, ![1, 1, 512, 512]⟩

abbrev nBuf : Space → Nat
  | .hbm => 76
  | .vmem => 17
  | .smem => 0
  | _ => 0

abbrev bufTy : (tb : Table) → Fin (tcTables nBuf tb) → BufTy
  | .hbm, ⟨0, _⟩ => ⟨S4096x33, .f32⟩
  | .hbm, ⟨1, _⟩ => ⟨S4096x512, .f32⟩
  | .hbm, ⟨2, _⟩ => ⟨S33x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64x2048, .f32⟩
  | .hbm, ⟨10, _⟩ => ⟨S_, .i32⟩
  | .hbm, ⟨11, _⟩ => ⟨S1, .i32⟩
  | .hbm, ⟨12, _⟩ => ⟨S4095, .i32⟩
  | .hbm, ⟨13, _⟩ => ⟨S_, .i32⟩
  | .hbm, ⟨14, _⟩ => ⟨S4095, .i32⟩
  | .hbm, ⟨15, _⟩ => ⟨S4095, .i32⟩
  | .hbm, ⟨16, _⟩ => ⟨S_, .i32⟩
  | .hbm, ⟨17, _⟩ => ⟨S4095, .i32⟩
  | .hbm, ⟨18, _⟩ => ⟨S4095, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S4096x33, .f32⟩
  | .hbm, ⟨29, _⟩ => ⟨S8192x33, .f32⟩
  | .hbm, ⟨30, _⟩ => ⟨S_, .i32⟩
  | .hbm, ⟨31, _⟩ => ⟨S_, .f32⟩
  | .hbm, ⟨32, _⟩ => ⟨S8192x64, .f32⟩
  | .hbm, ⟨33, _⟩ => ⟨S_, .f32⟩
  | .hbm, ⟨34, _⟩ => ⟨S4096x512, .f32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S4096x1, .i1⟩
  | .hbm, ⟨40, _⟩ => ⟨S8192x512, .f32⟩
  | .hbm, ⟨41, _⟩ => ⟨S_, .f32⟩
  | .hbm, ⟨42, _⟩ => ⟨S_, .f32⟩
  | .hbm, ⟨43, _⟩ => ⟨S4096x512, .i1⟩
  | .hbm, ⟨44, _⟩ => ⟨S4096x512, .f32⟩
  | .hbm, ⟨45, _⟩ => ⟨S4096x512, .f32⟩
  | .hbm, ⟨46, _⟩ => ⟨S_, .i32⟩
  | .hbm, ⟨47, _⟩ => ⟨S4096, .i32⟩
  | .hbm, ⟨48, _⟩ => ⟨S4096, .i1⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S4096, .i32⟩
  | .hbm, ⟨53, _⟩ => ⟨S4096x1, .i32⟩
  | .hbm, ⟨54, _⟩ => ⟨S4096x512, .f32⟩
  | .hbm, ⟨55, _⟩ => ⟨S_, .f32⟩
  | .hbm, ⟨56, _⟩ => ⟨S_, .f32⟩
  | .hbm, ⟨57, _⟩ => ⟨S4096x512, .i1⟩
  | .hbm, ⟨58, _⟩ => ⟨S4096x512, .f32⟩
  | .hbm, ⟨59, _⟩ => ⟨S4096x512, .f32⟩
  | .hbm, ⟨60, _⟩ => ⟨S8192x512, .f32⟩
  | .hbm, ⟨61, _⟩ => ⟨S_, .i32⟩
  | .hbm, ⟨62, _⟩ => ⟨S_, .f32⟩
  | .hbm, ⟨63, _⟩ => ⟨S64x64, .f32⟩
  | .hbm, ⟨64, _⟩ => ⟨S64x2x2x512, .f32⟩
  | .hbm, ⟨65, _⟩ => ⟨S64x2x1x512, .f32⟩
  | .hbm, ⟨66, _⟩ => ⟨S64x2x512, .f32⟩
  | .hbm, ⟨67, _⟩ => ⟨S64x1024, .f32⟩
  | .hbm, ⟨68, _⟩ => ⟨S64x2x1x512, .f32⟩
  | .hbm, ⟨69, _⟩ => ⟨S64x2x512, .f32⟩
  | .hbm, ⟨70, _⟩ => ⟨S64x1024, .f32⟩
  | .hbm, ⟨71, _⟩ => ⟨S1x64, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S2x2x4096x512, .bf16⟩
  | .local _ .vmem, ⟨0, _⟩ => ⟨S512x64, .f32⟩
  | .local _ .vmem, ⟨1, _⟩ => ⟨S512x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S64x1024, .f32⟩
  | .local _ .vmem, ⟨10, _⟩ => ⟨S64x1024, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S1x2x512x512, .bf16⟩
  | .local _ .vmem, ⟨16, _⟩ => ⟨S1x2x512x512, .bf16⟩
  | _, _ => ⟨S4096x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_c_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_c_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_call0_v0 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_6 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v22 : Ref sig .tc := ⟨.hbm, 45, rfl⟩
abbrev main_c_7 : Ref sig .tc := ⟨.hbm, 46, rfl⟩
abbrev main_v23 : Ref sig .tc := ⟨.hbm, 47, rfl⟩
abbrev main_v24 : Ref sig .tc := ⟨.hbm, 48, rfl⟩
abbrev main_c_8 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_9 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v30 : Ref sig .tc := ⟨.hbm, 59, rfl⟩
abbrev main_v31 : Ref sig .tc := ⟨.hbm, 60, rfl⟩
abbrev main_c_10 : Ref sig .tc := ⟨.hbm, 61, rfl⟩
abbrev main_call3_v0 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference7Ideal.lean ====
abbrev S4096x33 : Shape := ⟨2, ![4096, 33]⟩
abbrev S4096x512 : Shape := ⟨2, ![4096, 512]⟩
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S4096x64 : Shape := ⟨2, ![4096, 64]⟩
abbrev S1x64 : Shape := ⟨2, ![1, 64]⟩
abbrev S4096x2048 : Shape := ⟨2, ![4096, 2048]⟩
abbrev S4096x2x2x512 : Shape := ⟨4, ![4096, 2, 2, 512]⟩
abbrev S4096x1x1x512 : Shape := ⟨4, ![4096, 1, 1, 512]⟩
abbrev S4096x2x1x512 : Shape := ⟨4, ![4096, 2, 1, 512]⟩
abbrev S4096x2x512 : Shape := ⟨3, ![4096, 2, 512]⟩
abbrev S1x2x512 : Shape := ⟨3, ![1, 2, 512]⟩
abbrev S4095x2x512 : Shape := ⟨3, ![4095, 2, 512]⟩
abbrev S_ : Shape := ⟨0, ![]⟩
abbrev S8192x2x512 : Shape := ⟨3, ![8192, 2, 512]⟩
abbrev S2x4096x2x512 : Shape := ⟨4, ![2, 4096, 2, 512]⟩
abbrev S2x2x4096x512 : Shape := ⟨4, ![2, 2, 4096, 512]⟩

abbrev nBuf : Space → Nat
  | .hbm => 56
  | .vmem => 0
  | .smem => 0
  | _ => 0

abbrev bufTy : (tb : Table) → Fin (tcTables nBuf tb) → BufTy
  | .hbm, ⟨0, _⟩ => ⟨S4096x33, .f32⟩
  | .hbm, ⟨1, _⟩ => ⟨S4096x512, .f32⟩
  | .hbm, ⟨2, _⟩ => ⟨S33x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64x2048, .f32⟩
  | .hbm, ⟨10, _⟩ => ⟨S4096x64, .f32⟩
  | .hbm, ⟨11, _⟩ => ⟨S1x64, .f32⟩
  | .hbm, ⟨12, _⟩ => ⟨S4096x64, .f32⟩
  | .hbm, ⟨13, _⟩ => ⟨S4096x64, .f32⟩
  | .hbm, ⟨14, _⟩ => ⟨S1x64, .f32⟩
  | .hbm, ⟨15, _⟩ => ⟨S4096x64, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S1x64, .f32⟩
  | .hbm, ⟨20, _⟩ => ⟨S4096x64, .f32⟩
  | .hbm, ⟨21, _⟩ => ⟨S4096x64, .f32⟩
  | .hbm, ⟨22, _⟩ => ⟨S1x64, .f32⟩
  | .hbm, ⟨23, _⟩ => ⟨S4096x64, .f32⟩
  | .hbm, ⟨24, _⟩ => ⟨S4096x64, .f32⟩
  | .hbm, ⟨25, _⟩ => ⟨S4096x64, .f32⟩
  | .hbm, ⟨26, _⟩ => ⟨S4096x64, .f32⟩
  | .hbm, ⟨27, _⟩ => ⟨S1x64, .f32⟩
  | .hbm, ⟨28, _⟩ => ⟨S4096x64, .f32⟩
  | .hbm, ⟨29, _⟩ => ⟨S4096x64, .f32⟩
  | .hbm, ⟨30, _⟩ => ⟨S1x64, .f32⟩
  | .hbm, ⟨31, _⟩ => ⟨S4096x64, .f32⟩
  | .hbm, ⟨32, _⟩ => ⟨S4096x64, .f32⟩
  | .hbm, ⟨33, _⟩ => ⟨S4096x64, .f32⟩
  | .hbm, ⟨34, _⟩ => ⟨S4096x2048, .f32⟩
  | .hbm, ⟨35, _⟩ => ⟨S4096x2x2x512, .f32⟩
  | .hbm, ⟨36, _⟩ => ⟨S4096x1x1x512, .f32⟩
  | .hbm, ⟨37, _⟩ => ⟨S4096x2x2x512, .f32⟩
  | .hbm, ⟨38, _⟩ => ⟨S4096x2x2x512, .f32⟩
  | .hbm, ⟨39, _⟩ => ⟨S4096x2x1x512, .f32⟩
  | .hbm, ⟨40, _⟩ => ⟨S4096x2x512, .f32⟩
  | .hbm, ⟨41, _⟩ => ⟨S4096x2x1x512, .f32⟩
  | .hbm, ⟨42, _⟩ => ⟨S4096x2x512, .f32⟩
  | .hbm, ⟨43, _⟩ => ⟨S1x2x512, .f32⟩
  | .hbm, ⟨44, _⟩ => ⟨S1x2x512, .f32⟩
  | .hbm, ⟨45, _⟩ => ⟨S1x2x512, .f32⟩
  | .hbm, ⟨46, _⟩ => ⟨S4095x2x512, .f32⟩
  | .hbm, ⟨47, _⟩ => ⟨S1x2x512, .f32⟩
  | .hbm, ⟨48, _⟩ => ⟨S_, .f32⟩
  | .hbm, ⟨49, _⟩ => ⟨S1x2x512, .f32⟩
  | .hbm, ⟨50, _⟩ => ⟨S4095x2x512, .f32⟩
  | .hbm, ⟨51, _⟩ => ⟨S4095x2x512, .f32⟩
  | .hbm, ⟨52, _⟩ => ⟨S8192x2x512, .f32⟩
  | .hbm, ⟨53, _⟩ => ⟨S2x4096x2x512, .f32⟩
  | .hbm, ⟨54, _⟩ => ⟨S2x2x4096x512, .f32⟩
  | .hbm, ⟨55, _⟩ => ⟨S2x2x4096x512, .bf16⟩
  | _, _ => ⟨S4096x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Proof.Exp.Body.lean ====
/- The call of the experts' kernel: its body at one grid point.  The kernel reads the number of
   valid tiles from a table, and either computes the tile with the expert's weights or writes zeros. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel2Ideal.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first condition compares the tile's number with the number of valid tiles. -/
theorem cond1_iff (i : grid0.Coords) (v : BitVec 32) : k0_cond1 i v = 1#1 ↔ (BitVec.ofNat 32 (i 0).val).slt v = true := by
  simp only [k0_cond1, Scalar.cmpi, Scalar.extui, IntOp.cmpi]
  cases (BitVec.ofNat 32 (i 0).val).slt v <;> decide

/-- The two conditions of the body are each other's negation. -/
theorem cond2_iff (i : grid0.Coords) (v : BitVec 32) : k0_cond2 i v = 1#1 ↔ ¬ k0_cond1 i v = 1#1 := by
  have h2 : k0_cond2 i v = 1#1 ↔ v.sle (BitVec.ofNat 32 (i 0).val) = true := by
    simp only [k0_cond2, Scalar.cmpi, Scalar.extui, IntOp.cmpi]
    cases v.sle (BitVec.ofNat 32 (i 0).val) <;> decide
  rw [h2, cond1_iff]
  simp [BitVec.slt, BitVec.sle]

/-- The word of the second table: the number of valid tiles. -/
abbrev nvw (n : Vec F S1 .i32) : BitVec 32 :=
  n ((Rect.unit (s := S1) ![0] S1.size inb_S1_S1_0).emb (Shape.Idx.first (numel1_S1.symm ▸ Nat.one_pos)))

/-- The output window is written at every point. -/
theorem idle5 (pf : pre0.Contents (Elt F)) (i : grid0.Coords) : idle0 pf 5 i = false := by
  have h := cond2_iff i (pf.atD 1 ![0])
  by_cases h1 : k0_cond1 i (pf.atD 1 ![0]) = 1#1
  · simp only [idle0, h1]; rfl
  · have h2 := h.mpr h1
    simp only [idle0, h2]; simp

abbrev rx : Rect S512x1024 := Rect.unit (s := S512x1024) ![0, 0] S512x1024.size inb_S512x1024_S512x1024_0_0
abbrev rgu : Rect S1x1024x2048 := Rect.unit (s := S1x1024x2048) ![0, 0, 0] S1x1024x2048.size inb_S1x1024x2048_S1x1024x2048_0_0_0
abbrev rbgu : Rect S1x1x2048 := Rect.unit (s := S1x1x2048) ![0, 0, 0] S1x1x2048.size inb_S1x1x2048_S1x1x2048_0_0_0
abbrev rdn : Rect S1x1024x1024 := Rect.unit (s := S1x1024x1024) ![0, 0, 0] S1x1024x1024.size inb_S1x1024x1024_S1x1024x1024_0_0_0
abbrev rbdn : Rect S1x1x1024 := Rect.unit (s := S1x1x1024) ![0, 0, 0] S1x1x1024.size inb_S1x1x1024_S1x1x1024_0_0_0

/-- A valid tile's output. -/
def outV (x0 : Vec F S512x1024 .f32) (x1 : Vec F S1x1024x2048 .bf16) (x2 : Vec F S1x1x2048 .f32) (x3 : Vec F S1x1024x1024 .bf16) (x4 : Vec F S1x1x1024 .f32) : Vec F S512x1024 .f32 :=
  View.canon [⟨rx, k0_pay1 (View.ld x0 rx) (View.ld x1 rgu) (View.ld x2 rbgu) (View.ld x3 rdn) (View.ld x4 rbdn)⟩]
/-- An invalid tile's output. -/
def outZ : Vec F S512x1024 .f32 := View.canon [⟨rx, k0_pay2 (F := F)⟩]
/-- The output of the tile at grid point `i`. -/
def out5 (n : Vec F S1 .i32) (i : grid0.Coords) (x0 : Vec F S512x1024 .f32) (x1 : Vec F S1x1024x2048 .bf16) (x2 : Vec F S1x1x2048 .f32) (x3 : Vec F S1x1024x1024 .bf16) (x4 : Vec F S1x1x1024 .f32) : Vec F S512x1024 .f32 :=
  if k0_cond1 i (nvw n) = 1#1 then outV x0 x1 x2 x3 x4 else outZ

/-- The one store covers the output's block. -/
theorem cover5 (p0 : Vec F S512x1024 .f32) (y : S512x1024.Idx) :
    ∃ pc ∈ ([⟨rx, p0⟩] : List (View.Piece (Elt F) S512x1024 .f32)), y ∈ pc.1.set :=
  View.cover_of_tiled [⟨rx, p0⟩] S512x1024.size (by rfl) y

set_option maxHeartbeats 1000000 in
/-- The body on whole staging buffers, the second table held at `n`. -/
theorem sound_kernel (c : Dev nD) (E : Set ℕ) (i : grid0.Coords) (n : Vec F S1 .i32) (arg1 : Memref sig .tc .smem S316 .i32) (harg1 : arg1.IsWhole) (arg2 : Memref sig .tc .smem S1 .i32) (harg2 : arg2.IsWhole)
    (arg3 : Memref sig .tc .vmem S512x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S512x1024 .f32) (harg8 : arg8.IsWhole)
    (x0 : Vec F S512x1024 .f32) (x1 : Vec F S1x1024x2048 .bf16) (x2 : Vec F S1x1x2048 .f32) (x3 : Vec F S1x1024x1024 .bf16) (x4 : Vec F S1x1x1024 .f32) (K : PUnit → sProp 𝕄) :
    iprop(owns (c : Thread nD τ) arg2 fullShare n ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
        ∗ (iprop(owns (c : Thread nD τ) arg2 fullShare n ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (out5 n i x0 x1 x2 x3 x4)) -∗ K ⟨⟩))
      ⊢ wp frame (wpE (defs₀ (F := F)) Variants.none c none) E (cc0_experts i arg1 harg1 arg2 harg2 arg3 harg3 arg4 harg4 arg5 harg5 arg6 harg6 arg7 harg7 arg8 harg8) K := by
  simp only [cc0_experts_eq_skeleton]; unfold cc0_experts_skel
  unfold owns
  iintro ⟨⟨%fn, %hfn, HT⟩, ⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hfn hf0 hf1 hf2 hf3 hf4
  by_cases hc : k0_cond1 i (nvw (arg2.view.read (Elt F) fn)) = 1#1
  · have hc2 : ¬ k0_cond2 i (nvw (arg2.view.read (Elt F) fn)) = 1#1 := fun h => (cond2_iff i _).mp h hc
    sl_exec
    sl_step
    iapply Hk
    isplitl [HT]
    · iexists fn; isplitr; · ipureintro; rfl
      iexact HT
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    refine (View.read_writes_eq_canon _ _ _ (cover5 _)).trans ?_
    rw [out5, if_pos hc]; rfl
  · have hc2 : k0_cond2 i (nvw (arg2.view.read (Elt F) fn)) = 1#1 := (cond2_iff i _).mpr hc
    sl_exec
    sl_step
    iapply Hk
    isplitl [HT]
    · iexists fn; isplitr; · ipureintro; rfl
      iexact HT
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists _; isplitr
    swap; · iexact H5
    ipureintro
    refine (View.read_writes_eq_canon _ _ _ (cover5 _)).trans ?_
    rw [out5, if_neg hc]; rfl

/-! ## The pipeline's data at tables `a` and entry contents `V` -/

variable (V : (c : Dev nD) → (b : Ref sig .tc) → Buf (Elt F) ((c : Thread nD τ).loc b)) (a : (pcfg0 (F := F)).Adm)

/-- Window `w`'s block at point `t`. -/
def iblk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

theorem before0_0_of {c : Dev nD} (dat : Dat τ (Elt F) Unit ℕ (UR sig nD τ) ℕ (cfg0 a) c) (hA : dat.A 0 = V c (Pipeline.arrRef spec0 0))
    (hafter : ∀ t, dat.after 0 t = iblk0 V a c 0 t) (t : Fin (cfg0 a).N) (d) : dat.before 0 t d = iblk0 V a c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ (cfg0 a) c) (hA : dat.A 1 = V c (Pipeline.arrRef spec0 1))
    (hafter : ∀ t, dat.after 1 t = iblk0 V a c 1 t) (t : Fin (cfg0 a).N) (d) : dat.before 1 t d = iblk0 V a c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ (cfg0 a) c) (hA : dat.A 2 = V c (Pipeline.arrRef spec0 2))
    (hafter : ∀ t, dat.after 2 t = iblk0 V a c 2 t) (t : Fin (cfg0 a).N) (d) : dat.before 2 t d = iblk0 V a c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ (cfg0 a) c) (hA : dat.A 3 = V c (Pipeline.arrRef spec0 3))
    (hafter : ∀ t, dat.after 3 t = iblk0 V a c 3 t) (t : Fin (cfg0 a).N) (d) : dat.before 3 t d = iblk0 V a c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ (cfg0 a) c) (hA : dat.A 4 = V c (Pipeline.arrRef spec0 4))
    (hafter : ∀ t, dat.after 4 t = iblk0 V a c 4 t) (t : Fin (cfg0 a).N) (d) : dat.before 4 t d = iblk0 V a c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The pipeline's data: each input's buffer keeps its block, the output's holds the body's result; the tables are held
    throughout. -/
def dat0 (c : Dev nD) : Dat τ (Elt F) Unit ℕ (UR sig nD τ) ℕ (cfg0 a) c where
  A w := V c (Pipeline.arrRef spec0 w)
  after w t := match w with
    | ⟨0, _⟩ => iblk0 V a c 0 t
    | ⟨1, _⟩ => iblk0 V a c 1 t
    | ⟨2, _⟩ => iblk0 V a c 2 t
    | ⟨3, _⟩ => iblk0 V a c 3 t
    | ⟨4, _⟩ => iblk0 V a c 4 t
    | ⟨5, _⟩ => out5 (a.1 1) (grid0.coords t) (iblk0 V a c 0 t) (iblk0 V a c 1 t) (iblk0 V a c 2 t) (iblk0 V a c 3 t) (iblk0 V a c 4 t)
  Φ _ := iprop(Pipeline.ΦA spec0 c ∗ Pipeline.prefHeld pre0 c (fun _ => fullShare) a.1)
  q _ := fullShare
  owed _ := 0

theorem A_eq0 (c : Dev nD) (w : Fin (cfg0 a).W) : (dat0 V a c).A w = V c (Pipeline.arrRef spec0 w) := by
  dsimp only [dat0]
theorem after0_0 (c : Dev nD) (t : Fin (cfg0 a).N) : (dat0 V a c).after 0 t = iblk0 V a c 0 t := by dsimp only [dat0]; rfl
theorem after0_1 (c : Dev nD) (t : Fin (cfg0 a).N) : (dat0 V a c).after 1 t = iblk0 V a c 1 t := by dsimp only [dat0]; rfl
theorem after0_2 (c : Dev nD) (t : Fin (cfg0 a).N) : (dat0 V a c).after 2 t = iblk0 V a c 2 t := by dsimp only [dat0]; rfl
theorem after0_3 (c : Dev nD) (t : Fin (cfg0 a).N) : (dat0 V a c).after 3 t = iblk0 V a c 3 t := by dsimp only [dat0]; rfl
theorem after0_4 (c : Dev nD) (t : Fin (cfg0 a).N) : (dat0 V a c).after 4 t = iblk0 V a c 4 t := by dsimp only [dat0]; rfl
theorem after0_5 (c : Dev nD) (t : Fin (cfg0 a).N) : (dat0 V a c).after 5 t = out5 (a.1 1) (grid0.coords t) (iblk0 V a c 0 t) (iblk0 V a c 1 t) (iblk0 V a c 2 t) (iblk0 V a c 3 t) (iblk0 V a c 4 t) := by dsimp only [dat0]; rfl
theorem before0_0 (c : Dev nD) (t : Fin (cfg0 a).N) (d) : (dat0 V a c).before 0 t d = iblk0 V a c 0 t :=
  before0_0_of V a (dat0 V a c) (A_eq0 V a c 0) (after0_0 V a c) t d
theorem before0_1 (c : Dev nD) (t : Fin (cfg0 a).N) (d) : (dat0 V a c).before 1 t d = iblk0 V a c 1 t :=
  before0_1_of V a (dat0 V a c) (A_eq0 V a c 1) (after0_1 V a c) t d
theorem before0_2 (c : Dev nD) (t : Fin (cfg0 a).N) (d) : (dat0 V a c).before 2 t d = iblk0 V a c 2 t :=
  before0_2_of V a (dat0 V a c) (A_eq0 V a c 2) (after0_2 V a c) t d
theorem before0_3 (c : Dev nD) (t : Fin (cfg0 a).N) (d) : (dat0 V a c).before 3 t d = iblk0 V a c 3 t :=
  before0_3_of V a (dat0 V a c) (A_eq0 V a c 3) (after0_3 V a c) t d
theorem before0_4 (c : Dev nD) (t : Fin (cfg0 a).N) (d) : (dat0 V a c).before 4 t d = iblk0 V a c 4 t :=
  before0_4_of V a (dat0 V a c) (A_eq0 V a c 4) (after0_4 V a c) t d

/-! ## The body at a point -/

abbrev st0_0 (t : Fin (cfg0 a).N) := ((cfg0 a).win 0).stage ((cfg0 a).slots t 0)
abbrev st0_1 (t : Fin (cfg0 a).N) := ((cfg0 a).win 1).stage ((cfg0 a).slots t 1)
abbrev st0_2 (t : Fin (cfg0 a).N) := ((cfg0 a).win 2).stage ((cfg0 a).slots t 2)
abbrev st0_3 (t : Fin (cfg0 a).N) := ((cfg0 a).win 3).stage ((cfg0 a).slots t 3)
abbrev st0_4 (t : Fin (cfg0 a).N) := ((cfg0 a).win 4).stage ((cfg0 a).slots t 4)
abbrev st0_5 (t : Fin (cfg0 a).N) := ((cfg0 a).win 5).stage ((cfg0 a).slots t 5)

/-- The body at point `t`, on what the pipeline calls it with. -/
abbrev bodyAt0 (t : Fin (cfg0 a).N) : Prog (TpuEff nD τ sig (Elt F) Λ₀ .tc) PUnit :=
  cc0_experts (grid0.coords t) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

def bodyPre0 (c : Dev nD) (t : Fin (cfg0 a).N) : sProp 𝕄 :=
  iprop((dat0 V a c).Φ t.castSucc ∗ (dat0 V a c).owesAt () t.castSucc
    ∗ (∃ d, owns (c : Thread nD τ) (st0_0 a t) fullShare ((dat0 V a c).before 0 t d))
    ∗ (∃ d, owns (c : Thread nD τ) (st0_1 a t) fullShare ((dat0 V a c).before 1 t d))
    ∗ (∃ d, owns (c : Thread nD τ) (st0_2 a t) fullShare ((dat0 V a c).before 2 t d))
    ∗ (∃ d, owns (c : Thread nD τ) (st0_3 a t) fullShare ((dat0 V a c).before 3 t d))
    ∗ (∃ d, owns (c : Thread nD τ) (st0_4 a t) fullShare ((dat0 V a c).before 4 t d))
    ∗ (∃ d, owns (c : Thread nD τ) (st0_5 a t) fullShare ((dat0 V a c).before 5 t d)))

def bodyPost0 (c : Dev nD) (t : Fin (cfg0 a).N) : sProp 𝕄 :=
  iprop((dat0 V a c).Φ t.succ ∗ (dat0 V a c).owesAt () t.succ
    ∗ owns (c : Thread nD τ) (st0_0 a t) fullShare ((dat0 V a c).after 0 t)
    ∗ owns (c : Thread nD τ) (st0_1 a t) fullShare ((dat0 V a c).after 1 t)
    ∗ owns (c : Thread nD τ) (st0_2 a t) fullShare ((dat0 V a c).after 2 t)
    ∗ owns (c : Thread nD τ) (st0_3 a t) fullShare ((dat0 V a c).after 3 t)
    ∗ owns (c : Thread nD τ) (st0_4 a t) fullShare ((dat0 V a c).after 4 t)
    ∗ owns (c : Thread nD τ) (st0_5 a t) fullShare ((dat0 V a c).after 5 t))

theorem prefHeld_eq (c : Dev nD) : (Pipeline.prefHeld pre0 c (fun _ => fullShare) a.1 : sProp 𝕄)
    = iprop(((c : Thread nD τ).loc main_arg1 ↦{fullShare} a.1 0) ∗ owns (c : Thread nD τ) (Memref.whole main_arg2) fullShare (a.1 1)) := by
  unfold Pipeline.prefHeld
  exact (bigSep_univ_eq_bigSepL [(0 : Fin 2), (1 : Fin 2)] (by decide) (by decide) _).trans
    (congrArg (fun P => iprop(((c : Thread nD τ).loc main_arg1 ↦{fullShare} a.1 0) ∗ P)) (owns_whole (c : Thread nD τ) main_arg2 fullShare (a.1 1)).symm)

theorem sound_body0 (c : Dev nD) (t : Fin (cfg0 a).N) :
    bodyPre0 V a c t ⊢ wp frame (wpE (defs₀ (F := F)) Variants.none c none) Set.univ (bodyAt0 a t) (fun _ => bodyPost0 V a c t) := by
  unfold bodyPre0 bodyPost0 bodyAt0
  simp only [before0_0, before0_1, before0_2, before0_3, before0_4]
  rw [show (dat0 V a c).Φ t.succ = (dat0 V a c).Φ t.castSucc from rfl,
    show (dat0 V a c).owesAt () t.succ = (dat0 V a c).owesAt () t.castSucc from rfl,
    after0_0, after0_1, after0_2, after0_3, after0_4, after0_5,
    show (dat0 V a c).Φ t.castSucc = iprop(Pipeline.ΦA spec0 c ∗ Pipeline.prefHeld pre0 c (fun _ => fullShare) a.1) from rfl,
    prefHeld_eq]
  iintro ⟨⟨HΦ, HT1, HT2⟩, Ho, ⟨%d0, H0⟩, ⟨%d1, H1⟩, ⟨%d2, H2⟩, ⟨%d3, H3⟩, ⟨%d4, H4⟩, ⟨%d5, H5⟩⟩
  iapply (sound_kernel c Set.univ (grid0.coords t) (a.1 1) _ _ _ _ _ _ _ _ _ _ _ _ _ _ _ _ (iblk0 V a c 0 t) (iblk0 V a c 1 t) (iblk0 V a c 2 t) (iblk0 V a c 3 t) (iblk0 V a c 4 t) _)
  isplitl [HT2]; · iexact HT2
  isplitl [H0]; · iexact H0
  isplitl [H1]; · iexact H1
  isplitl [H2]; · iexact H2
  isplitl [H3]; · iexact H3
  isplitl [H4]; · iexact H4
  isplitl [H5]; · iexists _; iexact H5
  iintro ⟨HT2, H0, H1, H2, H3, H4, H5⟩
  isplitl [HΦ HT1 HT2]
  · isplitl [HΦ]; · iexact HΦ
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  iexact H5

/-- The body table's row at point `t` is the body. -/
theorem defs₀_row0 (t : Fin (cfg0 a).N) :
    defs₀ (F := F) .tc (cfg0 a).body ((cfg0 a).bodyArgs t ((cfg0 a).slots t)) = bodyAt0 a t := by
  unfold defs₀; rw [Defs.onTc_tc]

end Cert.Kernel2Ideal.Exp

end
-- ==== Proof.Exp.Spec.lean ====
/- One expert's feed-forward on one row, over the extended reals. -/
module

public import Idealize.ShloMosaic.PureOps.Ideal.Laws
public import Idealize.ShloMosaic.Lib.IdealHost

@[expose] public section

noncomputable section

namespace Cert.ExpMath

open Idealize.ShloMosaic
open scoped BigOperators

/-- The literals 7, -7, 1 and 1.702 as the numbers their words stand for. -/
def w7 : EReal := Ideal.ofBits .f32 0x40E00000#32
def wm7 : EReal := Ideal.ofBits .f32 0xC0E00000#32
def w1 : EReal := Ideal.ofBits .f32 0x3F800000#32
def wa : EReal := Ideal.ofBits .f32 0x3FD9DB23#32

theorem w1_eq : w1 = 1 := by
  simp [w1, Ideal.ofBits, Ideal.ieee, -EReal.coe_mul]
  norm_num

/-- The gated unit: lane `f` from the gate at lane `f` and the linear part at lane `1024 + f`. -/
def swi (gu : Fin 2048 → EReal) (f : Fin 1024) : EReal :=
  (min w7 (max wm7 (gu ⟨1024 + f.val, by omega⟩)) + w1)
    * (min (gu ⟨f.val, by omega⟩) w7 * Ideal.logistic (wa * min (gu ⟨f.val, by omega⟩) w7))

/-- The first product with its bias. -/
def lin (x : Fin 1024 → EReal) (wg : Fin 1024 → Fin 2048 → EReal) (bg : Fin 2048 → EReal) (j : Fin 2048) : EReal :=
  (∑ k, x k * wg k j) + bg j

/-- The row's result at lane `d`. -/
def ffn (x : Fin 1024 → EReal) (wg : Fin 1024 → Fin 2048 → EReal) (bg : Fin 2048 → EReal)
    (wd : Fin 1024 → Fin 1024 → EReal) (bd : Fin 1024 → EReal) (d : Fin 1024) : EReal :=
  (∑ f, swi (lin x wg bg) f * wd f d) + bd d

end Cert.ExpMath

end
-- ==== Proof.Exp.Block.lean ====
/- The experts' output block, read at an index: a valid tile holds the feed-forward of its rows, another holds zeros. -/
module

public import proofs.«01_k».proof.Proof.Exp.Body
public import proofs.«01_k».proof.Proof.Exp.Spec
public import Idealize.ShloMosaic.Lib.Pipeline.ValueKit

@[expose] public section

set_option maxRecDepth 16384

noncomputable section

namespace Cert.Kernel2Ideal.Exp

open Idealize.ShloMosaic Idealize.ShloMosaic.TcCoe
open Cert.Kernel2Ideal Cert.Kernel2Ideal.Gen Cert.ExpMath

variable (x0 : Vec Ideal S512x1024 .f32) (x1 : Vec Ideal S1x1024x2048 .bf16) (x2 : Vec Ideal S1x1x2048 .f32)
  (x3 : Vec Ideal S1x1024x1024 .bf16) (x4 : Vec Ideal S1x1x1024 .f32)

theorem outV_apply (r : Fin 512) (d : Fin 1024) : (outV x0 x1 x2 x3 x4 (ix2 r d) : EReal)
    = ffn (fun k => x0 (ix2 r k)) (fun k j => x1 (ix3 0 k j)) (fun j => x2 (ix3 0 0 j)) (fun f d => x3 (ix3 0 f d))
        (fun d => x4 (ix3 0 0 d)) d := by
  unfold outV
  canon_tiles x hx
  · have e : x = ix2 r d := by
      rw [eq_ix2 x]
      exact congr (congrArg _ (Fin.ext hx0.symm)) (Fin.ext hx1.symm)
    subst e
    pointwise [k0_pay1]
    unfold ffn swi lin
    rw [w1_eq]
    rfl

theorem outZ_apply (r : Fin 512) (d : Fin 1024) : (outZ (F := Ideal) (ix2 r d) : EReal) = 0 := by
  unfold outZ
  canon_tiles x hx
  · pointwise [k0_pay2]

end Cert.Kernel2Ideal.Exp

end
-- ==== Proof.Exp.Run.lean ====
/- The run of the program of the experts' call: the host operations, the kernel's region, and what every buffer holds
   at the end. -/
module

public import proofs.«01_k».proof.Proof.Exp.Body
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel2Ideal.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b)) (a : (pcfg0 (F := F)).Adm)

/-- The body obligation at every point. -/
theorem body_obligation0 (c : Dev nD) : BodyObligation (dat0 (F := F) V a c) (defs₀ (F := F)) Variants.none () Set.univ := fun t => by
  rw [bigSep_W0, bigSep_W0, defs₀_row0]
  have hb := idle5 a.1 ((pcfg0.gridAt a.1).coords t)
  dsimp only
  generalize idle0 a.1 5 ((pcfg0.gridAt a.1).coords t) = b at hb ⊢
  subst hb
  exact triple_restated (sound_body0 V a c t) rfl .rfl fun _ => .rfl

/-! ## The contents of the buffers, boundary by boundary -/

abbrev argRefs : List (Ref sig .tc) := [main_arg0, main_arg1, main_arg2, main_arg3, main_arg4, main_arg5, main_arg6]

theorem hostOps0_fresh : (hostOps0 : List (HloOp τ sig (Elt F))).Forall fun op => op.fresh = ∅ := by
  simp only [List.Forall]; repeat' constructor
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ b ∈ argRefs, b ∉ hostOps0_W := ListAll.forall_mem_of_all_decide (by decide +kernel)

variable (m : (ℓ : Loc nD τ sig) → Buf (Elt F) ℓ) (ρ : Dev nD → PrngReg)

/-- At launch. -/
abbrev W0 : Dev nD → Valuation τ sig (Elt F) := fun c b => m ((c : Dev nD), b)
/-- After the host operations. -/
abbrev W1 : Dev nD → Valuation τ sig (Elt F) := fun c => StableHlo.after hostOps0 (W0 m c)
theorem W1_of (c : Dev nD) (r : Ref sig .tc) (h : r ∉ hostOps0_W) : W1 m c (Proc.devRef .tc r) = W0 m c (Proc.devRef .tc r) :=
  StableHlo.after_of_writes_sub hostOps0 _ hostOps0_writes h
theorem W1_args (c : Dev nD) : ∀ b ∈ argRefs, W1 m c (Proc.devRef .tc b) = m ((c : Thread nD τ).loc b) :=
  fun b hb => (W1_of m c b (hostOps0_args b hb)).trans rfl
abbrev V1 : (c : Dev nD) → (b : Ref sig .tc) → Buf (Elt F) ((c : Thread nD τ).loc b) := fun c b => W1 m c b
/-- After the region. -/
def W2 (c : Dev nD) : Valuation τ sig (Elt F) :=
  Pipeline.withArrays spec0 c (W1 m c) fun w => (dat0 (V1 m) a c).arrAt w (cfg0 a).N
theorem W2_arr (c : Dev nD) (w : Fin (cfg0 a).W) :
    W2 a m c (Proc.devRef .tc (Pipeline.arrRef spec0 w)) = (dat0 (V1 m) a c).arrAt w (cfg0 a).N := by
  unfold W2; exact Pipeline.withArrays_arr spec0 winFacts0.arr_inj c _ _ w
theorem W2_of_ne (c : Dev nD) (b : Ref sig .tc) (hb : ∀ w, Pipeline.arrRef spec0 w ≠ b) :
    W2 a m c (Proc.devRef .tc b) = W1 m c (Proc.devRef .tc b) := by
  unfold W2; exact Pipeline.withArrays_of_ne spec0 c _ _ b hb
theorem W2_of (c : Dev nD) (r : Ref sig .tc) (h : ∀ w : Fin (cfg0 a).W, Pipeline.arrRef spec0 w = r → ((cfg0 a).win w).isOut = false) :
    W2 a m c (Proc.devRef .tc r) = W1 m c (Proc.devRef .tc r) := by
  by_cases hw : ∃ w : Fin (cfg0 a).W, Pipeline.arrRef spec0 w = r
  · obtain ⟨w, rfl⟩ := hw
    exact (W2_arr a m c w).trans (((dat0 (V1 m) a c).arrAt_in w (h w rfl) _).trans (A_eq0 (V1 m) a c w))
  · exact W2_of_ne a m c r fun w e => hw ⟨w, e⟩
theorem argsIn0 : ∀ b ∈ argRefs, ∀ w : Fin 6, Pipeline.arrRef spec0 w = b → (spec0 w).isOut = false :=
  ListAll.forall_mem_of_all_decide (by decide +kernel)
theorem W2_args (c : Dev nD) : ∀ b ∈ argRefs, W2 a m c (Proc.devRef .tc b) = m ((c : Thread nD τ).loc b) :=
  fun b hb => (W2_of a m c b (argsIn0 b hb)).trans (W1_args m c b hb)
abbrev V2 : (c : Dev nD) → (b : Ref sig .tc) → Buf (Elt F) ((c : Thread nD τ).loc b) := fun c b => W2 a m c b
theorem hF0 (c : Dev nD) (w : Fin (cfg0 a).W) : (dat0 (V1 m) a c).arrAt w (cfg0 a).N = V2 a m c (Pipeline.arrRef spec0 w) :=
  (W2_arr a m c w).symm
theorem hrest0 (c : Dev nD) : ∀ b, b ∉ Finset.univ.image (Pipeline.arrRef spec0) → V2 a m c b = V1 m c b :=
  fun b hb => W2_of_ne a m c b fun w e => hb (Finset.mem_image.mpr ⟨w, Finset.mem_univ _, e⟩)

/-! ## The segments -/

abbrev adm : (p : Fin 1) → (pcfgs (F := F) p).Adm := fun _ => a
def pdats : (p : Fin 1) → (c : Dev nD) → Dat τ (Elt F) Unit ℕ (UR sig nD τ) ℕ (Pipeline.pin (pcfgs (F := F)) (adm a) p) c
  | ⟨0, _⟩ => fun c => dat0 (V1 m) a c
abbrev 𝒱₀ : Variants := Variants.none
abbrev L : GSem nD τ sig → Finset Unit := fun _ => ∅
abbrev lv : GSem nD τ sig → Unit → ℕ := fun _ _ => 0
/-- What rides beside the buffers. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state. -/
abbrev Tₙ (c : Dev nD) : sProp 𝕄 := iprop(StableHlo.held (c : Thread nD τ) (Pipeline.ucRefs τ sig) (W2 a m c) ∗ ∃ r, prngReg c r)

theorem tblRef : ∀ k : Fin pre0.K, pre0.ref k ∈ argRefs := by decide
theorem tbl1 (ha : ∀ (c : Dev nD) k, a.1 k = m ((c : Thread nD τ).loc (pre0.ref k))) (c : Dev nD) :
    (fun k => V1 m c (pre0.ref k)) = a.1 := funext fun k => (W1_args m c _ (tblRef k)).trans (ha c k).symm
theorem tblNe : ∀ (k : Fin pre0.K), pre0.ref k ∉ Finset.univ.image (Pipeline.arrRef spec0) := by decide
theorem tbl2 (ha : ∀ (c : Dev nD) k, a.1 k = m ((c : Thread nD τ).loc (pre0.ref k))) (c : Dev nD) :
    (fun k => V2 a m c (pre0.ref k)) = a.1 := funext fun k => (W2_args a m c _ (tblRef k)).trans (ha c k).symm

set_option backward.isDefEq.respectTransparency.types false in
/-- The region over the thread state: entered at `W1`, left at `W2`; the tables go into the invariant and come back. -/
def reg0 (ha : ∀ (c : Dev nD) k, a.1 k = m ((c : Thread nD τ).loc (pre0.ref k))) :
    Pipeline.RegionSeg (pcfgs (F := F)) (adm a) (pdats a m) () defs₀ 𝒱₀ L lv 0 where
  win := winFacts0.to₀
  block_pos := block_pos0
  stage_whole := stage_whole0
  K := PEmpty
  osem k := k.elim
  ho := Pipeline.OwnSemFacts.none _
  hbody c := (body_obligation0 (V1 m) a c).loose
  hwaits := Pipeline.hwaits_of_owed_zero _ _ _ _ L lv 0 fun _ _ => rfl
  pre c := iprop(StableHlo.held (c : Thread nD τ) (Pipeline.ucRefs τ sig) (W1 m c) ∗ R c)
  post c := iprop(Tₙ a m c ∗ ∃ W, owes (c : Thread nD τ) (0 : CellTallies nD τ sig Unit) W)
  X c := iprop(∃ r, prngReg c r)
  Y c := iprop((∃ r, prngReg c r) ∗ Pipeline.prefHeld pre0 c (fun _ => fullShare) a.1)
  Z c := Pipeline.unscopedRestP (Ix := Unit) (Name := ℕ) (U := UR sig nD τ) (Lvl := ℕ) pre0 spec0 c (V1 m c)
  hentry c := by
    rw [Pipeline.ownSems0_none]
    have hsplit := Pipeline.arrays_of_unscopedBufs (p := 0) (pcfgs (F := F)) (adm a) (pdats a m) winFacts0 arr_whole0 c
      ((pdats a m 0 c).share_full fun _ => rfl) (V1 m c) (A_eq0 (V1 m) a c)
    rw [Pipeline.unscopedBufs_held] at hsplit
    have hs : (Pipeline.unscopedRest spec0 c (V1 m c) : sProp 𝕄) ⊢ iprop(Pipeline.prefHeld pre0 c (fun _ => fullShare) a.1 ∗ Pipeline.unscopedRestP pre0 spec0 c (V1 m c)) := by
      rw [← tbl1 a m ha c]
      exact Entails.of_eq (Pipeline.unscopedRest_split preFacts0 c (V1 m c))
    iintro ⟨⟨Hub, Hp, HO⟩, -, -⟩
    ihave H := hsplit $$ Hub
    icases H with ⟨Ha, Hrest⟩
    ihave H2 := hs $$ Hrest
    icases H2 with ⟨Ht, Hz⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hz
  hin c := by
    rw [show (pdats a m 0 c).Φ 0 = iprop(Pipeline.ΦA spec0 c ∗ Pipeline.prefHeld pre0 c (fun _ => fullShare) a.1) from rfl]; unfold Pipeline.ΦA
    iintro ⟨Hp, Ht, Hr⟩
    isplitr [Ht]
    · isplitl [Hr]; · iexact Hr
      iexact Hp
    iexact Ht
  hout c := by
    rw [Pipeline.ownSems0_none, show (pdats a m 0 c).Φ (Fin.last _) = iprop(Pipeline.ΦA spec0 c ∗ Pipeline.prefHeld pre0 c (fun _ => fullShare) a.1) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) (adm a) (Ix := Unit) (Name := ℕ) (U := UR sig nD τ) (Lvl := ℕ)
      winFacts0 arr_whole0 c (pdats a m) ((pdats a m 0 c).share_full fun _ => rfl)
      (V1 m c) (V2 a m c) ((pdats a m 0 c).arrAt · (cfg0 a).N) (hF0 a m c) (hrest0 a m c)
    rw [Pipeline.unscopedBufs_held] at hjoin
    have hs : iprop(Pipeline.prefHeld pre0 c (fun _ => fullShare) a.1 ∗ Pipeline.unscopedRestP pre0 spec0 c (V1 m c)) ⊢ (Pipeline.unscopedRest spec0 c (V1 m c) : sProp 𝕄) := by
      rw [← tbl1 a m ha c]
      exact Entails.of_eq (Pipeline.unscopedRest_split preFacts0 c (V1 m c)).symm
    iintro ⟨Ha, HO, ⟨HY, Ht⟩, Hz⟩
    ihave Hrest := hs $$ [Ht Hz]
    · isplitl [Ht]; · iexact Ht
      iexact Hz
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs (ha : ∀ (c : Dev nD) k, a.1 k = m ((c : Thread nD τ).loc (pre0.ref k))) :
    List (Pipeline.Seg (pcfgs (F := F)) (adm a) (pdats a m) () defs₀ 𝒱₀ L lv) :=
  [ .host (hseg hostOps0 hostOps0_sub hostOps0_fresh (W0 m)), .region (reg0 a m ha) ]
theorem main_run (ha : ∀ (c : Dev nD) k, a.1 k = m ((c : Thread nD τ).loc (pre0.ref k))) (c : Dev nD) :
    main (F := F) c = Pipeline.Seg.run (segs a m ha) := (main_chain c).trans (by chain_rfl)
theorem no_unscoped : ∀ sm : SemLoc sig, sm.isScoped .tc = true := by decide

set_option backward.isDefEq.respectTransparency.types false in
/-- A run from tables that are admissible ends with every buffer at `W2` and every counter at zero. -/
theorem run (ha : ∀ (c : Dev nD) k, a.1 k = m ((c : Thread nD τ).loc (pre0.ref k))) :
    θ_run defs (onTc (τ := τ) (main (F := F))) ⟨m, fun _ => 0, ρ⟩ (fun r => (∀ c : Dev nD,
      r.2.mem ((c.tc : Thread nD τ).loc main_v4) = (dat0 (V1 m) a c).arrAt 5 (cfg0 a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) (adm a) (pdats a m) () (cellOf_inj (adm a)) emb₁ defs₀ 𝒱₀ L lv m ρ main (segs a m ha)
    (fun c Q => by rw [main_run a m ha c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm a)) (cellOf_inj (adm a))) (Pipeline.launchToks (Pipeline.pin (pcfgs (F := F)) (adm a)) (cellOf_inj (adm a))))
    (hu₀ := by
      iintro Hu; imodintro
      isplitl [Hu]
      · iapply (show (ownU (initOf (Pipeline.cells (Pipeline.pin (pcfgs (F := F)) (adm a)) (cellOf_inj (adm a))) (Pipeline.launchToks (Pipeline.pin (pcfgs (F := F)) (adm a)) (cellOf_inj (adm a)))) : sProp 𝕄)
            ⊢ BI.own (emb₁ (initOf (Pipeline.cells (Pipeline.pin (pcfgs (F := F)) (adm a)) (cellOf_inj (adm a))) (Pipeline.launchToks (Pipeline.pin (pcfgs (F := F)) (adm a)) (cellOf_inj (adm a))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ a m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 a m c b)
    (hfin := fun c s' => by
      iintro ⟨⟨Hh, -⟩, HSI⟩
      unfold StableHlo.held
      imodintro
      iapply (pointsTo_read_all (Pipeline.ucRefs τ sig) (fun b => (((c : Thread nD τ)).1, b)) (W2 a m c) s')
      isplitl [Hh] <;> iassumption)
    (hQ := fun s h hz => ⟨(fun c =>
      ⟨(h c _ (mem_uc main_v4 (by decide))).trans (W2_arr a m c 5),
       (h c _ (mem_uc main_arg0 (by decide))).trans (W2_args a m c main_arg0 (by decide)),
       (h c _ (mem_uc main_arg1 (by decide))).trans (W2_args a m c main_arg1 (by decide)),
       (h c _ (mem_uc main_arg2 (by decide))).trans (W2_args a m c main_arg2 (by decide)),
       (h c _ (mem_uc main_arg3 (by decide))).trans (W2_args a m c main_arg3 (by decide)),
       (h c _ (mem_uc main_arg4 (by decide))).trans (W2_args a m c main_arg4 (by decide)),
       (h c _ (mem_uc main_arg5 (by decide))).trans (W2_args a m c main_arg5 (by decide)),
       (h c _ (mem_uc main_arg6 (by decide))).trans (W2_args a m c main_arg6 (by decide))⟩), funext fun g => hz g (.inr (no_unscoped g.2))⟩)

end Cert.Kernel2Ideal.Exp

end
-- ==== Proof.Exp.Ok.lean ====
/- The tables of the experts' call: tables in range name blocks inside the arrays, so the call may run. -/
module

public import proofs.«01_k».proof.Proof.Exp.Run
public import proofs.«01_k».proof.Defs
public import proofs.«01_k».proof.Proof.Gen.Pre_tables_in_range
public import Idealize.ShloMosaic.Lib.StableHlo.Predicate

@[expose] public section

set_option maxRecDepth 16384

noncomputable section

namespace Cert.Kernel2Ideal.Exp

open Cert.Kernel2Ideal Cert.Kernel2Ideal.Gen
open Idealize.ShloMosaic Idealize.ShloMosaic.TcCoe

variable {F : FTy → Type} [FloatOps F]

/-- Tables in range: the experts' numbers below 32, the number of valid tiles between 1 and 316. -/
def InRange (te : Vec F S316 .i32) (nv : Vec F S1 .i32) : Prop :=
  (∀ x, (show BitVec 32 from te x).toNat < 32) ∧ ∀ x, 1 ≤ (show BitVec 32 from nv x).toNat ∧ (show BitVec 32 from nv x).toNat ≤ 316

/-- A word that is at least zero, read signed, is small. -/
theorem nonneg_small {a : BitVec 32} (h0 : (0#32).sle a = true) : a.toNat < 2 ^ 31 := by
  by_contra hn
  have := a.isLt
  simp only [BitVec.sle, BitVec.toInt, decide_eq_true_eq] at h0
  rw [if_neg (show ¬ 2 * a.toNat < 2 ^ 32 by omega)] at h0
  simp at h0
  omega

theorem of_bit {b : Bool} (h : BitVec.ofBool b = 1#1) : b = true := by
  revert h; cases b <;> decide

/-- Tables that pass the four comparisons are in range. -/
theorem range_of {te : Vec F S316 .i32} {nv : Vec F S1 .i32}
    (h1 : ∀ x, BitVec.ofBool ((0#32).sle (show BitVec 32 from te x)) = 1#1)
    (h2 : ∀ x, BitVec.ofBool ((show BitVec 32 from te x).slt 32#32) = 1#1)
    (h3 : ∀ x, BitVec.ofBool ((1#32).sle (show BitVec 32 from nv x)) = 1#1)
    (h4 : ∀ x, BitVec.ofBool ((show BitVec 32 from nv x).sle 316#32) = 1#1) : InRange te nv := by
  refine ⟨fun x => ?_, fun x => ?_⟩
  · exact (StableHlo.Predicate.slt_bool_iff_toNat (nonneg_small (of_bit (h1 x))) (by decide)).mp (h2 x)
  · have hs : (show BitVec 32 from nv x).toNat < 2 ^ 31 := by
      refine nonneg_small ?_
      have h := of_bit (h3 x)
      simp only [BitVec.sle, decide_eq_true_eq] at h ⊢
      have h1 : (1#32 : BitVec 32).toInt = 1 := by decide
      have h0 : (0#32 : BitVec 32).toInt = 0 := by decide
      omega
    exact ⟨(StableHlo.Predicate.sle_bool_iff_toNat (by decide) hs).mp (h3 x),
      (StableHlo.Predicate.sle_bool_iff_toNat hs (by decide)).mp (h4 x)⟩

/-- The tile a grid point names, as an index of the first table. -/
def tix (i : grid0.Coords) : S316.Idx := (Rect.unit (s := S316) (k0_off1 i) S1.size (k0_off1_inb i)).emb (Shape.Idx.first (numel1_S1.symm ▸ Nat.one_pos))

theorem coord_lt (i : grid0.Coords) : (i 0).val < 316 := (i 0).isLt

theorem min_lt (i : grid0.Coords) (v : BitVec 32) (h : 1 ≤ v.toNat ∧ v.toNat ≤ 316) :
    (Scalar.minsi (BitVec.ofNat 32 (i 0).val) (Scalar.subi v 1#32)).toNat < 316 := by
  have hi := coord_lt i
  have hs : (Scalar.subi v 1#32).toNat = v.toNat - 1 := by
    show (v - 1#32).toNat = _
    rw [BitVec.toNat_sub]
    simp only [BitVec.toNat_ofNat]
    omega
  have ho : (BitVec.ofNat 32 (i 0).val).toNat = (i 0).val := by
    rw [BitVec.toNat_ofNat]; omega
  show (if _ then _ else _ : BitVec 32).toNat < 316
  split <;> omega

/-- At a valid tile the block of the rows is the tile's own. -/
theorem min_eq (i : grid0.Coords) (v : BitVec 32) (h : 1 ≤ v.toNat ∧ v.toNat ≤ 316) (hv : (i 0).val < v.toNat) :
    (Scalar.minsi (BitVec.ofNat 32 (i 0).val) (Scalar.subi v 1#32)).toNat = (i 0).val := by
  have hi := coord_lt i
  have hs : (Scalar.subi v 1#32).toNat = v.toNat - 1 := by
    show (v - 1#32).toNat = _
    rw [BitVec.toNat_sub]
    simp only [BitVec.toNat_ofNat]
    omega
  have ho : (BitVec.ofNat 32 (i 0).val).toNat = (i 0).val := by
    rw [BitVec.toNat_ofNat]; omega
  show (if (BitVec.ofNat 32 (i 0).val).slt (Scalar.subi v 1#32) = true then _ else _ : BitVec 32).toNat = _
  split
  · exact ho
  · rename_i hn
    have hq : ¬ (BitVec.ofNat 32 (i 0).val).toNat < (Scalar.subi v 1#32).toNat := fun hlt => hn (by
      have hb := (StableHlo.Predicate.slt_bool_iff_toNat (a := BitVec.ofNat 32 (i 0).val) (b := Scalar.subi v 1#32)
        (by omega) (by omega)).mpr hlt
      revert hb
      cases (BitVec.ofNat 32 (i 0).val).slt (Scalar.subi v 1#32) <;> decide)
    omega

variable (pf : pre0.Contents (Elt F))

theorem tr0_eq (i : grid0.Coords) : cc0_transform_0 inb_S1_S1_0 numel1_S1 pf i
    = ![(Scalar.minsi (BitVec.ofNat 32 (i 0).val) (Scalar.subi (nvw (pf 1)) 1#32)).toNat, 0] := rfl
theorem tr1_eq (i : grid0.Coords) : cc0_transform_1 k0_off1_inb numel1_S1 pf i = ![(show BitVec 32 from pf 0 (tix i)).toNat, 0, 0] := rfl
theorem tr2_eq (i : grid0.Coords) : cc0_transform_2 k0_off1_inb numel1_S1 pf i = ![(show BitVec 32 from pf 0 (tix i)).toNat, 0, 0] := rfl
theorem tr3_eq (i : grid0.Coords) : cc0_transform_3 k0_off1_inb numel1_S1 pf i = ![(show BitVec 32 from pf 0 (tix i)).toNat, 0, 0] := rfl
theorem tr4_eq (i : grid0.Coords) : cc0_transform_4 k0_off1_inb numel1_S1 pf i = ![(show BitVec 32 from pf 0 (tix i)).toNat, 0, 0] := rfl

set_option backward.proofsInPublic true in
/-- Tables in range meet the call's side condition. -/
theorem ok_of_range (h : InRange (F := F) (pf 0) (pf 1)) : ok0 pf := by
  obtain ⟨h0, h1⟩ := h
  refine ⟨fun i => ⟨?_, .inl rfl⟩, fun i => ⟨?_, .inr ?_⟩, fun i => ⟨?_, .inl rfl⟩, fun i => ⟨?_, .inr ?_⟩, fun i => ⟨?_, .inl rfl⟩⟩
  · rw [tr0_eq]
    have := min_lt i (nvw (pf 1)) (h1 _)
    generalize (Scalar.minsi (BitVec.ofNat 32 (i 0).val) (Scalar.subi (nvw (pf 1)) 1#32)).toNat = k at this
    intro a; fin_cases a
    · show (k + 1) * 512 ≤ 161792; omega
    · show (0 + 1) * 1024 ≤ 1024; omega
  · rw [tr1_eq]
    have := h0 (tix i)
    generalize (show BitVec 32 from pf 0 (tix i)).toNat = k at this
    intro a; fin_cases a
    · show (k + 1) * 1 ≤ 32; omega
    · show (0 + 1) * 1024 ≤ 1024; omega
    · show (0 + 1) * 2048 ≤ 2048; omega
  · exact .inr ⟨by decide, rfl, rfl, rfl⟩
  · rw [tr2_eq]
    have := h0 (tix i)
    generalize (show BitVec 32 from pf 0 (tix i)).toNat = k at this
    intro a; fin_cases a
    · show (k + 1) * 1 ≤ 32; omega
    · show (0 + 1) * 1 ≤ 1; omega
    · show (0 + 1) * 2048 ≤ 2048; omega
  · rw [tr3_eq]
    have := h0 (tix i)
    generalize (show BitVec 32 from pf 0 (tix i)).toNat = k at this
    intro a; fin_cases a
    · show (k + 1) * 1 ≤ 32; omega
    · show (0 + 1) * 1024 ≤ 1024; omega
    · show (0 + 1) * 1024 ≤ 1024; omega
  · exact .inr ⟨by decide, rfl, rfl, rfl⟩
  · rw [tr4_eq]
    have := h0 (tix i)
    generalize (show BitVec 32 from pf 0 (tix i)).toNat = k at this
    intro a; fin_cases a
    · show (k + 1) * 1 ≤ 32; omega
    · show (0 + 1) * 1 ≤ 1; omega
    · show (0 + 1) * 1024 ≤ 1024; omega

variable (m : (ℓ : Loc nD τ sig) → Buf (Elt F) ℓ)

/-- The two tables at launch. -/
abbrev te (c : Dev nD) : Vec F S316 .i32 := m ((c : Thread nD τ).loc main_arg1)
abbrev nv (c : Dev nD) : Vec F S1 .i32 := m ((c : Thread nD τ).loc main_arg2)

/-- The tables at launch, as the call takes them. -/
def tabs (h : InRange (F := F) (te m 0) (nv m 0)) : (pcfg0 (F := F)).Adm :=
  ⟨fun k => m (((0 : Dev nD) : Thread nD τ).loc (pre0.ref k)), ok_of_range _ h⟩

theorem tabs_eq (h : InRange (F := F) (te m 0) (nv m 0)) (c : Dev nD) (k) :
    (tabs m h).1 k = m ((c : Thread nD τ).loc (pre0.ref k)) := by
  have hc : c = 0 := Subsingleton.elim _ _
  subst hc; rfl

/-- The precondition puts the tables in range. -/
theorem range_of_pre (h1 : ∀ x, cmpi .sge (te m 0) (fun _ => 0#32) x = 1#1) (h2 : ∀ x, cmpi .slt (te m 0) (fun _ => 32#32) x = 1#1)
    (h3 : ∀ x, cmpi .sge (nv m 0) (fun _ => 1#32) x = 1#1) (h4 : ∀ x, cmpi .sle (nv m 0) (fun _ => 316#32) x = 1#1) :
    InRange (F := F) (te m 0) (nv m 0) := range_of h1 h2 h3 h4

end Cert.Kernel2Ideal.Exp
-- ==== Proof.Exp.Arr.lean ====
/- The array the experts' call leaves, at an index. -/
module

public import proofs.«01_k».proof.Proof.Exp.Block
public import proofs.«01_k».proof.Proof.Exp.Ok

@[expose] public section

set_option maxRecDepth 16384

noncomputable section

namespace Cert.Kernel2Ideal.Exp

open Idealize.ShloMosaic Idealize.ShloMosaic.TcCoe
open Cert.Kernel2Ideal Cert.Kernel2Ideal.Gen Cert.ExpMath

theorem co0 : ∀ t : Fin grid0.N, (grid0.coords t 0).val = t.val := by decide +kernel
theorem t0_lt (t : Fin grid0.N) : t.val < 316 := t.isLt

section
variable (a : (pcfg0 (F := Ideal)).Adm) (t : Fin (cfg0 a).N)

theorem ixw5 : ((cfg0 a).win 5).index t = ![t.val, 0] := by
  have h : cc0_transform_5 (grid0.coords t) = ![t.val, 0] := (by decide +kernel : ∀ t : Fin grid0.N, cc0_transform_5 (grid0.coords t) = ![t.val, 0]) t
  exact h
theorem ixw0 : ((cfg0 a).win 0).index t
    = ![(Scalar.minsi (BitVec.ofNat 32 (grid0.coords t 0).val) (Scalar.subi (nvw (a.1 1)) 1#32)).toNat, 0] := rfl
theorem ixw1 : ((cfg0 a).win 1).index t = ![(show BitVec 32 from a.1 0 (tix (grid0.coords t))).toNat, 0, 0] := rfl
theorem ixw2 : ((cfg0 a).win 2).index t = ![(show BitVec 32 from a.1 0 (tix (grid0.coords t))).toNat, 0, 0] := rfl
theorem ixw3 : ((cfg0 a).win 3).index t = ![(show BitVec 32 from a.1 0 (tix (grid0.coords t))).toNat, 0, 0] := rfl
theorem ixw4 : ((cfg0 a).win 4).index t = ![(show BitVec 32 from a.1 0 (tix (grid0.coords t))).toNat, 0, 0] := rfl

variable (V : (c : Dev nD) → (b : Ref sig .tc) → Buf (Elt Ideal) ((c : Thread nD τ).loc b)) (c : Dev nD)

theorem tix_eq (p) : tix (grid0.coords t) = ix1 ⟨t.val, p⟩ := by
  rw [eq_ix1 (tix (grid0.coords t))]
  refine congrArg ix1 (Fin.ext ?_)
  show (BitVec.ofNat 32 (grid0.coords t 0).val).toNat + 0 = t.val
  rw [co0]
  have := t0_lt t
  rw [BitVec.toNat_ofNat]
  omega

theorem rd0 (R : Fin 316) (hR : (Scalar.minsi (BitVec.ofNat 32 (grid0.coords t 0).val) (Scalar.subi (nvw (a.1 1)) 1#32)).toNat = R.val)
    (r : Fin 512) (k : Fin 1024) : (iblk0 V a c 0 t (ix2 r k) : EReal)
    = (V c main_arg0 : Vec Ideal S161792x1024 .f32) (ix2 ⟨R.val * 512 + r.val, by omega⟩ k) := by
  have e := ixw0 a t
  rw [hR] at e
  blk_ext [iblk0, e]

section
variable (E : Fin 32) (hE : (show BitVec 32 from a.1 0 (tix (grid0.coords t))).toNat = E.val)
include hE

theorem rd1 (k : Fin 1024) (j : Fin 2048) : (iblk0 V a c 1 t (ix3 0 k j) : EReal)
    = (V c main_v0 : Vec Ideal S32x1024x2048 .bf16) (ix3 E k j) := by
  have e := ixw1 a t
  rw [hE] at e
  blk_ext [iblk0, e]

theorem rd2 (j : Fin 2048) : (iblk0 V a c 2 t (ix3 0 0 j) : EReal)
    = (V c main_v2 : Vec Ideal S32x1x2048 .f32) (ix3 E 0 j) := by
  have e := ixw2 a t
  rw [hE] at e
  blk_ext [iblk0, e]

theorem rd3 (f : Fin 1024) (d : Fin 1024) : (iblk0 V a c 3 t (ix3 0 f d) : EReal)
    = (V c main_v1 : Vec Ideal S32x1024x1024 .bf16) (ix3 E f d) := by
  have e := ixw3 a t
  rw [hE] at e
  blk_ext [iblk0, e]

theorem rd4 (d : Fin 1024) : (iblk0 V a c 4 t (ix3 0 0 d) : EReal)
    = (V c main_v3 : Vec Ideal S32x1x1024 .f32) (ix3 E 0 d) := by
  have e := ixw4 a t
  rw [hE] at e
  blk_ext [iblk0, e]

end

theorem em5 (r : Fin 512) (d : Fin 1024) : ((((cfg0 a).win 5).blk t).view.emb (ix2 r d) : S161792x1024.Idx)
    = ix2 ⟨t.val * 512 + r.val, by have := t0_lt t; omega⟩ d := by
  have e := ixw5 a t
  blk_ext [e]

/-- The index of the output's block is another at every point. -/
theorem flush5 : ((cfg0 a).win 5).flush t = true := by
  unfold Pipeline.Window.flush
  rw [Bool.and_eq_true_iff]
  refine ⟨rfl, ?_⟩
  by_cases h : t.val + 1 = (cfg0 a).grid.N
  · simp [h]
  · have ht : t.val + 1 < (cfg0 a).grid.N := Nat.lt_of_le_of_ne (Nat.succ_le_of_lt t.isLt) h
    rw [Bool.or_eq_true_iff]
    refine .inr (decide_eq_true ⟨ht, fun hq => ?_⟩)
    rw [ixw5 a ⟨t.val + 1, ht⟩, ixw5 a t] at hq
    have := congrFun hq 0
    simp at this

theorem covers5 : ((cfg0 a).win 5).Covers := by
  refine ⟨(by decide : ∀ a : Fin 2, 0 < (![512, 1024] : Fin 2 → Nat) a), fun β => ?_⟩
  have hb : (β (0 : Fin 2)).val < 316 := by
    have h : (β (0 : Fin 2)).val < (161792 + 512 - 1) / 512 := (β (0 : Fin 2)).isLt
    omega
  have hb1 : (β (1 : Fin 2)).val < 1 := by
    have h : (β (1 : Fin 2)).val < (1024 + 1024 - 1) / 1024 := (β (1 : Fin 2)).isLt
    omega
  refine ⟨(⟨(β (0 : Fin 2)).val, hb⟩ : Fin grid0.N), flush5 a _, fun x => ⟨?_, .inl rfl⟩⟩
  refine (congrFun (ixw5 a _) x).trans ?_
  revert x
  show ∀ x : Fin 2, (![(β (0 : Fin 2)).val, 0] : Fin 2 → Nat) x = (β x).val
  intro x
  fin_cases x
  · rfl
  · show 0 = (β (1 : Fin 2)).val
    omega

end

section
variable (X : Valuation τ sig (Elt Ideal))

theorem h_v0 (e : Fin 32) (k : Fin 1024) (j : Fin 2048) :
    ((StableHlo.after hostOps0 X (Proc.devRef .tc main_v0) : Vec Ideal S32x1024x2048 .bf16) (ix3 e k j) : EReal)
      = (X (Proc.devRef .tc main_arg3) : Vec Ideal S32x1024x2048 .f32) (ix3 e k j) := by
  unfold_abbrev_sides
  after_results
  pointwise

theorem h_v1 (e : Fin 32) (k : Fin 1024) (j : Fin 1024) :
    ((StableHlo.after hostOps0 X (Proc.devRef .tc main_v1) : Vec Ideal S32x1024x1024 .bf16) (ix3 e k j) : EReal)
      = (X (Proc.devRef .tc main_arg5) : Vec Ideal S32x1024x1024 .f32) (ix3 e k j) := by
  unfold_abbrev_sides
  after_results
  pointwise

theorem h_v2 (e : Fin 32) (j : Fin 2048) :
    ((StableHlo.after hostOps0 X (Proc.devRef .tc main_v2) : Vec Ideal S32x1x2048 .f32) (ix3 e 0 j) : EReal)
      = (X (Proc.devRef .tc main_arg4) : Vec Ideal S32x2048 .f32) (ix2 e j) := by
  unfold_abbrev_sides
  after_results
  pointwise

theorem h_v3 (e : Fin 32) (j : Fin 1024) :
    ((StableHlo.after hostOps0 X (Proc.devRef .tc main_v3) : Vec Ideal S32x1x1024 .f32) (ix3 e 0 j) : EReal)
      = (X (Proc.devRef .tc main_arg6) : Vec Ideal S32x1024 .f32) (ix2 e j) := by
  unfold_abbrev_sides
  after_results
  pointwise

end

end Cert.Kernel2Ideal.Exp

end
-- ==== Proof.Exp.Ref.lean ====
/- The reference of the experts' call, read at an index. -/
module

public import proofs.«01_k».proof.Proof.Gen.Reference2Ideal.Read
public import proofs.«01_k».proof.Proof.Exp.Spec
public import Idealize.ShloMosaic.Lib.Pipeline.ValueKit
public import Idealize.ShloMosaic.Lib.StableHlo.Predicate

@[expose] public section

set_option maxRecDepth 16384

noncomputable section

namespace Cert.Reference2Ideal.Exp

open Idealize.ShloMosaic Idealize.ShloMosaic.TcCoe
open Cert.Reference2Ideal Cert.Reference2Ideal.Read Cert.ExpMath

variable (x0 : Vec Ideal S161792x1024 .f32) (x1 : Vec Ideal S316 .i32) (x2 : Vec Ideal S1 .i32)
  (x3 : Vec Ideal S32x1024x2048 .f32) (x4 : Vec Ideal S32x2048 .f32) (x5 : Vec Ideal S32x1024x1024 .f32)
  (x6 : Vec Ideal S32x1024 .f32)

/-- The tile of a row. -/
def tile (t : Fin 161792) : Fin 316 := ⟨t.val / 512, by omega⟩

/-- The first product of row `t` with expert `e`. -/
def gu (t : Fin 161792) (e : Fin 32) (j : Fin 2048) : EReal :=
  lin (fun k => x0 (ix2 t k)) (fun k j => x3 (ix3 e k j)) (fun j => x4 (ix2 e j)) j

theorem r23 (t : Fin 161792) (e : Fin 32) (j : Fin 2048) :
    (val_main_v23 (F := Ideal) x0 x3 x4 (ix3 t e j) : EReal) = gu x0 x3 x4 t e j := by
  rw [val_main_v23_apply, val_main_v20_apply, val_main_v22_apply, val_main_v21_apply]
  rw [show idx_main_v21 (idx_main_v22 (ix3 t e j)) = ix2 e j from funext fun a => by fin_cases a <;> rfl]
  show (∑ k, _) + _ = _
  unfold gu lin
  refine congrArg (· + _) (Finset.sum_congr rfl fun k _ => ?_)
  rw [show lidx_main_v20 (ix3 t e j) k = ix2 t k from funext fun a => by fin_cases a <;> rfl,
    show ridx_main_v20 (ix3 t e j) k = ix3 e k j from funext fun a => by fin_cases a <;> rfl]

theorem r27 (t : Fin 161792) (e : Fin 32) (f : Fin 1024) :
    (val_main_v27 (F := Ideal) x0 x3 x4 (ix3 t e f) : EReal) = min (gu x0 x3 x4 t e ⟨f.val, by omega⟩) w7 := by
  rw [val_main_v27_apply, val_main_v24_apply, val_main_v26_apply, val_main_cst_1_apply]
  rw [show idx_main_v24 (ix3 t e f) = ix3 t e ⟨f.val, by omega⟩ from funext fun a => by fin_cases a <;> rfl, r23]
  rfl

theorem r28 (t : Fin 161792) (e : Fin 32) (f : Fin 1024) :
    (val_main_v28 (F := Ideal) x0 x3 x4 (ix3 t e f) : EReal)
      = min w7 (max wm7 (gu x0 x3 x4 t e ⟨1024 + f.val, by omega⟩)) := by
  rw [val_main_v28_apply, val_main_call1_v4_apply, val_main_call1_v3_apply, val_main_call1_v2_apply,
    val_main_call1_v1_apply, val_main_call1_v0_apply, val_main_cst_2_apply, val_main_cst_3_apply, val_main_v25_apply]
  rw [show idx_main_v25 (ix3 t e f) = ix3 t e ⟨1024 + f.val, by omega⟩ from funext fun a => by fin_cases a <;> rfl, r23]
  rfl

theorem r40 (t : Fin 161792) (e : Fin 32) (f : Fin 1024) :
    (val_main_v40 (F := Ideal) x0 x3 x4 (ix3 t e f) : EReal) = swi (gu x0 x3 x4 t e) f := by
  rw [val_main_v40_apply, val_main_v30_apply, val_main_v29_apply, val_main_cst_4_apply, val_main_v39_apply,
    val_main_v38_apply, val_main_v37_apply, val_main_cst_7_apply, val_main_v36_apply, val_main_v35_apply,
    val_main_cst_6_apply, val_main_v34_apply, val_main_v33_apply, val_main_v32_apply, val_main_v31_apply,
    val_main_cst_5_apply, r27, r28]
  show (_ + w1) * (_ * Ideal.div w1 (w1 + Ideal.exp (-(wa * _)))) = _
  unfold swi Ideal.logistic
  rw [w1_eq]

theorem r45 (t : Fin 161792) (e : Fin 32) (d : Fin 1024) :
    (val_main_v45 (F := Ideal) x0 x3 x4 x5 x6 (ix3 t e d) : EReal)
      = ffn (fun k => x0 (ix2 t k)) (fun k j => x3 (ix3 e k j)) (fun j => x4 (ix2 e j)) (fun f d => x5 (ix3 e f d))
          (fun d => x6 (ix2 e d)) d := by
  rw [val_main_v45_apply, val_main_v42_apply, val_main_v41_apply, val_main_v44_apply, val_main_v43_apply]
  rw [show idx_main_v43 (idx_main_v44 (ix3 t e d)) = ix2 e d from funext fun a => by fin_cases a <;> rfl]
  show (∑ k, _) + _ = _
  unfold ffn
  refine congrArg (· + _) (Finset.sum_congr rfl fun k _ => ?_)
  rw [show lidx_main_v41 (idx_main_v42 (ix3 t e d)) k = ix3 e k d from funext fun a => by fin_cases a <;> rfl,
    show ridx_main_v41 (idx_main_v42 (ix3 t e d)) k = ix3 t e k from funext fun a => by fin_cases a <;> rfl, r40]
  exact mul_comm _ _

/-- The row is in a valid tile and the tile is expert `e`'s. -/
def Sel (t : Fin 161792) (e : Fin 32) : Prop :=
  (BitVec.ofNat 32 (tile t).val).slt (x2 (ix1 0)) = true ∧ x1 (ix1 (tile t)) = BitVec.ofNat 32 e.val

theorem r9 (t : Fin 161792) : (val_main_v9 (F := Ideal) x2 (ix1 t) : BitVec 1)
    = BitVec.ofBool ((BitVec.ofNat 32 (tile t).val).slt (x2 (ix1 0))) := by
  rw [val_main_v9_apply, val_main_v3_apply, val_main_v2_apply, val_main_v1_apply, val_main_v0_apply, val_main_v8_apply]
  have h7 : (val_main_v7 (F := Ideal) x2 (idx_main_v8 (ix1 t)) : BitVec 32) = x2 (ix1 0) := by
    unfold val_main_v7
    refine shapeCast_apply x2 _ _ (ix1 0) ?_
    have h1 : (S1.rowMajor (ix1 0)).val < 1 := (S1.rowMajor (ix1 0)).isLt
    have h2 : (S_.rowMajor (idx_main_v8 (ix1 t))).val < 1 := (S_.rowMajor (idx_main_v8 (ix1 t))).isLt
    show (S1.rowMajor (ix1 0)).val = (S_.rowMajor (idx_main_v8 (ix1 t))).val
    omega
  rw [h7]
  rfl

theorem r16 (t : Fin 161792) (e : Fin 32) : (val_main_v16 (F := Ideal) x1 (ix2 t e) : BitVec 1)
    = BitVec.ofBool ((x1 (ix1 (tile t)) : BitVec 32) == BitVec.ofNat 32 e.val) := by
  rw [val_main_v16_apply, val_main_v14_apply, val_main_v11_apply, val_main_v6_apply, val_main_v5_apply, val_main_v4_apply,
    val_main_v15_apply, val_main_v13_apply, val_main_v12_apply]
  rw [show idx_main_v4 (idx_main_v5 (idx_main_v6 (idx_main_v11 (idx_main_v14 (ix2 t e))))) = ix1 (tile t) from
    funext fun a => by fin_cases a; rfl]
  rfl

open Classical in
theorem r19 (t : Fin 161792) (e : Fin 32) :
    (val_main_v19 (F := Ideal) x1 x2 (ix2 t e) : EReal) = if Sel x1 x2 t e then 1 else 0 := by
  rw [val_main_v19_apply, val_main_v18_apply, val_main_v17_apply, val_main_v10_apply,
    val_main_call0_v0_apply, val_main_call0_v1_apply, val_main_cst_apply, val_main_cst_0_apply,
    show idx_main_v10 (idx_main_v17 (ix2 t e)) = ix1 t from funext fun a => by fin_cases a; rfl, r9, r16]
  have h0 : (FloatOps.ofBits (F := Ideal) .f32 0x00000000#32 : EReal) = 0 := by
    show Ideal.ofBits .f32 0x00000000#32 = 0
    simp [Ideal.ofBits, Ideal.ieee]
  have h1 : (FloatOps.ofBits (F := Ideal) .f32 0x3F800000#32 : EReal) = 1 := w1_eq
  rw [h0, h1]
  unfold Sel
  by_cases ha : (BitVec.ofNat 32 (tile t).val).slt (x2 (ix1 0)) = true
  · by_cases hb : (x1 (ix1 (tile t)) : BitVec 32) = BitVec.ofNat 32 e.val
    · rw [if_pos ⟨ha, hb⟩, ha, beq_iff_eq.mpr hb]; rfl
    · rw [if_neg fun h => hb h.2, ha, beq_eq_false_iff_ne.mpr hb]; rfl
  · rw [if_neg fun h => ha h.1, Bool.eq_false_iff.mpr ha]
    cases ((x1 (ix1 (tile t)) : BitVec 32) == BitVec.ofNat 32 e.val) <;> rfl

/-- The reference's result: the feed-forward with the tile's expert at a row of a valid tile, zero at another. -/
theorem result (t : Fin 161792) (d : Fin 1024) (e : Fin 32) (he : x1 (ix1 (tile t)) = BitVec.ofNat 32 e.val) :
    (val_main_v50 (F := Ideal) x0 x1 x2 x3 x4 x5 x6 (ix2 t d) : EReal)
      = if (BitVec.ofNat 32 (tile t).val).slt (x2 (ix1 0)) = true then
          ffn (fun k => x0 (ix2 t k)) (fun k j => x3 (ix3 e k j)) (fun j => x4 (ix2 e j)) (fun f d => x5 (ix3 e f d))
            (fun d => x6 (ix2 e d)) d
        else 0 := by
  classical
  rw [val_main_v50_apply, val_main_cst_8_apply]
  have h0 : (FloatOps.ofBits (F := Ideal) .f32 0x00000000#32 : EReal) = 0 := by
    show Ideal.ofBits .f32 0x00000000#32 = 0
    simp [Ideal.ofBits, Ideal.ieee]
  rw [h0, zero_add]
  have hs : ∀ k : Fin 32, (val_main_v49 (F := Ideal) x0 x1 x2 x3 x4 x5 x6 (idx_main_v50 (ix2 t d) k) : EReal)
      = (if Sel x1 x2 t k then 1 else 0) * ffn (fun k => x0 (ix2 t k)) (fun i j => x3 (ix3 k i j)) (fun j => x4 (ix2 k j))
          (fun f d => x5 (ix3 k f d)) (fun d => x6 (ix2 k d)) d := by
    intro k
    rw [show idx_main_v50 (ix2 t d) k = ix3 t k d from funext fun a => by fin_cases a <;> rfl, val_main_v49_apply,
      val_main_v48_apply, val_main_v47_apply, val_main_v46_apply,
      show idx_main_v46 (idx_main_v48 (ix3 t k d)) = ix2 t k from funext fun a => by fin_cases a <;> rfl, r19, r45]
    rfl
  rw [Finset.sum_congr rfl fun k _ => hs k]
  have hk : ∀ k : Fin 32, k ≠ e → ¬ Sel x1 x2 t k := fun k hk h => hk (Fin.ext (by
    have h' := congrArg BitVec.toNat (h.2.symm.trans he)
    simp only [BitVec.toNat_ofNat] at h'
    omega))
  rw [Finset.sum_eq_single e (fun k _ h => by rw [if_neg (hk k h), zero_mul]) (fun h => absurd (Finset.mem_univ _) h)]
  by_cases ha : (BitVec.ofNat 32 (tile t).val).slt (x2 (ix1 0)) = true
  · rw [if_pos (show Sel x1 x2 t e from ⟨ha, he⟩), one_mul, if_pos ha]
  · rw [if_neg (show ¬ Sel x1 x2 t e from fun h => ha h.1), zero_mul, if_neg ha]

end Cert.Reference2Ideal.Exp

end
-- ==== Proof.Exp.Equation.lean ====
/- The array the experts' call leaves is the reference's result. -/
module

public import proofs.«01_k».proof.Proof.Exp.Arr
public import proofs.«01_k».proof.Proof.Exp.Ref

@[expose] public section

set_option maxRecDepth 16384

noncomputable section

namespace Cert.Kernel2Ideal.Exp

open Idealize.ShloMosaic Idealize.ShloMosaic.TcCoe
open Cert.Kernel2Ideal Cert.Kernel2Ideal.Gen Cert.ExpMath

variable (m : (ℓ : Loc nD τ sig) → Buf (Elt Ideal) ℓ) (c : Dev nD)

theorem V1_x : V1 m c main_arg0 = m ((c : Thread nD τ).loc main_arg0) := W1_args m c main_arg0 (by decide)
theorem V1_wg (e : Fin 32) (k : Fin 1024) (j : Fin 2048) : ((V1 m c main_v0 : Vec Ideal S32x1024x2048 .bf16) (ix3 e k j) : EReal)
    = (m ((c : Thread nD τ).loc main_arg3) : Vec Ideal S32x1024x2048 .f32) (ix3 e k j) := h_v0 _ e k j
theorem V1_wd (e : Fin 32) (k : Fin 1024) (j : Fin 1024) : ((V1 m c main_v1 : Vec Ideal S32x1024x1024 .bf16) (ix3 e k j) : EReal)
    = (m ((c : Thread nD τ).loc main_arg5) : Vec Ideal S32x1024x1024 .f32) (ix3 e k j) := h_v1 _ e k j
theorem V1_bg (e : Fin 32) (j : Fin 2048) : ((V1 m c main_v2 : Vec Ideal S32x1x2048 .f32) (ix3 e 0 j) : EReal)
    = (m ((c : Thread nD τ).loc main_arg4) : Vec Ideal S32x2048 .f32) (ix2 e j) := h_v2 _ e j
theorem V1_bd (e : Fin 32) (j : Fin 1024) : ((V1 m c main_v3 : Vec Ideal S32x1x1024 .f32) (ix3 e 0 j) : EReal)
    = (m ((c : Thread nD τ).loc main_arg6) : Vec Ideal S32x1024 .f32) (ix2 e j) := h_v3 _ e j

/-- What the body leaves at a point, at a row and a lane: the feed-forward with the tile's expert, or zero. -/
theorem out_at (a : (pcfg0 (F := Ideal)).Adm) (t : Fin (cfg0 a).N) (E : Fin 32)
    (hE : (show BitVec 32 from a.1 0 (tix (grid0.coords t))).toNat = E.val)
    (hn : 1 ≤ (nvw (a.1 1)).toNat ∧ (nvw (a.1 1)).toNat ≤ 316) (r : Fin 512) (d : Fin 1024) :
    (out5 (a.1 1) (grid0.coords t) (iblk0 (V1 m) a c 0 t) (iblk0 (V1 m) a c 1 t) (iblk0 (V1 m) a c 2 t) (iblk0 (V1 m) a c 3 t)
        (iblk0 (V1 m) a c 4 t) (ix2 r d) : EReal)
      = if (BitVec.ofNat 32 t.val).slt (nvw (a.1 1)) = true then
          ffn (fun k => (m ((c : Thread nD τ).loc main_arg0) : Vec Ideal S161792x1024 .f32)
              (ix2 ⟨t.val * 512 + r.val, by have := t0_lt t; omega⟩ k))
            (fun k j => (m ((c : Thread nD τ).loc main_arg3) : Vec Ideal S32x1024x2048 .f32) (ix3 E k j))
            (fun j => (m ((c : Thread nD τ).loc main_arg4) : Vec Ideal S32x2048 .f32) (ix2 E j))
            (fun f d => (m ((c : Thread nD τ).loc main_arg5) : Vec Ideal S32x1024x1024 .f32) (ix3 E f d))
            (fun d => (m ((c : Thread nD τ).loc main_arg6) : Vec Ideal S32x1024 .f32) (ix2 E d)) d
        else 0 := by
  have ht := t0_lt t
  have hc := cond1_iff (grid0.coords t) (nvw (a.1 1))
  rw [co0] at hc
  unfold out5
  by_cases hs : (BitVec.ofNat 32 t.val).slt (nvw (a.1 1)) = true
  · rw [if_pos (hc.mpr hs), if_pos hs]
    refine (outV_apply _ _ _ _ _ r d).trans ?_
    have hlt : t.val < (nvw (a.1 1)).toNat := by
      have h := (StableHlo.Predicate.slt_bool_iff_toNat (a := BitVec.ofNat 32 t.val) (b := nvw (a.1 1))
        (by rw [BitVec.toNat_ofNat]; omega) (by omega)).mp (by rw [hs]; rfl)
      rw [BitVec.toNat_ofNat] at h
      omega
    have hR := min_eq (grid0.coords t) (nvw (a.1 1)) hn (by rw [co0]; exact hlt)
    rw [co0] at hR
    have h0 := rd0 a t (V1 m) c ⟨t.val, ht⟩ (by rw [co0]; exact hR) r
    have h1 := rd1 a t (V1 m) c E hE
    have h2 := rd2 a t (V1 m) c E hE
    have h3 := rd3 a t (V1 m) c E hE
    have h4 := rd4 a t (V1 m) c E hE
    exact congrFun (congr (congr (congr (congr (congrArg ffn
      (funext fun k => (h0 k).trans (congrFun (V1_x m c) _)))
      (funext fun k => funext fun j => (h1 k j).trans (V1_wg m c E k j)))
      (funext fun j => (h2 j).trans (V1_bg m c E j)))
      (funext fun f => funext fun d => (h3 f d).trans (V1_wd m c E f d)))
      (funext fun d => (h4 d).trans (V1_bd m c E d))) d
  · rw [if_neg fun h => hs (hc.mp h), if_neg hs]
    exact outZ_apply r d

theorem eq_ix2_row (y : S512x1024.Idx) : ∃ r d, y = ix2 r d := ⟨y 0, y 1, eq_ix2 y⟩

/-- The number of valid tiles, as the call reads it. -/
theorem nvw_eq (h : InRange (te m 0) (nv m 0)) : nvw ((tabs m h).1 1) = nv m 0 (ix1 0) := by
  show nv m 0 _ = nv m 0 _
  refine congrArg (nv m 0) (funext fun a => ?_)
  have : Subsingleton (Fin (S1.size a)) := by
    fin_cases a
    exact (inferInstance : Subsingleton (Fin 1))
  exact Subsingleton.elim _ _

/-- The whole array. -/
theorem arr5 (h : InRange (te m 0) (nv m 0)) :
    (dat0 (V1 m) (tabs m h) c).arrAt 5 (cfg0 (tabs m h)).N
      = Cert.Reference2Ideal.Read.val_main_v50 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) := by
  have hc0 : c = 0 := Subsingleton.elim _ _
  subst hc0
  refine (dat0 (V1 m) (tabs m h) 0).arrAt_eq_of_covers 5 _ (covers5 _) fun t hf y => ?_
  blk_simp
  rw [after0_5]
  obtain ⟨r, d, rfl⟩ := eq_ix2_row y
  refine Eq.trans ?_ (congrArg (Cert.Reference2Ideal.Read.val_main_v50 (F := Ideal) _ _ _ _ _ _ _) (em5 (tabs m h) t r d)).symm
  have ht := t0_lt t
  have hE : (show BitVec 32 from te m 0 (ix1 ⟨t.val, ht⟩)).toNat < 32 := h.1 _
  have htile : Cert.Reference2Ideal.Exp.tile ⟨t.val * 512 + r.val, by omega⟩ = ⟨t.val, ht⟩ := Fin.ext (by
    show (t.val * 512 + r.val) / 512 = t.val
    omega)
  have hr := Cert.Reference2Ideal.Exp.result (m (((0 : Dev nD) : Thread nD τ).loc main_arg0)) (te m 0) (nv m 0)
    (m (((0 : Dev nD) : Thread nD τ).loc main_arg3)) (m (((0 : Dev nD) : Thread nD τ).loc main_arg4))
    (m (((0 : Dev nD) : Thread nD τ).loc main_arg5)) (m (((0 : Dev nD) : Thread nD τ).loc main_arg6))
    ⟨t.val * 512 + r.val, by omega⟩ d ⟨_, hE⟩ (by
      rw [htile]
      exact (by rw [BitVec.ofNat_toNat, BitVec.setWidth_eq] : BitVec.ofNat 32 (show BitVec 32 from te m 0 (ix1 ⟨t.val, ht⟩)).toNat = _).symm)
  refine Eq.trans ?_ hr.symm
  rw [htile, ← nvw_eq m h]
  exact out_at m 0 (tabs m h) t ⟨_, hE⟩ (by rw [tix_eq _ t ht]; rfl) (h.2 _) r d

end Cert.Kernel2Ideal.Exp

end
-- ==== Proof.Exp.Frames.lean ====
/- The claims of the experts' call: the frames, and the two results being one. -/
module

public import proofs.«01_k».proof.Defs
public import proofs.«01_k».proof.Proof.Exp.Equation
public import proofs.«01_k».proof.Proof.Exp.Ok
public import proofs.«01_k».proof.Proof.Exp.OkK
public import proofs.«01_k».proof.Proof.Gen.Reference2Ideal.Run
public import proofs.«01_k».proof.Proof.Gen.Reference2Ideal.Read
public import proofs.«01_k».proof.Proof.Gen.Pre_tables_in_range
public import Idealize.ShloMosaic.Lib.Quiescent

@[expose] public section

noncomputable section

namespace Cert.ExpClaims

open Idealize.ShloMosaic Idealize.ShloMosaic.TcCoe Idealize.SL.Sem

/-- The kernel as printed runs from tables in range, and leaves its arguments and the counters alone. -/
theorem frame_k : Cert.quiescent_Kernel2 (hKernel2 := Cert.Kernel2.Gen.facts)
    (hPre_tables_in_range := Cert.Pre_tables_in_range.Gen.facts) := fun m ρ hpre => by
  have h := Cert.Kernel2.Exp.range_of_pre m (congrFun (hpre 0).1) (congrFun (hpre 0).2.1) (congrFun (hpre 0).2.2.1)
    (congrFun (hpre 0).2.2.2)
  exact (θ_run Cert.Kernel2.defs _ _).mono (fun r hr => ⟨fun c => (hr.1 c).2, hr.2⟩)
    (Cert.Kernel2.Exp.run (Cert.Kernel2.Exp.tabs m h) m ρ (Cert.Kernel2.Exp.tabs_eq m h))

/-- The precondition puts the tables in range. -/
theorem range_ki (m) (hpre : Cert.Pre_Kernel2Ideal (hPre_tables_in_range := Cert.Pre_tables_in_range.Gen.facts) m) :
    Cert.Kernel2Ideal.Exp.InRange (Cert.Kernel2Ideal.Exp.te m 0) (Cert.Kernel2Ideal.Exp.nv m 0) :=
  Cert.Kernel2Ideal.Exp.range_of_pre m (congrFun (hpre 0).1) (congrFun (hpre 0).2.1) (congrFun (hpre 0).2.2.1)
    (congrFun (hpre 0).2.2.2)

/-- So does the idealized kernel. -/
theorem frame_ki : Cert.quiescent_Kernel2Ideal (hKernel2Ideal := Cert.Kernel2Ideal.Gen.facts)
    (hPre_tables_in_range := Cert.Pre_tables_in_range.Gen.facts) := fun m ρ hpre => by
  have h := range_ki m hpre
  exact (θ_run Cert.Kernel2Ideal.defs _ _).mono (fun r hr => ⟨fun c => (hr.1 c).2, hr.2⟩)
    (Cert.Kernel2Ideal.Exp.run (Cert.Kernel2Ideal.Exp.tabs m h) m ρ (Cert.Kernel2Ideal.Exp.tabs_eq m h))

/-- The reference runs, and leaves its arguments and the counters alone. -/
theorem frame_ri : Cert.quiescent_Reference2Ideal (hReference2Ideal := Cert.Reference2Ideal.Gen.facts) := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- From arguments that agree, with the tables in range, both runs end with the same result. -/
theorem algebraic : Cert.algebraic_Kernel2Ideal_Reference2Ideal (hKernel2Ideal := Cert.Kernel2Ideal.Gen.facts)
    (hReference2Ideal := Cert.Reference2Ideal.Gen.facts)
    (hPre_tables_in_range := Cert.Pre_tables_in_range.Gen.facts) := by
  intro m ρ m' ρ' hpre hagree
  have hr := range_ki m hpre
  refine ⟨fun c => (Cert.Kernel2Ideal.Exp.dat0 (Cert.Kernel2Ideal.Exp.V1 m) (Cert.Kernel2Ideal.Exp.tabs m hr) c).arrAt 5
      (Cert.Kernel2Ideal.cfg0 (Cert.Kernel2Ideal.Exp.tabs m hr)).N,
    (θ_run Cert.Kernel2Ideal.defs _ _).mono (fun r h c => h.1 c)
      (Cert.Kernel2Ideal.Exp.run (Cert.Kernel2Ideal.Exp.tabs m hr) m ρ (Cert.Kernel2Ideal.Exp.tabs_eq m hr)), ?_⟩
  refine (θ_run Cert.Reference2Ideal.defs _ _).mono (fun _ h c => ⟨(h c).1.trans ?_, (h c).2⟩)
    (Cert.Reference2Ideal.Value.run (F := Ideal) m' ρ')
  refine (Cert.Reference2Ideal.Read.val_main_v50_eq (F := Ideal) _ _ _ _ _ _ _).trans ?_
  refine Eq.trans ?_ (Cert.Kernel2Ideal.Exp.arr5 m c hr).symm
  show Cert.Reference2Ideal.Read.val_main_v50 (F := Ideal)
    (m' ((c.tc : Thread Cert.Reference2Ideal.nD Cert.Reference2Ideal.τ).loc Cert.Reference2Ideal.main_arg0))
    (m' ((c.tc : Thread Cert.Reference2Ideal.nD Cert.Reference2Ideal.τ).loc Cert.Reference2Ideal.main_arg1))
    (m' ((c.tc : Thread Cert.Reference2Ideal.nD Cert.Reference2Ideal.τ).loc Cert.Reference2Ideal.main_arg2))
    (m' ((c.tc : Thread Cert.Reference2Ideal.nD Cert.Reference2Ideal.τ).loc Cert.Reference2Ideal.main_arg3))
    (m' ((c.tc : Thread Cert.Reference2Ideal.nD Cert.Reference2Ideal.τ).loc Cert.Reference2Ideal.main_arg4))
    (m' ((c.tc : Thread Cert.Reference2Ideal.nD Cert.Reference2Ideal.τ).loc Cert.Reference2Ideal.main_arg5))
    (m' ((c.tc : Thread Cert.Reference2Ideal.nD Cert.Reference2Ideal.τ).loc Cert.Reference2Ideal.main_arg6)) = _
  obtain ⟨h0, h1, h2, h3, h4, h5, h6⟩ := hagree c
  rw [h0, h1, h2, h3, h4, h5, h6]

end Cert.ExpClaims

end
-- ==== Proof.Attn.Math.lean ====
/- Arithmetic of extended reals behind the attention claim: finite sums and maxima of reals, the mean-square
   normalisation, and the identity between the two ways of forming the differential softmax average. -/
module

public import Idealize.ShloMosaic.PureOps.Ideal.Laws
public import Idealize.ShloMosaic.Lib.IdealHost

@[expose] public section

noncomputable section

namespace Cert.AttnMath

open Idealize.ShloMosaic
open scoped BigOperators

/-- The extended real is a real number. -/
def Fin' (x : EReal) : Prop := ∃ r : ℝ, x = (r : EReal)

theorem Fin'.mul {x y : EReal} : Fin' x → Fin' y → Fin' (x * y) := by
  rintro ⟨a, rfl⟩ ⟨b, rfl⟩; exact ⟨a * b, (EReal.coe_mul a b).symm⟩

theorem Fin'.add {x y : EReal} : Fin' x → Fin' y → Fin' (x + y) := by
  rintro ⟨a, rfl⟩ ⟨b, rfl⟩; exact ⟨a + b, (EReal.coe_add a b).symm⟩

theorem Fin'.neg {x : EReal} : Fin' x → Fin' (-x) := by
  rintro ⟨a, rfl⟩; exact ⟨-a, (EReal.coe_neg a).symm⟩

theorem Fin'.sub {x y : EReal} : Fin' x → Fin' y → Fin' (x - y) := by
  rintro ⟨a, rfl⟩ ⟨b, rfl⟩; exact ⟨a - b, (EReal.coe_sub a b).symm⟩

theorem Fin'.exp {x : EReal} : Fin' x → Fin' (Ideal.exp x) := by
  rintro ⟨a, rfl⟩; exact ⟨Real.exp a, rfl⟩

theorem Fin'.cos {x : EReal} : Fin' x → Fin' (Ideal.cos x) := by
  rintro ⟨a, rfl⟩; exact ⟨Real.cos a, rfl⟩

theorem Fin'.sin {x : EReal} : Fin' x → Fin' (Ideal.sin x) := by
  rintro ⟨a, rfl⟩; exact ⟨Real.sin a, rfl⟩

theorem fin'_of_abs_lt {x : EReal} (h : max x (-x) < ⊤) : Fin' x := by
  induction x with
  | bot => simp at h
  | top => simp at h
  | coe r => exact ⟨r, rfl⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.sum {ι : Type} (s : Finset ι) (f : ι → EReal) (h : ∀ i, Fin' (f i)) : Fin' (∑ i ∈ s, f i) := by
  choose g hg using h
  exact ⟨∑ i ∈ s, g i, by rw [coe_sum]; exact Finset.sum_congr rfl fun i _ => hg i⟩

theorem div_coe {a b : ℝ} (hb : b ≠ 0) : Ideal.div (a : EReal) (b : EReal) = ((a / b : ℝ) : EReal) := by
  unfold Ideal.div
  rw [if_neg (by exact_mod_cast hb), div_eq_mul_inv, EReal.coe_mul, EReal.coe_inv]

theorem rsqrt_coe_pos {a : ℝ} (ha : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (not_lt.mpr ha.le), if_neg ha.ne']

theorem mul_self_nonneg' (x : EReal) : 0 ≤ x * x := by
  induction x with
  | bot => simp
  | top => simp
  | coe r => rw [← EReal.coe_mul]; exact_mod_cast mul_self_nonneg r

/-- An entry scaled by the reciprocal root of a positive constant plus a positive multiple of the sum of squares is
    a real number, whatever the entries: an infinite entry makes the reciprocal root zero. -/
theorem fin'_normed {ι : Type} [Fintype ι] (t : ι → EReal) {c e : ℝ} (hc : 0 < c) (he : 0 < e) (i : ι) :
    Fin' (t i * Ideal.rsqrt ((∑ j, t j * t j) * (c : EReal) + (e : EReal))) := by
  by_cases h : ∀ j, Fin' (t j)
  · choose g hg using h
    have hs : (∑ j, t j * t j) = ((∑ j, g j * g j : ℝ) : EReal) := by
      rw [coe_sum]; exact Finset.sum_congr rfl fun j _ => by rw [hg j, EReal.coe_mul]
    have hp : 0 < (∑ j, g j * g j) * c + e := by
      have : 0 ≤ ∑ j, g j * g j := Finset.sum_nonneg fun j _ => mul_self_nonneg _
      positivity
    rw [hs, ← EReal.coe_mul, ← EReal.coe_add, rsqrt_coe_pos hp]
    exact Fin'.mul ⟨g i, hg i⟩ ⟨_, rfl⟩
  · push Not at h
    obtain ⟨j, hj⟩ := h
    have hjj : t j * t j = ⊤ := by
      induction ht : t j with
      | bot => simp
      | top => simp
      | coe r => exact absurd ⟨r, ht⟩ hj
    have hs : (∑ j, t j * t j) = ⊤ := by
      refine top_le_iff.mp ?_
      rw [← hjj]
      exact Finset.single_le_sum (f := fun j => t j * t j) (fun k _ => mul_self_nonneg' _) (Finset.mem_univ j)
    rw [hs, EReal.top_mul_coe_of_pos hc, EReal.top_add_coe]
    exact ⟨0, by show t i * 0 = _; simp⟩

/-- The maximum of finitely many extended reals, folded from the bottom, at an index where it is attained. -/
theorem fold_max_eq {ι : Type} [Fintype ι] (f : ι → EReal) (k : ι) (h : ∀ j, f j ≤ f k) :
    (Finset.univ : Finset ι).fold max ⊥ f = f k := by
  apply le_antisymm
  · rw [Finset.fold_max_le]; exact ⟨bot_le, fun j _ => h j⟩
  · rw [Finset.le_fold_max]; exact Or.inr ⟨k, Finset.mem_univ k, le_rfl⟩

/-- The softmax numerators of the scores `s`, the scores divided by eight. -/
def num {N : ℕ} (s : Fin N → ℝ) (k : Fin N) : ℝ := Real.exp ((s k - ⨆ j, s j) / 8)

theorem num_pos {N : ℕ} (s : Fin N → ℝ) (k : Fin N) : 0 < num s k := Real.exp_pos _

theorem exists_sup {N : ℕ} [NeZero N] (s : Fin N → ℝ) : ∃ k, (⨆ j, s j) = s k ∧ ∀ j, s j ≤ s k := by
  obtain ⟨k, hk⟩ := Finite.exists_max s
  exact ⟨k, le_antisymm (ciSup_le hk) (le_ciSup (Set.finite_range s).bddAbove k), hk⟩

/-- The base-two exponential of the scores scaled by `1 / (8 log 2)`, less their maximum. -/
theorem num_exp2 {N : ℕ} [NeZero N] (s : Fin N → ℝ) (f : Fin N → EReal)
    (hf : ∀ j, f j = ((s j * (8 * Real.log 2)⁻¹ : ℝ) : EReal)) (k : Fin N) :
    Ideal.exp2 (f k - (Finset.univ : Finset (Fin N)).fold max ⊥ f) = (num s k : EReal) := by
  obtain ⟨k₀, h₀, h₁⟩ := exists_sup s
  have hlog : 0 < Real.log 2 := Real.log_pos (by norm_num)
  have hc : 0 < (8 * Real.log 2)⁻¹ := by positivity
  rw [fold_max_eq f k₀ (fun j => by
    rw [hf, hf]; exact_mod_cast mul_le_mul_of_nonneg_right (h₁ j) hc.le), hf, hf, ← EReal.coe_sub]
  show ((Real.rpow 2 _ : ℝ) : EReal) = _
  congr 1
  rw [Real.rpow_eq_pow, Real.rpow_def_of_pos (by norm_num), num, h₀]
  congr 1
  field_simp

/-- The exponential of the scores divided by eight, less their maximum taken twice from the bottom. -/
theorem num_exp {N : ℕ} [NeZero N] (s : Fin N → ℝ) (f : Fin N → EReal)
    (hf : ∀ j, f j = ((s j / 8 : ℝ) : EReal)) (k : Fin N) :
    Ideal.exp (f k - max ⊥ ((Finset.univ : Finset (Fin N)).fold max ⊥ f)) = (num s k : EReal) := by
  obtain ⟨k₀, h₀, h₁⟩ := exists_sup s
  rw [fold_max_eq f k₀ (fun j => by
    rw [hf, hf]; exact_mod_cast div_le_div_of_nonneg_right (h₁ j) (by norm_num)), max_eq_right bot_le, hf, hf,
    ← EReal.coe_sub]
  show ((Real.exp _ : ℝ) : EReal) = _
  rw [num, h₀]
  congr 2
  ring

/-- The differential average of the values `v`: two softmax averages, the second weighted by `lam` and subtracted. -/
def davg {N : ℕ} (s₁ s₂ : Fin N → ℝ) (lam : ℝ) (v : Fin N → ℝ) : ℝ :=
  (∑ k, num s₁ k * v k) / (∑ k, num s₁ k) - lam * ((∑ k, num s₂ k * v k) / (∑ k, num s₂ k))

theorem sum_num_pos {N : ℕ} [NeZero N] (s : Fin N → ℝ) : 0 < ∑ k, num s k :=
  Finset.sum_pos (fun k _ => num_pos s k) ⟨0, Finset.mem_univ _⟩

/-- Averaging each softmax first, then subtracting. -/
theorem davg_of_outs {N : ℕ} [NeZero N] (s₁ s₂ : Fin N → ℝ) (lam : ℝ) (v : Fin N → ℝ) :
    (∑ k, (num s₁ k : EReal) * (v k : EReal)) * Ideal.div 1 (∑ k, (num s₁ k : EReal))
      - (lam : EReal) * ((∑ k, (num s₂ k : EReal) * (v k : EReal)) * Ideal.div 1 (∑ k, (num s₂ k : EReal)))
      = (davg s₁ s₂ lam v : EReal) := by
  have out : ∀ s : Fin N → ℝ, (∑ k, (num s k : EReal) * (v k : EReal)) * Ideal.div 1 (∑ k, (num s k : EReal))
      = (((∑ k, num s k * v k) / (∑ k, num s k) : ℝ) : EReal) := by
    intro s
    simp only [← EReal.coe_mul]
    rw [← coe_sum, ← coe_sum, ← EReal.coe_one, div_coe (sum_num_pos s).ne', ← EReal.coe_mul, mul_one_div]
  rw [out, out, ← EReal.coe_mul, ← EReal.coe_sub, davg]

/-- Subtracting the softmax weights first, then averaging. -/
theorem davg_of_weights {N : ℕ} [NeZero N] (s₁ s₂ : Fin N → ℝ) (lam : ℝ) (v : Fin N → ℝ) :
    (∑ k, (v k : EReal) * (Ideal.div (num s₁ k : EReal) (0 + ∑ j, (num s₁ j : EReal))
        - (lam : EReal) * Ideal.div (num s₂ k : EReal) (0 + ∑ j, (num s₂ j : EReal))))
      = (davg s₁ s₂ lam v : EReal) := by
  rw [zero_add, zero_add, ← coe_sum, ← coe_sum]
  simp only [div_coe (sum_num_pos s₁).ne', div_coe (sum_num_pos s₂).ne', ← EReal.coe_mul, ← EReal.coe_sub]
  rw [← coe_sum, davg]
  congr 1
  rw [Finset.sum_div, Finset.sum_div, Finset.mul_sum, ← Finset.sum_sub_distrib]
  exact Finset.sum_congr rfl fun k _ => by ring

/-- Multiplying by a positive literal's reciprocal is dividing by the literal. -/
theorem mul_inv_eq_div (x : EReal) {b : ℝ} (hb : b ≠ 0) : x * (((1 / b : ℝ)) : EReal) = Ideal.div x (b : EReal) := by
  unfold Ideal.div
  rw [if_neg (by exact_mod_cast hb), ← EReal.coe_inv, one_div]

end Cert.AttnMath

end
-- ==== Proof.Attn.Spec.lean ====
/- The vocabulary in which both sides of the attention claim are read at an index: the normalised and rotated queries
   and keys, the two score rows of a head, and one head's output row. -/
module

public import proofs.«01_k».proof.Proof.Attn.Math

@[expose] public section

noncomputable section

namespace Cert.AttnMath

open Idealize.ShloMosaic
open scoped BigOperators

/-- The column of lane `d` of component `c` of head `h` in a third of the projection. -/
def qcol (h : Fin 4) (c : Fin 2) (d : Fin 64) : Fin 512 := ⟨(h.val * 2 + c.val) * 64 + d.val, by omega⟩

/-- The column of lane `e` of head `h` in the value third of the projection. -/
def vcol (h : Fin 4) (e : Fin 128) : Fin 512 := ⟨h.val * 128 + e.val, by omega⟩

/-- A lane of the root-mean-square normalised vector `t`, with the gain `g`. -/
def qn (t g : Fin 64 → EReal) (d : Fin 64) : EReal :=
  t d * Ideal.rsqrt ((∑ x, t x * t x) * Ideal.ofBits .f32 0x3C800000#32 + Ideal.ofBits .f32 0x358637BD#32) * g d

/-- The lane the rotation pairs with `d`: the one half a head away. -/
def mate (d : Fin 64) : Fin 64 := ⟨(d.val + 32) % 64, by omega⟩

/-- The rotary embedding at the angles `a`. -/
def rope (y a : Fin 64 → EReal) (d : Fin 64) : EReal :=
  y d * Ideal.cos (a d) + (if d.val < 32 then -(y (mate d)) else y (mate d)) * Ideal.sin (a d)

/-- The weights of a row of scores, not yet divided by their sum, with base two. -/
def w2 (s : Fin 4096 → EReal) (k : Fin 4096) : EReal :=
  Ideal.exp2 (s k - (Finset.univ : Finset (Fin 4096)).fold max (Ideal.ofBits .f32 0xFF800000#32) s)

/-- The average of `v` under the weights of the scores `s`. -/
def avg2 (s v : Fin 4096 → EReal) : EReal := (∑ k, w2 s k * v k) * Ideal.div 1 (∑ k, w2 s k)

/-- The difference of the two averages of a head at lane `e`. -/
def diff2 (s₁ s₂ : Fin 4096 → EReal) (lam : EReal) (v : Fin 128 → Fin 4096 → EReal) (e : Fin 128) : EReal :=
  avg2 s₁ (v e) - lam * avg2 s₂ (v e)

/-- The normalised and scaled lane `e` of a head's row `o`. -/
def headOut (o g : Fin 128 → EReal) (e : Fin 128) : EReal :=
  o e * Ideal.rsqrt (Ideal.div (∑ x, o x * o x) (Ideal.ofBits .f32 0x43000000#32) + Ideal.ofBits .f32 0x358637BD#32)
    * g e * Ideal.ofBits .f32 0x3F4CCCCD#32

/-- The weight of the second average. -/
def lamOf (q1 k1 q2 k2 : Fin 64 → EReal) : EReal :=
  Ideal.exp (∑ x, q1 x * k1 x) - Ideal.exp (∑ x, q2 x * k2 x) + Ideal.ofBits .f32 0x3E4CCCCD#32

/-- The angle of position `n` at frequency `j`. -/
def angk (n j : ℕ) : EReal :=
  FloatOps.sitofp (F := Ideal) .f32 (BitVec.ofNat 32 n) *
    Ideal.div 1 (Ideal.pow (Ideal.ofBits .f32 0x461C4000#32)
      (Ideal.div (Ideal.ofBits .f32 0x40000000#32 * FloatOps.sitofp (F := Ideal) .f32 (BitVec.ofNat 32 j))
        (Ideal.ofBits .f32 0x42800000#32)))

/-- The angle of position `n` at lane `d`: the two halves of a component have the same frequencies. -/
def ang (n : ℕ) (d : Fin 64) : EReal := angk n (d.val % 32)

theorem ang_split (n : ℕ) (d : Fin 64) :
    (if _ : d.val < 32 then angk n d.val else angk n (d.val - 32)) = ang n d := by
  unfold ang
  split
  · rw [Nat.mod_eq_of_lt ‹_›]
  · rw [show d.val % 32 = d.val - 32 by omega]

end Cert.AttnMath

end
-- ==== Proof.Attn.Block1.lean ====
/- The attention call's output block, read at an index: each of the four stored heads is `headOut` of the difference of
   the two averages. -/
module

public import proofs.«01_k».proof.Proof.Gen.KernelIdeal.Frame
public import proofs.«01_k».proof.Proof.Attn.Spec
public import Idealize.ShloMosaic.Lib.Pipeline.ValueKit

@[expose] public section

set_option maxRecDepth 16384

noncomputable section

namespace Cert.KernelIdeal.Attn

open Idealize.ShloMosaic Idealize.ShloMosaic.TcCoe
open Cert.KernelIdeal.Gen Cert.AttnMath

/-- The score row of component `c` of head `h` at query row `r` of the block. -/
def sblk (x0 : Vec Ideal S1x256x512 .bf16) (x1 : Vec Ideal S1x512x4096 .bf16) (r : Fin 256) (h : Fin 4) (c : Fin 2)
    (k : Fin 4096) : EReal :=
  ∑ d : Fin 64, x0 (ix3 0 r (qcol h c d)) * x1 (ix3 0 (qcol h c d) k)

/-- The weight of the second average, from the stacked vectors. -/
def lamb (x3 : Vec Ideal S4x64 .f32) : EReal :=
  lamOf (fun d => x3 (ix2 0 d)) (fun d => x3 (ix2 1 d)) (fun d => x3 (ix2 2 d)) (fun d => x3 (ix2 3 d))

/-- The block's value at row `r`, head `h`, lane `e`. -/
def hblk (x0 : Vec Ideal S1x256x512 .bf16) (x1 : Vec Ideal S1x512x4096 .bf16) (x2 : Vec Ideal S1x4096x512 .bf16)
    (x3 : Vec Ideal S4x64 .f32) (x4 : Vec Ideal S1x128 .f32) (r : Fin 256) (h : Fin 4) (e : Fin 128) : EReal :=
  headOut (diff2 (sblk x0 x1 r h 0) (sblk x0 x1 r h 1) (lamb x3) (fun e k => x2 (ix3 0 k (vcol h e))))
    (fun e => x4 (ix2 0 e)) e

variable (x0 : Vec Ideal S1x256x512 .bf16) (x1 : Vec Ideal S1x512x4096 .bf16) (x2 : Vec Ideal S1x4096x512 .bf16)
  (x3 : Vec Ideal S4x64 .f32) (x4 : Vec Ideal S1x128 .f32)

theorem qcol_zero (d : Fin 64) : qcol 0 0 d = ⟨d.val, by omega⟩ :=
  Fin.ext (show (0 * 2 + 0) * 64 + d.val = d.val by omega)

theorem vcol_zero (e : Fin 128) : vcol 0 e = ⟨e.val, by omega⟩ :=
  Fin.ext (show 0 * 128 + e.val = e.val by omega)

theorem ix_of_piece {r : Fin 256} {h h' : Fin 4} {e : Fin 128} (x : S1x256x128.Idx)
    (h1 : r.val = (x 1).val) (h2 : (vcol h e).val = h'.val * 128 + (x 2).val) : h = h' ∧ x = ix3 0 r e := by
  have h3 : (x 2).val < 128 := (x 2).isLt
  have h0 : (x 0).val < 1 := (x 0).isLt
  have h4 : h.val * 128 + e.val = h'.val * 128 + (x 2).val := h2
  refine ⟨Fin.ext (by omega), ?_⟩
  rw [eq_ix3 x]
  exact congr (congr (congrArg _ (Fin.ext (show (x 0).val = 0 by omega))) (Fin.ext h1.symm))
    (Fin.ext (show (x 2).val = e.val by omega))

theorem out1_5_apply (r : Fin 256) (h : Fin 4) (e : Fin 128) :
    out1_5 x0 x1 x2 x3 x4 (ix3 0 r (vcol h e)) = hblk x0 x1 x2 x3 x4 r h e := by
  unfold_out out1_5
  canon_tiles x hx
  · obtain ⟨rfl, rfl⟩ := ix_of_piece (h' := 3) x hx1 hx2
    pointwise [k1_pay1, k1_pay19, k1_pay20, k1_pay2, k1_pay3, k1_pay17, k1_pay18, k1_pay4]
    rfl
  · obtain ⟨rfl, rfl⟩ := ix_of_piece (h' := 2) x hx1 hx2
    pointwise [k1_pay16, k1_pay13, k1_pay14, k1_pay15, k1_pay2, k1_pay3, k1_pay4]
    rfl
  · obtain ⟨rfl, rfl⟩ := ix_of_piece (h' := 1) x hx1 hx2
    pointwise [k1_pay12, k1_pay10, k1_pay11, k1_pay2, k1_pay3, k1_pay4]
    rfl
  · obtain ⟨rfl, rfl⟩ := ix_of_piece (h' := 0) x hx1 (hx2.trans (Nat.zero_add _).symm)
    pointwise [k1_pay9, k1_pay5, k1_pay6, k1_pay7, k1_pay8, k1_pay2, k1_pay3, k1_pay4]
    simp only [hblk, headOut, diff2, avg2, sblk, qcol_zero, vcol_zero]
    rfl

end Cert.KernelIdeal.Attn

end
-- ==== Proof.Attn.Block0.lean ====
/- The preparing call's two output blocks, read at an index: the queries and the keys normalised over the lanes of a
   head's component and rotated. -/
module

public import proofs.«01_k».proof.Proof.Gen.KernelIdeal.Frame
public import proofs.«01_k».proof.Proof.Attn.Spec
public import Idealize.ShloMosaic.Lib.Pipeline.ValueKit

@[expose] public section

set_option maxRecDepth 16384

noncomputable section

namespace Cert.KernelIdeal.Attn

open Idealize.ShloMosaic Idealize.ShloMosaic.TcCoe
open Cert.KernelIdeal.Gen Cert.AttnMath

/-- The scale of the queries: an eighth of the base-two logarithm of `e`. -/
def qs : EReal := Named.named (F := Ideal) (φ := .f32) κ "q_scale" 0x3E38AA3B#32

/-- A sum over the columns against the indicator of one component's lanes is the sum over its lanes. -/
theorem sum_group (F : Fin 512 → EReal) (h : Fin 4) (c : Fin 2) :
    (∑ x : Fin 512, F x * (if x.val / 64 = h.val * 2 + c.val then 1 else 0)) = ∑ d : Fin 64, F (qcol h c d) := by
  simp only [mul_ite, mul_one, mul_zero]
  rw [← Finset.sum_filter]
  refine Finset.sum_nbij' (fun x => ⟨x.val % 64, Nat.mod_lt _ (by norm_num)⟩) (fun d => qcol h c d) ?_ ?_ ?_ ?_ ?_
  · intro x _; exact Finset.mem_univ _
  · intro d _
    refine Finset.mem_filter.mpr ⟨Finset.mem_univ _, ?_⟩
    show ((h.val * 2 + c.val) * 64 + d.val) / 64 = _
    omega
  · intro x hx
    have := (Finset.mem_filter.mp hx).2
    refine Fin.ext ?_
    show (h.val * 2 + c.val) * 64 + x.val % 64 = x.val
    omega
  · intro d _
    refine Fin.ext ?_
    show ((h.val * 2 + c.val) * 64 + d.val) % 64 = d.val
    omega
  · intro x hx
    have := (Finset.mem_filter.mp hx).2
    refine congrArg F (Fin.ext ?_)
    show x.val = (h.val * 2 + c.val) * 64 + x.val % 64
    omega

/-- The mask of the lanes in the first half of their component. -/
theorem mask_apply (x0 x1 : Vec Ideal S1x512x512 .bf16) (x2 x3 : Vec Ideal S512x512 .f32) (x4 x5 : Vec Ideal S1x512 .f32)
    (x6 : Vec Ideal S512x512 .bf16) (r l : Fin 512) :
    k0_pay10 x0 x1 x2 x3 x4 x5 x6 (ix2 r l) = if l.val % 64 < 32 then 1#1 else 0#1 := by
  pointwise [k0_pay10, k0_pay2]
  revert l
  decide +kernel

theorem ix_of_whole {r l : Fin 512} (x : S1x512x512.Idx) (h1 : r.val = (x 1).val) (h2 : l.val = (x 2).val) :
    x = ix3 0 r l := by
  have h0 : (x 0).val < 1 := (x 0).isLt
  rw [eq_ix3 x]
  exact congr (congr (congrArg _ (Fin.ext (show (x 0).val = 0 by omega))) (Fin.ext h1.symm)) (Fin.ext h2.symm)

/-- The normalised lane: the sum over the lanes of the component is the product with the indicator. -/
theorem pay3_apply (x0 : Vec Ideal S1x512x512 .bf16) (x4 : Vec Ideal S1x512 .f32) (x6 : Vec Ideal S512x512 .bf16)
    (hs : ∀ x l : Fin 512, x6 (ix2 x l) = if x.val / 64 = l.val / 64 then 1 else 0)
    (g : Fin 64 → EReal) (hg : ∀ h c d, x4 (ix2 0 (qcol h c d)) = g d)
    (r : Fin 512) (h : Fin 4) (c : Fin 2) (d : Fin 64) :
    k0_pay3 (View.ld x0 r0_0) (View.ld x4 r0_1) (View.ld x6 r0_2) (ix2 r (qcol h c d)) = qn (fun d => x0 (ix3 0 r (qcol h c d))) g d := by
  have hdiv : (qcol h c d).val / 64 = h.val * 2 + c.val := by
    show ((h.val * 2 + c.val) * 64 + d.val) / 64 = _
    omega
  pointwise [k0_pay3]
  simp only [hs, hdiv, hg]
  rw [sum_group (fun x => x0 (ix3 0 r x) * x0 (ix3 0 r x))]
  rfl

theorem mate_lt {d : Fin 64} (hd : d.val < 32) (h : Fin 4) (c : Fin 2) (p) :
    (⟨((qcol h c d).val + 512 - 480) % 512, p⟩ : Fin 512) = qcol h c (mate d) := by
  refine Fin.ext ?_
  show ((h.val * 2 + c.val) * 64 + d.val + 512 - 480) % 512 = (h.val * 2 + c.val) * 64 + (d.val + 32) % 64
  omega

theorem mate_ge {d : Fin 64} (hd : ¬ d.val < 32) (h : Fin 4) (c : Fin 2) (p) :
    (⟨((qcol h c d).val + 512 - 32) % 512, p⟩ : Fin 512) = qcol h c (mate d) := by
  refine Fin.ext ?_
  show ((h.val * 2 + c.val) * 64 + d.val + 512 - 32) % 512 = (h.val * 2 + c.val) * 64 + (d.val + 32) % 64
  omega

theorem qcol_mod (h : Fin 4) (c : Fin 2) (d : Fin 64) : (qcol h c d).val % 64 = d.val := by
  show ((h.val * 2 + c.val) * 64 + d.val) % 64 = _
  omega

/-- The sign folded into the sine is the sign of the rotated lane. -/
theorem rot_sign (d : Fin 64) (y s : EReal) :
    y * (s * (if d.val < 32 then -1 else 1)) = (if d.val < 32 then -y else y) * s := by
  split
  · rw [mul_neg, mul_one, mul_neg, EReal.neg_mul]
  · rw [mul_one]

/-- The rotated lane, chosen by the mask between the two rolls, times the signed sine. -/
theorem rot_eq (x0 : Vec Ideal S1x512x512 .bf16) (x4 : Vec Ideal S1x512 .f32) (x6 : Vec Ideal S512x512 .bf16)
    (hs : ∀ x l : Fin 512, x6 (ix2 x l) = if x.val / 64 = l.val / 64 then 1 else 0)
    (g : Fin 64 → EReal) (hg : ∀ h c d, x4 (ix2 0 (qcol h c d)) = g d)
    (r : Fin 512) (h : Fin 4) (c : Fin 2) (d : Fin 64) (s : EReal) (p q) :
    Scalar.select (if d.val < 32 then 1#1 else 0#1)
        (k0_pay3 (View.ld x0 r0_0) (View.ld x4 r0_1) (View.ld x6 r0_2) (ix2 r ⟨((qcol h c d).val + 512 - 480) % 512, p⟩))
        (k0_pay3 (View.ld x0 r0_0) (View.ld x4 r0_1) (View.ld x6 r0_2) (ix2 r ⟨((qcol h c d).val + 512 - 32) % 512, q⟩))
      * (s * (if d.val < 32 then -1 else 1))
    = (if d.val < 32 then -(qn (fun d => x0 (ix3 0 r (qcol h c d))) g (mate d))
        else qn (fun d => x0 (ix3 0 r (qcol h c d))) g (mate d)) * s := by
  rw [← rot_sign]
  congr 1
  by_cases hd : d.val < 32
  · rw [if_pos hd, mate_lt hd, pay3_apply _ _ _ hs g hg]; rfl
  · rw [if_neg hd, mate_ge hd, pay3_apply _ _ _ hs g hg]; rfl

section
variable (x0 x1 : Vec Ideal S1x512x512 .bf16) (x2 x3 : Vec Ideal S512x512 .f32) (x4 x5 : Vec Ideal S1x512 .f32)
  (x6 : Vec Ideal S512x512 .bf16)
  (hs : ∀ x l : Fin 512, x6 (ix2 x l) = if x.val / 64 = l.val / 64 then 1 else 0)
  (a : Fin 512 → Fin 64 → EReal)
  (hc : ∀ r h c d, x2 (ix2 r (qcol h c d)) = Ideal.cos (a r d))
  (hn : ∀ r h c d, x3 (ix2 r (qcol h c d)) = Ideal.sin (a r d) * (if d.val < 32 then -1 else 1))
  (g : Fin 64 → EReal)
include hs hc hn

theorem out0_7_apply (hg : ∀ h c d, x4 (ix2 0 (qcol h c d)) = g d) (r : Fin 512) (h : Fin 4) (c : Fin 2) (d : Fin 64) :
    (out0_7 x0 x1 x2 x3 x4 x5 x6 (ix3 0 r (qcol h c d)) : EReal)
      = rope (qn (fun d => x0 (ix3 0 r (qcol h c d))) g) (a r) d * qs := by
  unfold out0_7
  canon_tiles x hx
  obtain rfl := ix_of_whole x hx1 hx2
  pointwise [k0_pay6, k0_pay4, k0_pay5]
  rw [mask_apply, pay3_apply _ _ _ hs g hg, hc, hn, qcol_mod, rot_eq _ _ _ hs g hg]
  rfl

theorem out0_8_apply (hg : ∀ h c d, x5 (ix2 0 (qcol h c d)) = g d) (r : Fin 512) (h : Fin 4) (c : Fin 2) (d : Fin 64) :
    out0_8 x0 x1 x2 x3 x4 x5 x6 (ix3 0 (qcol h c d) r)
      = rope (qn (fun d => x1 (ix3 0 r (qcol h c d))) g) (a r) d := by
  unfold out0_8
  canon_tiles x hx
  obtain rfl := ix_of_whole x hx1 hx2
  pointwise [k0_pay1, k0_pay8, k0_pay9]
  rw [show k0_pay7 (View.ld x1 r0_0) (View.ld x5 r0_1) (View.ld x6 r0_2)
    = k0_pay3 (View.ld x1 r0_0) (View.ld x5 r0_1) (View.ld x6 r0_2) from rfl]
  rw [mask_apply, pay3_apply _ _ _ hs g hg, hc, hn, qcol_mod, rot_eq _ _ _ hs g hg]
  rfl

end

end Cert.KernelIdeal.Attn

end
-- ==== Proof.Attn.Host.lean ====
/- The arrays the two calls find: the rotary tables, the tiled gains, the indicator of a component's lanes, the stacked
   vectors and the last gain, each read at an index from the arguments. -/
module

public import proofs.«01_k».proof.Proof.Gen.KernelIdeal.Frame
public import proofs.«01_k».proof.Proof.Attn.Spec
public import Idealize.ShloMosaic.Lib.Pipeline.ValueKit

@[expose] public section

set_option maxRecDepth 16384

noncomputable section

namespace Cert.KernelIdeal.Attn

open Idealize.ShloMosaic Idealize.ShloMosaic.TcCoe
open Cert.KernelIdeal.Gen Cert.AttnMath

theorem ofBits_neg_one : Ideal.ofBits .f32 0xBF800000#32 = (-1 : EReal) := by
  simp [Ideal.ofBits, Ideal.ieee, -EReal.coe_mul]
  norm_num

theorem qcol_lane (h : Fin 4) (c : Fin 2) (d : Fin 64) (p) : (⟨(qcol h c d).val % 64, p⟩ : Fin 64) = d :=
  Fin.ext (by
    show ((h.val * 2 + c.val) * 64 + d.val) % 64 = d.val
    omega)

section
variable (X : Valuation τ sig (Elt Ideal))

theorem h0_v17 (n : Fin 4096) (d : Fin 64) :
    (StableHlo.after hostOps0 X (Proc.devRef .tc main_v17) : Vec Ideal S4096x64 .f32) (ix2 n d) = ang n.val d := by
  rw [← ang_split]
  unfold_abbrev_sides
  after_results
  pointwise
  rfl

theorem h0_v20 (d : Fin 64) :
    (StableHlo.after hostOps0 X (Proc.devRef .tc main_v20) : Vec Ideal S64 .i1) (ix1 d)
      = if d.val < 32 then 1#1 else 0#1 := by
  unfold_abbrev_sides
  after_results
  pointwise
  show (IntOp.cmpi CmpIPredicate.slt (BitVec.ofNat 32 d.val) 32#32 : BitVec 1) = _
  exact (by decide +kernel : ∀ d : Fin 64, (IntOp.cmpi CmpIPredicate.slt (BitVec.ofNat 32 d.val) 32#32 : BitVec 1)
    = if d.val < 32 then 1#1 else 0#1) d

theorem h0_cst4 : (StableHlo.after hostOps0 X (Proc.devRef .tc main_cst_4) : Vec Ideal S_ .f32)
    = fun _ => Ideal.ofBits .f32 0xBF800000#32 := by
  unfold_abbrev_sides
  after_results
  rfl

theorem h0_cst5 : (StableHlo.after hostOps0 X (Proc.devRef .tc main_cst_5) : Vec Ideal S_ .f32)
    = fun _ => Ideal.ofBits .f32 0x3F800000#32 := by
  unfold_abbrev_sides
  after_results
  rfl

theorem h1_v21 (d : Fin 64) :
    (StableHlo.after hostOps0_1 X (Proc.devRef .tc main_v21) : Vec Ideal S64 .f32) (ix1 d)
      = Scalar.select ((X (Proc.devRef .tc main_v20) : Vec Ideal S64 .i1) (ix1 d))
          ((X (Proc.devRef .tc main_cst_4) : Vec Ideal S_ .f32) ix0)
          ((X (Proc.devRef .tc main_cst_5) : Vec Ideal S_ .f32) ix0) := by
  unfold_abbrev_sides
  after_results
  simp only [StableHlo.TRef.ofBuf_toBuf, StableHlo.TRef.ofBuf, StableHlo.TRef.toBuf, cast_eq]
  pointwise

theorem h2_v26 (n : Fin 4096) (h : Fin 4) (c : Fin 2) (d : Fin 64) :
    (StableHlo.after hostOps0_2 X (Proc.devRef .tc main_v26) : Vec Ideal S4096x512 .f32) (ix2 n (qcol h c d))
      = Ideal.cos ((X (Proc.devRef .tc main_v17) : Vec Ideal S4096x64 .f32) (ix2 n d)) := by
  unfold_abbrev_sides
  after_results
  pointwise
  rw [qcol_lane]

theorem h2_v33 (n : Fin 4096) (h : Fin 4) (c : Fin 2) (d : Fin 64) :
    (StableHlo.after hostOps0_2 X (Proc.devRef .tc main_v33) : Vec Ideal S4096x512 .f32) (ix2 n (qcol h c d))
      = Ideal.sin ((X (Proc.devRef .tc main_v17) : Vec Ideal S4096x64 .f32) (ix2 n d))
        * (X (Proc.devRef .tc main_v21) : Vec Ideal S64 .f32) (ix1 d) := by
  unfold_abbrev_sides
  after_results
  pointwise
  rw [qcol_lane]
  rfl

theorem h2_v34 (l : Fin 512) :
    (StableHlo.after hostOps0_2 X (Proc.devRef .tc main_v34) : Vec Ideal S512 .i32) (ix1 l) = BitVec.ofNat 32 l.val := by
  unfold_abbrev_sides
  after_results
  pointwise

theorem h2_v35 (l : Fin 512) :
    (StableHlo.after hostOps0_2 X (Proc.devRef .tc main_v35) : Vec Ideal S512x1 .i32) (ix2 l 0)
      = BitVec.ofNat 32 l.val := by
  unfold_abbrev_sides
  after_results
  pointwise

theorem h2_c6 :
    (StableHlo.after hostOps0_2 X (Proc.devRef .tc main_c_6) : Vec Ideal S_ .i32) = fun _ => 64#32 := by
  unfold_abbrev_sides
  after_results
  rfl

theorem fdiv_eq (l : Fin 512) : (Scalar.select
      (IntOp.andi
        (IntOp.cmpi CmpIPredicate.ne
          (if BitVec.ofNat 32 l.val = 0 then 0 else if BitVec.msb (BitVec.ofNat 32 l.val) = true then -1 else 1 : BitVec 32)
          (if (64#32 : BitVec 32) = 0 then 0 else if BitVec.msb 64#32 = true then -1 else 1))
        (IntOp.cmpi CmpIPredicate.ne (IntOp.remsi ArithUnit.host (BitVec.ofNat 32 l.val) 64#32) 0#32))
      (IntOp.subi (IntOp.divsi ArithUnit.host (BitVec.ofNat 32 l.val) 64#32) 1#32)
      (IntOp.divsi ArithUnit.host (BitVec.ofNat 32 l.val) 64#32) : BitVec 32)
    = BitVec.ofNat 32 (l.val / 64) := by
  revert l
  decide +kernel

theorem h3_v36 (h35 : ∀ l : Fin 512, (X (Proc.devRef .tc main_v35) : Vec Ideal S512x1 .i32) (ix2 l 0) = BitVec.ofNat 32 l.val)
    (h6 : (X (Proc.devRef .tc main_c_6) : Vec Ideal S_ .i32) = fun _ => 64#32) (l : Fin 512) :
    (StableHlo.after hostOps0_3 X (Proc.devRef .tc main_v36) : Vec Ideal S512x1 .i32) (ix2 l 0)
      = BitVec.ofNat 32 (l.val / 64) := by
  unfold_abbrev_sides
  after_results
  simp only [StableHlo.TRef.ofBuf_toBuf, StableHlo.TRef.ofBuf, StableHlo.TRef.toBuf, cast_eq]
  pointwise
  rw [id, h35, h6]
  exact fdiv_eq l

theorem h5_v38 (h37 : ∀ l : Fin 512, (X (Proc.devRef .tc main_v37) : Vec Ideal S1x512 .i32) (ix2 0 l) = BitVec.ofNat 32 l.val)
    (h7 : (X (Proc.devRef .tc main_c_7) : Vec Ideal S_ .i32) = fun _ => 64#32) (l : Fin 512) :
    (StableHlo.after hostOps0_5 X (Proc.devRef .tc main_v38) : Vec Ideal S1x512 .i32) (ix2 0 l)
      = BitVec.ofNat 32 (l.val / 64) := by
  unfold_abbrev_sides
  after_results
  simp only [StableHlo.TRef.ofBuf_toBuf, StableHlo.TRef.ofBuf, StableHlo.TRef.toBuf, cast_eq]
  pointwise
  rw [id, h37, h7]
  exact fdiv_eq l

theorem h4_v37 (l : Fin 512) :
    (StableHlo.after hostOps0_4 X (Proc.devRef .tc main_v37) : Vec Ideal S1x512 .i32) (ix2 0 l)
      = (X (Proc.devRef .tc main_v34) : Vec Ideal S512 .i32) (ix1 l) := by
  unfold_abbrev_sides
  after_results
  pointwise

theorem h4_c7 :
    (StableHlo.after hostOps0_4 X (Proc.devRef .tc main_c_7) : Vec Ideal S_ .i32) = fun _ => 64#32 := by
  unfold_abbrev_sides
  after_results
  rfl

theorem h6_v46 (h : Fin 4) (c : Fin 2) (d : Fin 64) :
    (StableHlo.after hostOps0_6 X (Proc.devRef .tc main_v46) : Vec Ideal S1x512 .f32) (ix2 0 (qcol h c d))
      = (X (Proc.devRef .tc main_arg1) : Vec Ideal S64 .f32) (ix1 d) := by
  unfold_abbrev_sides
  after_results
  pointwise
  exact congrArg (fun i => X (Proc.tc.devRef main_arg1) (ix1 i)) (Fin.ext (by
    show ((h.val * 2 + c.val) * 64 + d.val) % 64 = d.val
    omega))

theorem h6_v50 (h : Fin 4) (c : Fin 2) (d : Fin 64) :
    (StableHlo.after hostOps0_6 X (Proc.devRef .tc main_v50) : Vec Ideal S1x512 .f32) (ix2 0 (qcol h c d))
      = (X (Proc.devRef .tc main_arg2) : Vec Ideal S64 .f32) (ix1 d) := by
  unfold_abbrev_sides
  after_results
  pointwise
  exact congrArg (fun i => X (Proc.tc.devRef main_arg2) (ix1 i)) (Fin.ext (by
    show ((h.val * 2 + c.val) * 64 + d.val) % 64 = d.val
    omega))

theorem h6_v42 (h36 : ∀ l : Fin 512, (X (Proc.devRef .tc main_v36) : Vec Ideal S512x1 .i32) (ix2 l 0) = BitVec.ofNat 32 (l.val / 64))
    (h38 : ∀ l : Fin 512, (X (Proc.devRef .tc main_v38) : Vec Ideal S1x512 .i32) (ix2 0 l) = BitVec.ofNat 32 (l.val / 64))
    (x l : Fin 512) :
    ((StableHlo.after hostOps0_6 X (Proc.devRef .tc main_v42) : Vec Ideal S512x512 .bf16) (ix2 x l) : EReal)
      = (if x.val / 64 = l.val / 64 then (1 : EReal) else (0 : EReal)) := by
  unfold_abbrev_sides
  after_results
  pointwise
  rw [h36, h38]
  have key : ∀ a b : Fin 8, (IntOp.cmpi CmpIPredicate.eq (BitVec.ofNat 32 a.val) (BitVec.ofNat 32 b.val) : BitVec 1)
      = if a.val = b.val then 1#1 else 0#1 := by decide +kernel
  have k := key ⟨x.val / 64, by omega⟩ ⟨l.val / 64, by omega⟩
  simp only at k
  rw [k]
  split
  · show (((1#1 : BitVec 1).toNat : ℝ) : EReal) = 1
    norm_num
  · show (((0#1 : BitVec 1).toNat : ℝ) : EReal) = 0
    norm_num

theorem h7_v57 (e : Fin 128) :
    (StableHlo.after hostOps1 X (Proc.devRef .tc main_v57) : Vec Ideal S1x128 .f32) (ix2 0 e)
      = (X (Proc.devRef .tc main_arg7) : Vec Ideal S128 .f32) (ix1 e) := by
  unfold_abbrev_sides
  after_results
  pointwise

theorem h7_v56_0 (d : Fin 64) :
    (StableHlo.after hostOps1 X (Proc.devRef .tc main_v56) : Vec Ideal S4x64 .f32) (ix2 0 d)
      = (X (Proc.devRef .tc main_arg3) : Vec Ideal S64 .f32) (ix1 d) := by
  unfold_abbrev_sides
  after_results
  pointwise
  repeat (first | rw [StableHlo.unary_result] | (rw [StableHlo.unary_result_ne]; rotate_left; decide))
  pointwise

theorem h7_v56_1 (d : Fin 64) :
    (StableHlo.after hostOps1 X (Proc.devRef .tc main_v56) : Vec Ideal S4x64 .f32) (ix2 1 d)
      = (X (Proc.devRef .tc main_arg4) : Vec Ideal S64 .f32) (ix1 d) := by
  unfold_abbrev_sides
  after_results
  pointwise
  repeat (first | rw [StableHlo.unary_result] | (rw [StableHlo.unary_result_ne]; rotate_left; decide))
  pointwise

theorem h7_v56_2 (d : Fin 64) :
    (StableHlo.after hostOps1 X (Proc.devRef .tc main_v56) : Vec Ideal S4x64 .f32) (ix2 2 d)
      = (X (Proc.devRef .tc main_arg5) : Vec Ideal S64 .f32) (ix1 d) := by
  unfold_abbrev_sides
  after_results
  pointwise
  repeat (first | rw [StableHlo.unary_result] | (rw [StableHlo.unary_result_ne]; rotate_left; decide))
  pointwise

theorem h7_v56_3 (d : Fin 64) :
    (StableHlo.after hostOps1 X (Proc.devRef .tc main_v56) : Vec Ideal S4x64 .f32) (ix2 3 d)
      = (X (Proc.devRef .tc main_arg6) : Vec Ideal S64 .f32) (ix1 d) := by
  unfold_abbrev_sides
  after_results
  pointwise
  repeat (first | rw [StableHlo.unary_result] | (rw [StableHlo.unary_result_ne]; rotate_left; decide))
  pointwise

end

section
variable (m : (ℓ : Loc nD τ sig) → Buf (Elt Ideal) ℓ) (ρ : Dev nD → PrngReg)

theorem W7_cos (c : Dev nD) (n : Fin 4096) (h : Fin 4) (k : Fin 2) (d : Fin 64) :
    (W7 m ρ c (Proc.devRef .tc main_v26) : Vec Ideal S4096x512 .f32) (ix2 n (qcol h k d)) = Ideal.cos (ang n.val d) := by
  rw [W7_of m ρ c main_v26 (by decide), W6_of m ρ c main_v26 (by decide), W5_of m ρ c main_v26 (by decide),
    W4_of m ρ c main_v26 (by decide)]
  refine (h2_v26 _ n h k d).trans ?_
  rw [W2_of m ρ c main_v17 (by decide)]
  exact congrArg Ideal.cos (h0_v17 _ n d)

theorem W7_sin (c : Dev nD) (n : Fin 4096) (h : Fin 4) (k : Fin 2) (d : Fin 64) :
    ((W7 m ρ c (Proc.devRef .tc main_v33) : Vec Ideal S4096x512 .f32) (ix2 n (qcol h k d)) : EReal)
      = Ideal.sin (ang n.val d) * (if d.val < 32 then (-1 : EReal) else (1 : EReal)) := by
  rw [W7_of m ρ c main_v33 (by decide), W6_of m ρ c main_v33 (by decide), W5_of m ρ c main_v33 (by decide),
    W4_of m ρ c main_v33 (by decide)]
  refine (h2_v33 _ n h k d).trans ?_
  rw [W2_of m ρ c main_v17 (by decide)]
  refine congr (congrArg _ (congrArg Ideal.sin (h0_v17 _ n d))) ?_
  refine (h1_v21 _ d).trans ?_
  refine (congr (congr (congrArg Scalar.select (h0_v20 (W0 m ρ c) d)) (congrFun (h0_cst4 (W0 m ρ c)) ix0))
    (congrFun (h0_cst5 (W0 m ρ c)) ix0)).trans ?_
  split
  · exact ofBits_neg_one
  · exact Ideal.ofBits_one_f32

theorem W7_gsum (c : Dev nD) (x l : Fin 512) :
    ((W7 m ρ c (Proc.devRef .tc main_v42) : Vec Ideal S512x512 .bf16) (ix2 x l) : EReal)
      = (if x.val / 64 = l.val / 64 then (1 : EReal) else (0 : EReal)) := by
  refine h6_v42 _ (fun l => ?_) (fun l => ?_) x l
  · rw [W6_of m ρ c main_v36 (by decide), W5_of m ρ c main_v36 (by decide)]
    exact h3_v36 _ (h2_v35 _) (h2_c6 _) l
  · refine h5_v38 _ (fun l => ?_) (h4_c7 _) l
    refine (h4_v37 _ l).trans ?_
    rw [W4_of m ρ c main_v34 (by decide)]
    exact h2_v34 _ l

theorem W7_gq (c : Dev nD) (h : Fin 4) (k : Fin 2) (d : Fin 64) :
    (W7 m ρ c (Proc.devRef .tc main_v46) : Vec Ideal S1x512 .f32) (ix2 0 (qcol h k d))
      = (m ((c : Thread nD τ).loc main_arg1) : Vec Ideal S64 .f32) (ix1 d) :=
  (h6_v46 _ h k d).trans (congrFun (W6_args m ρ c main_arg1 (by decide)) (ix1 d))

theorem W7_gk (c : Dev nD) (h : Fin 4) (k : Fin 2) (d : Fin 64) :
    (W7 m ρ c (Proc.devRef .tc main_v50) : Vec Ideal S1x512 .f32) (ix2 0 (qcol h k d))
      = (m ((c : Thread nD τ).loc main_arg2) : Vec Ideal S64 .f32) (ix1 d) :=
  (h6_v50 _ h k d).trans (congrFun (W6_args m ρ c main_arg2 (by decide)) (ix1 d))

theorem W9_lam0 (c : Dev nD) (d : Fin 64) :
    (W9 m ρ c (Proc.devRef .tc main_v56) : Vec Ideal S4x64 .f32) (ix2 0 d)
      = (m ((c : Thread nD τ).loc main_arg3) : Vec Ideal S64 .f32) (ix1 d) :=
  (h7_v56_0 _ d).trans (congrFun (W8_args m ρ c main_arg3 (by decide)) (ix1 d))

theorem W9_lam1 (c : Dev nD) (d : Fin 64) :
    (W9 m ρ c (Proc.devRef .tc main_v56) : Vec Ideal S4x64 .f32) (ix2 1 d)
      = (m ((c : Thread nD τ).loc main_arg4) : Vec Ideal S64 .f32) (ix1 d) :=
  (h7_v56_1 _ d).trans (congrFun (W8_args m ρ c main_arg4 (by decide)) (ix1 d))

theorem W9_lam2 (c : Dev nD) (d : Fin 64) :
    (W9 m ρ c (Proc.devRef .tc main_v56) : Vec Ideal S4x64 .f32) (ix2 2 d)
      = (m ((c : Thread nD τ).loc main_arg5) : Vec Ideal S64 .f32) (ix1 d) :=
  (h7_v56_2 _ d).trans (congrFun (W8_args m ρ c main_arg5 (by decide)) (ix1 d))

theorem W9_lam3 (c : Dev nD) (d : Fin 64) :
    (W9 m ρ c (Proc.devRef .tc main_v56) : Vec Ideal S4x64 .f32) (ix2 3 d)
      = (m ((c : Thread nD τ).loc main_arg6) : Vec Ideal S64 .f32) (ix1 d) :=
  (h7_v56_3 _ d).trans (congrFun (W8_args m ρ c main_arg6 (by decide)) (ix1 d))

theorem W9_subln (c : Dev nD) (e : Fin 128) :
    (W9 m ρ c (Proc.devRef .tc main_v57) : Vec Ideal S1x128 .f32) (ix2 0 e)
      = (m ((c : Thread nD τ).loc main_arg7) : Vec Ideal S128 .f32) (ix1 e) :=
  (h7_v57 _ e).trans (congrFun (W8_args m ρ c main_arg7 (by decide)) (ix1 e))

end

end Cert.KernelIdeal.Attn

end
-- ==== Proof.Attn.Arr0.lean ====
/- The two arrays the preparing call leaves, at an index. -/
module

public import proofs.«01_k».proof.Proof.Attn.Block0
public import proofs.«01_k».proof.Proof.Attn.Host

@[expose] public section

set_option maxRecDepth 16384

noncomputable section

namespace Cert.KernelIdeal.Attn

open Idealize.ShloMosaic Idealize.ShloMosaic.TcCoe
open Cert.KernelIdeal.Gen Cert.AttnMath

theorem ix0_0 : ∀ t : Fin grid0.N, win0_0.index t = ![t.val / 8, t.val % 8, 0] := by decide +kernel
theorem ix0_1 : ∀ t : Fin grid0.N, win0_1.index t = ![t.val / 8, t.val % 8, 1] := by decide +kernel
theorem ix0_2 : ∀ t : Fin grid0.N, win0_2.index t = ![t.val % 8, 0] := by decide +kernel
theorem ix0_3 : ∀ t : Fin grid0.N, win0_3.index t = ![t.val % 8, 0] := by decide +kernel
theorem ix0_4 : ∀ t : Fin grid0.N, win0_4.index t = ![0, 0] := by decide +kernel
theorem ix0_5 : ∀ t : Fin grid0.N, win0_5.index t = ![0, 0] := by decide +kernel
theorem ix0_6 : ∀ t : Fin grid0.N, win0_6.index t = ![0, 0] := by decide +kernel
theorem ix0_7 : ∀ t : Fin grid0.N, win0_7.index t = ![t.val / 8, t.val % 8, 0] := by decide +kernel
theorem ix0_8 : ∀ t : Fin grid0.N, win0_8.index t = ![t.val / 8, 0, t.val % 8] := by decide +kernel

variable (m : (ℓ : Loc nD τ sig) → Buf (Elt Ideal) ℓ) (ρ : Dev nD → PrngReg)

/-- The projection, the first argument. -/
abbrev prj (c : Dev nD) : Vec Ideal S8x4096x7168 .bf16 := m ((c : Thread nD τ).loc main_arg0)

/-- A query lane, normalised and rotated. -/
def Qf (P : Vec Ideal S8x4096x7168 .bf16) (g : Vec Ideal S64 .f32) (b : Fin 8) (n : Fin 4096) (h : Fin 4) (k : Fin 2)
    (d : Fin 64) : EReal :=
  rope (qn (fun d => P (ix3 b n ⟨(qcol h k d).val, by omega⟩)) (fun d => g (ix1 d))) (ang n.val) d

/-- A key lane, normalised and rotated. -/
def Kf (P : Vec Ideal S8x4096x7168 .bf16) (g : Vec Ideal S64 .f32) (b : Fin 8) (n : Fin 4096) (h : Fin 4) (k : Fin 2)
    (d : Fin 64) : EReal :=
  rope (qn (fun d => P (ix3 b n ⟨512 + (qcol h k d).val, by omega⟩)) (fun d => g (ix1 d))) (ang n.val) d

theorem t_lt (t : Fin grid0.N) : t.val < 64 := t.isLt

/-- The row of the whole sequence that row `r` of the block at point `t` is. -/
def row0 (t : Fin grid0.N) (r : Fin 512) : Fin 4096 := ⟨t.val % 8 * 512 + r.val, by omega⟩

/-- The batch of point `t`. -/
def bat0 (t : Fin grid0.N) : Fin 8 := ⟨t.val / 8, by have := t_lt t; omega⟩

section
variable (V : (c : Dev nD) → (b : Ref sig .tc) → Buf (Elt Ideal) ((c : Thread nD τ).loc b)) (c : Dev nD) (t : Fin grid0.N)

theorem rd0_0 (r l : Fin 512) : iblk0 V c 0 t (ix3 0 r l)
    = (V c main_arg0 : Vec Ideal S8x4096x7168 .bf16) (ix3 (bat0 t) (row0 t r) ⟨l.val, by omega⟩) := by
  blk_ext [iblk0, ix0_0 t, bat0, row0]

theorem rd0_1 (r l : Fin 512) : iblk0 V c 1 t (ix3 0 r l)
    = (V c main_arg0 : Vec Ideal S8x4096x7168 .bf16) (ix3 (bat0 t) (row0 t r) ⟨512 + l.val, by omega⟩) := by
  blk_ext [iblk0, ix0_1 t, bat0, row0]

theorem rd0_2 (r l : Fin 512) : iblk0 V c 2 t (ix2 r l)
    = (V c main_v26 : Vec Ideal S4096x512 .f32) (ix2 (row0 t r) l) := by
  blk_ext [iblk0, ix0_2 t, bat0, row0]

theorem rd0_3 (r l : Fin 512) : iblk0 V c 3 t (ix2 r l)
    = (V c main_v33 : Vec Ideal S4096x512 .f32) (ix2 (row0 t r) l) := by
  blk_ext [iblk0, ix0_3 t, bat0, row0]

theorem rd0_4 (l : Fin 512) : iblk0 V c 4 t (ix2 0 l) = (V c main_v46 : Vec Ideal S1x512 .f32) (ix2 0 l) := by
  blk_ext [iblk0, ix0_4 t]

theorem rd0_5 (l : Fin 512) : iblk0 V c 5 t (ix2 0 l) = (V c main_v50 : Vec Ideal S1x512 .f32) (ix2 0 l) := by
  blk_ext [iblk0, ix0_5 t]

theorem rd0_6 (x l : Fin 512) : iblk0 V c 6 t (ix2 x l) = (V c main_v42 : Vec Ideal S512x512 .bf16) (ix2 x l) := by
  blk_ext [iblk0, ix0_6 t]

theorem em0_7 (r l : Fin 512) :
    ((win0_7.blk t).view.emb (ix3 0 r l) : S8x4096x512.Idx) = ix3 (bat0 t) (row0 t r) l := by
  blk_ext [ix0_7 t, bat0, row0]

theorem em0_8 (l r : Fin 512) :
    ((win0_8.blk t).view.emb (ix3 0 l r) : S8x512x4096.Idx) = ix3 (bat0 t) l (row0 t r) := by
  blk_ext [ix0_8 t, bat0, row0]

end

/-- A column is a lane of a component of a head. -/
theorem eq_qcol (l : Fin 512) : ∃ h k d, l = qcol h k d :=
  ⟨⟨l.val / 128, by omega⟩, ⟨l.val / 64 % 2, by omega⟩, ⟨l.val % 64, by omega⟩, Fin.ext (by
    show l.val = (l.val / 128 * 2 + l.val / 64 % 2) * 64 + l.val % 64
    omega)⟩

/-- The head, the component and the lane of a column. -/
def hOf (l : Fin 512) : Fin 4 := ⟨l.val / 128, by omega⟩
def kOf (l : Fin 512) : Fin 2 := ⟨l.val / 64 % 2, by omega⟩
def dOf (l : Fin 512) : Fin 64 := ⟨l.val % 64, by omega⟩

theorem hOf_qcol (h k d) : hOf (qcol h k d) = h := Fin.ext (by
  show ((h.val * 2 + k.val) * 64 + d.val) / 128 = _
  omega)
theorem kOf_qcol (h k d) : kOf (qcol h k d) = k := Fin.ext (by
  show ((h.val * 2 + k.val) * 64 + d.val) / 64 % 2 = _
  omega)
theorem dOf_qcol (h k d) : dOf (qcol h k d) = d := Fin.ext (by
  show ((h.val * 2 + k.val) * 64 + d.val) % 64 = _
  omega)

/-- The scaled queries as an array. -/
def Qarr (P : Vec Ideal S8x4096x7168 .bf16) (g : Vec Ideal S64 .f32) : Vec Ideal S8x4096x512 .bf16 := fun y =>
  (Qf P g (y 0) (y 1) (hOf (y 2)) (kOf (y 2)) (dOf (y 2)) * qs : EReal)

/-- The keys as an array, the columns before the rows. -/
def Karr (P : Vec Ideal S8x4096x7168 .bf16) (g : Vec Ideal S64 .f32) : Vec Ideal S8x512x4096 .bf16 := fun y =>
  (Kf P g (y 0) (y 2) (hOf (y 1)) (kOf (y 1)) (dOf (y 1)) : EReal)

theorem Qarr_apply (P g b n h k d) : (Qarr P g (ix3 b n (qcol h k d)) : EReal) = Qf P g b n h k d * qs := by
  show (Qf P g b n (hOf (qcol h k d)) (kOf (qcol h k d)) (dOf (qcol h k d)) * qs : EReal) = _
  rw [hOf_qcol, kOf_qcol, dOf_qcol]

theorem Karr_apply (P g b n h k d) : (Karr P g (ix3 b (qcol h k d) n) : EReal) = Kf P g b n h k d := by
  show (Kf P g b n (hOf (qcol h k d)) (kOf (qcol h k d)) (dOf (qcol h k d)) : EReal) = _
  rw [hOf_qcol, kOf_qcol, dOf_qcol]

theorem prj_eq (c : Dev nD) : V7 m ρ c main_arg0 = prj m c := W7_args m ρ c main_arg0 (by decide)

theorem eq_ix3_whole (y : S1x512x512.Idx) : ∃ r l, y = ix3 0 r l :=
  ⟨y 1, y 2, ix_of_whole y rfl rfl⟩

theorem arr0_7 (c : Dev nD) :
    (dat0 (V7 m ρ) c).arrAt 7 cfg0.N = Qarr (prj m c) (m ((c : Thread nD τ).loc main_arg1)) := by
  refine (dat0 (V7 m ρ) c).arrAt_eq_of_covers 7 _ (by decide +kernel) fun t hf y => ?_
  blk_simp
  rw [after0_7]
  obtain ⟨r, l, rfl⟩ := eq_ix3_whole y
  obtain ⟨h, k, d, rfl⟩ := eq_qcol l
  refine Eq.trans ?_ (congrArg (Qarr _ _) (em0_7 t r (qcol h k d))).symm
  rw [Qarr_apply]
  refine (out0_7_apply _ _ _ _ _ _ _ (fun x l => ?_) (fun r => ang (row0 t r).val) (fun r h k d => ?_) (fun r h k d => ?_)
    (fun d => (m ((c : Thread nD τ).loc main_arg1) : Vec Ideal S64 .f32) (ix1 d)) (fun h k d => ?_) r h k d).trans ?_
  · rw [rd0_6]; exact W7_gsum m ρ c x l
  · rw [rd0_2]; exact W7_cos m ρ c _ h k d
  · rw [rd0_3]; exact W7_sin m ρ c _ h k d
  · rw [rd0_4]; exact W7_gq m ρ c h k d
  · simp only [rd0_0, prj_eq]
    rfl

theorem arr0_8 (c : Dev nD) :
    (dat0 (V7 m ρ) c).arrAt 8 cfg0.N = Karr (prj m c) (m ((c : Thread nD τ).loc main_arg2)) := by
  refine (dat0 (V7 m ρ) c).arrAt_eq_of_covers 8 _ (by decide +kernel) fun t hf y => ?_
  blk_simp
  rw [after0_8]
  obtain ⟨l, r, rfl⟩ := eq_ix3_whole y
  obtain ⟨h, k, d, rfl⟩ := eq_qcol l
  refine Eq.trans ?_ (congrArg (Karr _ _) (em0_8 t (qcol h k d) r)).symm
  rw [Karr_apply]
  refine (out0_8_apply _ _ _ _ _ _ _ (fun x l => ?_) (fun r => ang (row0 t r).val) (fun r h k d => ?_) (fun r h k d => ?_)
    (fun d => (m ((c : Thread nD τ).loc main_arg2) : Vec Ideal S64 .f32) (ix1 d)) (fun h k d => ?_) r h k d).trans ?_
  · rw [rd0_6]; exact W7_gsum m ρ c x l
  · rw [rd0_2]; exact W7_cos m ρ c _ h k d
  · rw [rd0_3]; exact W7_sin m ρ c _ h k d
  · rw [rd0_5]; exact W7_gk m ρ c h k d
  · simp only [rd0_1, prj_eq]
    rfl

end Cert.KernelIdeal.Attn

end
-- ==== Proof.Attn.Arr1.lean ====
/- The array the attention call leaves, at an index. -/
module

public import proofs.«01_k».proof.Proof.Attn.Block1
public import proofs.«01_k».proof.Proof.Attn.Arr0

@[expose] public section

set_option maxRecDepth 16384

noncomputable section

namespace Cert.KernelIdeal.Attn

open Idealize.ShloMosaic Idealize.ShloMosaic.TcCoe
open Cert.KernelIdeal.Gen Cert.AttnMath

theorem ix1_0 : ∀ t : Fin grid1.N, win1_0.index t = ![t.val / 16, t.val % 16, 0] := by decide +kernel
theorem ix1_1 : ∀ t : Fin grid1.N, win1_1.index t = ![t.val / 16, 0, 0] := by decide +kernel
theorem ix1_2 : ∀ t : Fin grid1.N, win1_2.index t = ![t.val / 16, 0, 2] := by decide +kernel
theorem ix1_3 : ∀ t : Fin grid1.N, win1_3.index t = ![0, 0] := by decide +kernel
theorem ix1_4 : ∀ t : Fin grid1.N, win1_4.index t = ![0, 0] := by decide +kernel
theorem ix1_5 : ∀ t : Fin grid1.N, win1_5.index t = ![t.val / 16, t.val % 16, 0] := by decide +kernel

theorem t1_lt (t : Fin grid1.N) : t.val < 128 := t.isLt

/-- The row of the whole sequence that row `r` of the block at point `t` is. -/
def row1 (t : Fin grid1.N) (r : Fin 256) : Fin 4096 := ⟨t.val % 16 * 256 + r.val, by omega⟩

/-- The batch of point `t`. -/
def bat1 (t : Fin grid1.N) : Fin 8 := ⟨t.val / 16, by have := t1_lt t; omega⟩

section
variable (V : (c : Dev nD) → (b : Ref sig .tc) → Buf (Elt Ideal) ((c : Thread nD τ).loc b)) (c : Dev nD) (t : Fin grid1.N)

theorem rd1_0 (r : Fin 256) (l : Fin 512) : iblk1 V c 0 t (ix3 0 r l)
    = (V c main_v51_0 : Vec Ideal S8x4096x512 .bf16) (ix3 (bat1 t) (row1 t r) l) := by
  blk_ext [iblk1, ix1_0 t, bat1, row1]

theorem rd1_1 (l : Fin 512) (n : Fin 4096) : iblk1 V c 1 t (ix3 0 l n)
    = (V c main_v51_1 : Vec Ideal S8x512x4096 .bf16) (ix3 (bat1 t) l n) := by
  blk_ext [iblk1, ix1_1 t, bat1]

theorem rd1_2 (n : Fin 4096) (l : Fin 512) : iblk1 V c 2 t (ix3 0 n l)
    = (V c main_arg0 : Vec Ideal S8x4096x7168 .bf16) (ix3 (bat1 t) n ⟨1024 + l.val, by omega⟩) := by
  blk_ext [iblk1, ix1_2 t, bat1]

theorem rd1_3 (i : Fin 4) (d : Fin 64) : iblk1 V c 3 t (ix2 i d) = (V c main_v56 : Vec Ideal S4x64 .f32) (ix2 i d) := by
  blk_ext [iblk1, ix1_3 t]

theorem rd1_4 (e : Fin 128) : iblk1 V c 4 t (ix2 0 e) = (V c main_v57 : Vec Ideal S1x128 .f32) (ix2 0 e) := by
  blk_ext [iblk1, ix1_4 t]

theorem em1_5 (r : Fin 256) (l : Fin 512) :
    ((win1_5.blk t).view.emb (ix3 0 r l) : S8x4096x512.Idx) = ix3 (bat1 t) (row1 t r) l := by
  blk_ext [ix1_5 t, bat1, row1]

end

/-- The scores of component `k` of head `h` of the query row `n`. -/
def sc (P : Vec Ideal S8x4096x7168 .bf16) (gq gk : Vec Ideal S64 .f32) (b : Fin 8) (n : Fin 4096) (h : Fin 4) (k : Fin 2)
    (j : Fin 4096) : EReal :=
  ∑ d : Fin 64, (Qf P gq b n h k d * qs) * Kf P gk b j h k d

/-- The result at batch `b`, row `n`, head `h`, lane `e`. -/
def Of (P : Vec Ideal S8x4096x7168 .bf16) (gq gk q1 k1 q2 k2 : Vec Ideal S64 .f32) (g : Vec Ideal S128 .f32)
    (b : Fin 8) (n : Fin 4096) (h : Fin 4) (e : Fin 128) : EReal :=
  headOut (diff2 (sc P gq gk b n h 0) (sc P gq gk b n h 1)
      (lamOf (fun d => q1 (ix1 d)) (fun d => k1 (ix1 d)) (fun d => q2 (ix1 d)) (fun d => k2 (ix1 d)))
      (fun e j => P (ix3 b j ⟨1024 + (vcol h e).val, by omega⟩)))
    (fun e => g (ix1 e)) e

/-- The lane of a column of the result. -/
def eOf (l : Fin 512) : Fin 128 := ⟨l.val % 128, by omega⟩

theorem hOf_vcol (h e) : hOf (vcol h e) = h := Fin.ext (by
  show (h.val * 128 + e.val) / 128 = _
  omega)
theorem eOf_vcol (h e) : eOf (vcol h e) = e := Fin.ext (by
  show (h.val * 128 + e.val) % 128 = _
  omega)
theorem eq_vcol (l : Fin 512) : ∃ h e, l = vcol h e :=
  ⟨hOf l, eOf l, Fin.ext (by
    show l.val = l.val / 128 * 128 + l.val % 128
    omega)⟩

/-- The result as an array. -/
def Oarr (P : Vec Ideal S8x4096x7168 .bf16) (gq gk q1 k1 q2 k2 : Vec Ideal S64 .f32) (g : Vec Ideal S128 .f32) :
    Vec Ideal S8x4096x512 .bf16 := fun y =>
  (Of P gq gk q1 k1 q2 k2 g (y 0) (y 1) (hOf (y 2)) (eOf (y 2)) : EReal)

theorem Oarr_apply (P gq gk q1 k1 q2 k2 g b n h e) :
    (Oarr P gq gk q1 k1 q2 k2 g (ix3 b n (vcol h e)) : EReal) = Of P gq gk q1 k1 q2 k2 g b n h e := by
  show (Of P gq gk q1 k1 q2 k2 g b n (hOf (vcol h e)) (eOf (vcol h e)) : EReal) = _
  rw [hOf_vcol, eOf_vcol]

theorem eq_ix3_row (y : S1x256x512.Idx) : ∃ r l, y = ix3 0 r l := by
  refine ⟨y 1, y 2, ?_⟩
  have h0 : (y 0).val < 1 := (y 0).isLt
  conv_lhs => rw [eq_ix3 y]
  exact congr (congr (congrArg _ (Fin.ext (show (y 0).val = 0 by omega))) rfl) rfl

variable (m : (ℓ : Loc nD τ sig) → Buf (Elt Ideal) ℓ) (ρ : Dev nD → PrngReg)

theorem V9_q (c : Dev nD) : V9 m ρ c main_v51_0 = Qarr (prj m c) (m ((c : Thread nD τ).loc main_arg1)) := by
  refine (W9_of m ρ c main_v51_0 (by decide)).trans ?_
  exact (W8_arr m ρ c 7).trans (arr0_7 m ρ c)

theorem V9_k (c : Dev nD) : V9 m ρ c main_v51_1 = Karr (prj m c) (m ((c : Thread nD τ).loc main_arg2)) := by
  refine (W9_of m ρ c main_v51_1 (by decide)).trans ?_
  exact (W8_arr m ρ c 8).trans (arr0_8 m ρ c)

theorem V9_p (c : Dev nD) : V9 m ρ c main_arg0 = prj m c := W9_args m ρ c main_arg0 (by decide)

theorem arr1_5 (c : Dev nD) :
    (dat1 (V9 m ρ) c).arrAt 5 cfg1.N = Oarr (prj m c) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dat1 (V9 m ρ) c).arrAt_eq_of_covers 5 _ (by decide +kernel) fun t hf y => ?_
  blk_simp
  rw [after1_5]
  obtain ⟨r, l, rfl⟩ := eq_ix3_row y
  obtain ⟨h, e, rfl⟩ := eq_vcol l
  refine Eq.trans ?_ (congrArg (Oarr _ _ _ _ _ _ _ _) (em1_5 t r (vcol h e))).symm
  rw [Oarr_apply]
  refine (out1_5_apply _ _ _ _ _ r h e).trans ?_
  unfold hblk Of
  have hs : ∀ k, sblk (iblk1 (V9 m ρ) c 0 t) (iblk1 (V9 m ρ) c 1 t) r h k
      = sc (prj m c) (m ((c : Thread nD τ).loc main_arg1)) (m ((c : Thread nD τ).loc main_arg2)) (bat1 t) (row1 t r) h k := by
    intro k
    funext j
    unfold sblk sc
    refine Finset.sum_congr rfl fun d _ => ?_
    rw [rd1_0, rd1_1, V9_q, V9_k]
    exact congr (congrArg _ (Qarr_apply _ _ _ _ _ _ _)) (Karr_apply _ _ _ _ _ _ _)
  have hl : lamb (iblk1 (V9 m ρ) c 3 t) = lamOf (fun d => m ((c : Thread nD τ).loc main_arg3) (ix1 d))
      (fun d => m ((c : Thread nD τ).loc main_arg4) (ix1 d)) (fun d => m ((c : Thread nD τ).loc main_arg5) (ix1 d))
      (fun d => m ((c : Thread nD τ).loc main_arg6) (ix1 d)) := by
    unfold lamb
    simp only [rd1_3]
    rw [show (fun d => V9 m ρ c main_v56 (ix2 0 d)) = _ from funext (W9_lam0 m ρ c),
      show (fun d => V9 m ρ c main_v56 (ix2 1 d)) = _ from funext (W9_lam1 m ρ c),
      show (fun d => V9 m ρ c main_v56 (ix2 2 d)) = _ from funext (W9_lam2 m ρ c),
      show (fun d => V9 m ρ c main_v56 (ix2 3 d)) = _ from funext (W9_lam3 m ρ c)]
  have hg : (fun e => iblk1 (V9 m ρ) c 4 t (ix2 0 e)) = fun e => m ((c : Thread nD τ).loc main_arg7) (ix1 e) := by
    funext e
    rw [rd1_4]
    exact W9_subln m ρ c e
  have hv : (fun e k => iblk1 (V9 m ρ) c 2 t (ix3 0 k (vcol h e)))
      = fun e j => prj m c (ix3 (bat1 t) j ⟨1024 + (vcol h e).val, by omega⟩) := by
    funext e k
    rw [rd1_2, V9_p]
  rw [hs, hs, hl, hg, hv]

end Cert.KernelIdeal.Attn

end
-- ==== Proof.Attn.Run.lean ====
/- A run of the two calls: it ends with the result array `Oarr` of the arguments, which stay as they were. -/
module

public import proofs.«01_k».proof.Proof.Attn.Arr1

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.AttnMath

variable (m : (ℓ : Loc nD τ sig) → Buf (Elt Ideal) ℓ) (ρ : Dev nD → PrngReg)

set_option backward.isDefEq.respectTransparency.types false in
theorem run : θ_run defs (onTc (τ := τ) (main (F := Ideal))) ⟨m, fun _ => 0, ρ⟩ (fun r => ∀ c : Dev nD,
      r.2.mem ((c.tc : Thread nD τ).loc main_v58) = Oarr (prj m c) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ c =>
      ⟨(h c _ (mem_uc main_v58 (by decide))).trans ((W10_arr m ρ c 5).trans (arr1_5 m ρ c)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Attn

end
-- ==== Proof.Attn.Ref.lean ====
/- The reference's result at an index. -/
module

public import proofs.«01_k».proof.Proof.Gen.ReferenceIdeal.Read
public import proofs.«01_k».proof.Proof.Attn.Spec
public import Idealize.ShloMosaic.Lib.Pipeline.ValueKit

@[expose] public section

set_option maxRecDepth 16384

noncomputable section

namespace Cert.ReferenceIdeal.Attn

open Idealize.ShloMosaic Idealize.ShloMosaic.TcCoe
open Cert.ReferenceIdeal Cert.ReferenceIdeal.Read Cert.AttnMath

variable (x0 : Vec Ideal S8x4096x7168 .bf16) (x1 x2 x3 x4 x5 x6 : Vec Ideal S64 .f32) (x7 : Vec Ideal S128 .f32)

theorem r18 (n : Fin 4096) (d : Fin 64) : (val_main_v18 (F := Ideal) (ix2 n d) : EReal) = ang n.val d := by
  rw [← ang_split]
  unfold val_main_v18 val_main_v17 val_main_v16 val_main_v15 val_main_v14 val_main_v13 val_main_v12 val_main_v11
    val_main_v10 val_main_v9 val_main_v8 val_main_v7 val_main_v6 val_main_v5 val_main_v4 val_main_v3 val_main_v2
    val_main_v1 val_main_cst val_main_cst_0 val_main_cst_1 val_main_cst_2 val_main_cst_3
  pointwise
  rfl

/-- Lane `d` of component `c` of head `h` in the third of a row that begins at column `o`. -/
def lane (o : ℕ) (ho : o ≤ 1024) (h : Fin 4) (c : Fin 2) (d : Fin 64) : Fin 7168 := ⟨o + (qcol h c d).val, by omega⟩

theorem r22 (b : Fin 8) (n : Fin 4096) (h : Fin 4) (c : Fin 2) (d : Fin 64) :
    (val_main_v22 (F := Ideal) x0 (ix5 b n h c d) : EReal) = x0 (ix3 b n (lane 0 (by omega) h c d)) := by
  unfold val_main_v22 val_main_v21 val_main_v0
  pointwise
  refine congrArg x0 (congrArg (ix3 b n) (Fin.ext ?_))
  show h.val * 128 + c.val * 64 + d.val = 0 + ((h.val * 2 + c.val) * 64 + d.val)
  omega

theorem r24 (b : Fin 8) (n : Fin 4096) (h : Fin 4) (c : Fin 2) (d : Fin 64) :
    (val_main_v24 (F := Ideal) x0 (ix5 b n h c d) : EReal) = x0 (ix3 b n (lane 512 (by omega) h c d)) := by
  unfold val_main_v24 val_main_v23 val_main_v0
  pointwise
  refine congrArg x0 (congrArg (ix3 b n) (Fin.ext ?_))
  simp only [lane, qcol]
  omega

theorem r26 (b : Fin 8) (n : Fin 4096) (h : Fin 4) (e : Fin 128) :
    (val_main_v26 (F := Ideal) x0 (ix4 b n h e) : EReal) = x0 (ix3 b n ⟨1024 + (vcol h e).val, by omega⟩) := by
  unfold val_main_v26 val_main_v25 val_main_v0
  pointwise
  rfl

theorem bits_64 : Ideal.ofBits .f32 0x42800000#32 = ((64 : ℝ) : EReal) := by
  simp [Ideal.ofBits, Ideal.ieee, -EReal.coe_mul]
  norm_num

theorem bits_inv64 : Ideal.ofBits .f32 0x3C800000#32 = ((1 / 64 : ℝ) : EReal) := by
  simp [Ideal.ofBits, Ideal.ieee, -EReal.coe_mul]
  norm_num

theorem div_64 (x : EReal) : Ideal.div x (Ideal.ofBits .f32 0x42800000#32) = x * Ideal.ofBits .f32 0x3C800000#32 := by
  rw [bits_64, bits_inv64]
  exact (mul_inv_eq_div x (by norm_num)).symm

theorem r39 (b : Fin 8) (n : Fin 4096) (h : Fin 4) (c : Fin 2) (d : Fin 64) :
    (val_main_v39 (F := Ideal) x0 x1 (ix5 b n h c d) : EReal)
      = qn (fun d => x0 (ix3 b n (lane 0 (by omega) h c d))) (fun d => x1 (ix1 d)) d := by
  unfold val_main_v39 val_main_v38 val_main_v37 val_main_v36 val_main_v35 val_main_v34 val_main_v33 val_main_v32
    val_main_v31 val_main_v30 val_main_v29 val_main_v28 val_main_v27 val_main_cst_4 val_main_cst_5 val_main_cst_6
  pointwise
  simp only [r22, zero_add, div_64]
  rfl

theorem r63 (b : Fin 8) (n : Fin 4096) (h : Fin 4) (c : Fin 2) (d : Fin 64) :
    (val_main_v63 (F := Ideal) x0 x2 (ix5 b n h c d) : EReal)
      = qn (fun d => x0 (ix3 b n (lane 512 (by omega) h c d))) (fun d => x2 (ix1 d)) d := by
  unfold val_main_v63 val_main_v62 val_main_v61 val_main_v60 val_main_v59 val_main_v58 val_main_v57 val_main_v56
    val_main_v55 val_main_v54 val_main_v53 val_main_v52 val_main_v51 val_main_cst_7 val_main_cst_8 val_main_cst_9
  pointwise
  simp only [r24, zero_add, div_64]
  rfl

/-- The rotation written with the two halves of the lanes. -/
theorem rope_split (y a : Fin 64 → EReal) (d : Fin 64) :
    y d * Ideal.cos (a d) + (if h : d.val < 32 then -y ⟨32 + d.val, by omega⟩ else y ⟨d.val - 32, by omega⟩) * Ideal.sin (a d)
      = rope y a d := by
  unfold rope
  by_cases hd : d.val < 32
  · rw [dif_pos hd, if_pos hd]
    refine congrArg (fun z => _ + -y z * _) (Fin.ext ?_)
    show 32 + d.val = (d.val + 32) % 64
    omega
  · rw [dif_neg hd, if_neg hd]
    refine congrArg (fun z => _ + y z * _) (Fin.ext ?_)
    show d.val - 32 = (d.val + 32) % 64
    omega

theorem r50 (b : Fin 8) (n : Fin 4096) (h : Fin 4) (c : Fin 2) (d : Fin 64) :
    (val_main_v50 (F := Ideal) x0 x1 (ix5 b n h c d) : EReal)
      = rope (qn (fun d => x0 (ix3 b n (lane 0 (by omega) h c d))) (fun d => x1 (ix1 d))) (ang n.val) d := by
  rw [show qn (fun d => x0 (ix3 b n (lane 0 (by omega) h c d))) (fun d => x1 (ix1 d)) = _ from
    funext fun d => (r39 x0 x1 b n h c d).symm]
  unfold val_main_v50 val_main_v49 val_main_v48 val_main_v47 val_main_v46 val_main_v45 val_main_v44 val_main_v43
    val_main_v42 val_main_v41 val_main_v40 val_main_v19 val_main_v20
  pointwise
  simp only [r18]
  exact rope_split (fun d => val_main_v39 (F := Ideal) x0 x1 (ix5 b n h c d)) (ang n.val) d

theorem r74 (b : Fin 8) (n : Fin 4096) (h : Fin 4) (c : Fin 2) (d : Fin 64) :
    (val_main_v74 (F := Ideal) x0 x2 (ix5 b n h c d) : EReal)
      = rope (qn (fun d => x0 (ix3 b n (lane 512 (by omega) h c d))) (fun d => x2 (ix1 d))) (ang n.val) d := by
  rw [show qn (fun d => x0 (ix3 b n (lane 512 (by omega) h c d))) (fun d => x2 (ix1 d)) = _ from
    funext fun d => (r63 x0 x2 b n h c d).symm]
  unfold val_main_v74 val_main_v73 val_main_v72 val_main_v71 val_main_v70 val_main_v69 val_main_v68 val_main_v67
    val_main_v66 val_main_v65 val_main_v64 val_main_v19 val_main_v20
  pointwise
  simp only [r18]
  exact rope_split (fun d => val_main_v63 (F := Ideal) x0 x2 (ix5 b n h c d)) (ang n.val) d

theorem r82 (i : S_.Idx) : (val_main_v82 (F := Ideal) x3 x4 x5 x6 i : EReal)
    = lamOf (fun d => x3 (ix1 d)) (fun d => x4 (ix1 d)) (fun d => x5 (ix1 d)) (fun d => x6 (ix1 d)) := by
  unfold val_main_v82 val_main_v81 val_main_v80 val_main_v79 val_main_v78 val_main_v77 val_main_v76 val_main_v75
    val_main_cst_10 val_main_cst_11 val_main_cst_12
  pointwise
  rfl

theorem r85 (b : Fin 8) (h : Fin 4) (c : Fin 2) (n k : Fin 4096) :
    (val_main_v85 (F := Ideal) x0 x1 x2 (ix5 b h c n k) : EReal)
      = (∑ d : Fin 64, val_main_v50 (F := Ideal) x0 x1 (ix5 b n h c d) * val_main_v74 (F := Ideal) x0 x2 (ix5 b k h c d))
        * Ideal.ofBits .f32 0x3E000000#32 := by
  unfold val_main_v85 val_main_v84 val_main_v83 val_main_cst_13
  pointwise

/-- The weights of a row of scores. -/
def w1 (s : Fin 4096 → EReal) (k : Fin 4096) : EReal :=
  Ideal.exp (s k - max (Ideal.ofBits .f32 0xFF800000#32) ((Finset.univ : Finset (Fin 4096)).fold max (Ideal.ofBits .f32 0xFF800000#32) s))

/-- The scores of a row of queries. -/
def sr (b : Fin 8) (h : Fin 4) (c : Fin 2) (n k : Fin 4096) : EReal := val_main_v85 (F := Ideal) x0 x1 x2 (ix5 b h c n k)

theorem r86 (b : Fin 8) (h : Fin 4) (c : Fin 2) (n : Fin 4096) :
    (val_main_v86 (F := Ideal) x0 x1 x2 (ix4 b h c n) : EReal)
      = (Finset.univ : Finset (Fin 4096)).fold max (Ideal.ofBits .f32 0xFF800000#32) (sr x0 x1 x2 b h c n) := by
  unfold val_main_v86 sr
  generalize val_main_v85 (F := Ideal) x0 x1 x2 = y
  pointwise
  rfl

theorem i90 (b : Fin 8) (h : Fin 4) (c : Fin 2) (n k : Fin 4096) :
    idx_main_v89 (idx_main_v90 (ix5 b h c n k)) = ix4 b h c n := by
  funext a
  fin_cases a <;> rfl

theorem i95 (b : Fin 8) (h : Fin 4) (c : Fin 2) (n k : Fin 4096) :
    idx_main_v94 (idx_main_v95 (ix5 b h c n k)) = ix4 b h c n := by
  funext a
  fin_cases a <;> rfl

theorem i93 (b : Fin 8) (h : Fin 4) (c : Fin 2) (n k : Fin 4096) :
    idx_main_v93 (ix4 b h c n) k = ix5 b h c n k := by
  funext a
  fin_cases a <;> rfl

theorem r92 (b : Fin 8) (h : Fin 4) (c : Fin 2) (n k : Fin 4096) :
    (val_main_v92 (F := Ideal) x0 x1 x2 (ix5 b h c n k) : EReal) = w1 (sr x0 x1 x2 b h c n) k := by
  rw [val_main_v92_apply, val_main_v91_apply, val_main_v90_apply, val_main_v89_apply, i90, val_main_v88_apply, r86]
  rfl

theorem r96 (b : Fin 8) (h : Fin 4) (c : Fin 2) (n k : Fin 4096) :
    (val_main_v96 (F := Ideal) x0 x1 x2 (ix5 b h c n k) : EReal)
      = Ideal.div (w1 (sr x0 x1 x2 b h c n) k) (0 + ∑ j, w1 (sr x0 x1 x2 b h c n) j) := by
  rw [val_main_v96_apply, val_main_v95_apply, val_main_v94_apply, i95, val_main_v93_apply, r92]
  simp only [i93, r92]
  exact congrArg (fun z => Ideal.div _ (z + _)) Ideal.ofBits_zero_f32

theorem i105 (b : Fin 8) (n : Fin 4096) (h : Fin 4) (e : Fin 128) : idx_main_v105 (ix4 b n h e) = ix4 b h e n := by
  funext a
  fin_cases a <;> rfl

theorem l104 (b : Fin 8) (n : Fin 4096) (h : Fin 4) (e : Fin 128) (k : Fin 4096) :
    lidx_main_v104 (ix4 b h e n) k = ix4 b k h e := by
  funext a
  fin_cases a <;> rfl

theorem m104 (b : Fin 8) (n : Fin 4096) (h : Fin 4) (e : Fin 128) (k : Fin 4096) :
    ridx_main_v104 (ix4 b h e n) k = ix4 b h n k := by
  funext a
  fin_cases a <;> rfl

theorem i98 (b : Fin 8) (h : Fin 4) (n k : Fin 4096) :
    idx_main_v97 (idx_main_v98 (ix4 b h n k)) = ix5 b h 0 n k := by
  have hb : b.val < 8 := b.isLt
  have hh : h.val < 4 := h.isLt
  have hn : n.val < 4096 := n.isLt
  have hk : k.val < 4096 := k.isLt
  funext a
  fin_cases a
  all_goals refine Fin.ext ?_
  all_goals dsimp only [idx_main_v97, idx_main_v98, ix4, ix5]
  · omega
  · omega
  · rfl
  · omega
  · omega

theorem i100 (b : Fin 8) (h : Fin 4) (n k : Fin 4096) :
    idx_main_v99 (idx_main_v100 (ix4 b h n k)) = ix5 b h 1 n k := by
  have hb : b.val < 8 := b.isLt
  have hh : h.val < 4 := h.isLt
  have hn : n.val < 4096 := n.isLt
  have hk : k.val < 4096 := k.isLt
  funext a
  fin_cases a
  all_goals refine Fin.ext ?_
  all_goals dsimp only [idx_main_v99, idx_main_v100, ix4, ix5]
  · omega
  · omega
  · rfl
  · omega
  · omega

theorem r103 (b : Fin 8) (h : Fin 4) (n k : Fin 4096) :
    (val_main_v103 (F := Ideal) x0 x1 x2 x3 x4 x5 x6 (ix4 b h n k) : EReal)
      = val_main_v96 (F := Ideal) x0 x1 x2 (ix5 b h 0 n k) - lamOf (fun d => x3 (ix1 d)) (fun d => x4 (ix1 d))
        (fun d => x5 (ix1 d)) (fun d => x6 (ix1 d)) * val_main_v96 (F := Ideal) x0 x1 x2 (ix5 b h 1 n k) := by
  rw [val_main_v103_apply, val_main_v102_apply, val_main_v101_apply, val_main_v100_apply, val_main_v99_apply,
    val_main_v98_apply, val_main_v97_apply, i98, i100, r82]
  rfl

theorem r105 (b : Fin 8) (n : Fin 4096) (h : Fin 4) (e : Fin 128) :
    (val_main_v105 (F := Ideal) x0 x1 x2 x3 x4 x5 x6 (ix4 b n h e) : EReal)
      = ∑ k, x0 (ix3 b k ⟨1024 + (vcol h e).val, by omega⟩) * val_main_v103 (F := Ideal) x0 x1 x2 x3 x4 x5 x6 (ix4 b h n k) := by
  rw [val_main_v105_apply, i105, val_main_v104_apply]
  refine Finset.sum_congr rfl fun k _ => ?_
  rw [l104, m104, r26]

theorem vcol_div (h : Fin 4) (e : Fin 128) (p) : (⟨(vcol h e).val / 128, p⟩ : Fin 4) = h := Fin.ext (by
  show (h.val * 128 + e.val) / 128 = _
  omega)

theorem vcol_mod (h : Fin 4) (e : Fin 128) (p) : (⟨(vcol h e).val % 128, p⟩ : Fin 128) = e := Fin.ext (by
  show (h.val * 128 + e.val) % 128 = _
  omega)

theorem r122 (b : Fin 8) (n : Fin 4096) (h : Fin 4) (e : Fin 128) :
    (val_main_v122 (F := Ideal) x0 x1 x2 x3 x4 x5 x6 x7 (ix3 b n (vcol h e)) : EReal)
      = headOut (fun e => val_main_v105 (F := Ideal) x0 x1 x2 x3 x4 x5 x6 (ix4 b n h e)) (fun e => x7 (ix1 e)) e := by
  unfold val_main_v122 val_main_v121 val_main_v120 val_main_v119 val_main_v118 val_main_v117 val_main_v116 val_main_v115
   val_main_v114 val_main_v113 val_main_v112 val_main_v111 val_main_v110 val_main_v109 val_main_v108 val_main_v107 val_main_v106
   val_main_cst_17 val_main_cst_18 val_main_cst_19 val_main_cst_20
  generalize val_main_v105 (F := Ideal) x0 x1 x2 x3 x4 x5 x6 = y
  pointwise
  simp only [vcol_div, vcol_mod]
  rfl

end Cert.ReferenceIdeal.Attn

end
-- ==== Proof.Attn.Equation.lean ====
/- The kernel's result and the reference's are the same extended reals, wherever the values, the two gains and the four
   vectors are real numbers. -/
module

public import proofs.«01_k».proof.Proof.Attn.Arr1
public import proofs.«01_k».proof.Proof.Attn.Ref

@[expose] public section

set_option maxRecDepth 16384

noncomputable section

namespace Cert.KernelIdeal.Attn

open Idealize.ShloMosaic Idealize.ShloMosaic.TcCoe
open Cert.AttnMath Cert.ReferenceIdeal.Attn
open scoped BigOperators

theorem bits_eps : Ideal.ofBits .f32 0x358637BD#32 = ((8796093 / 8796093022208 : ℝ) : EReal) := by
  simp [Ideal.ofBits, Ideal.ieee, -EReal.coe_mul]
  norm_num

theorem bits_theta : Ideal.ofBits .f32 0x461C4000#32 = ((10000 : ℝ) : EReal) := by
  simp [Ideal.ofBits, Ideal.ieee, -EReal.coe_mul]
  norm_num

theorem bits_two : Ideal.ofBits .f32 0x40000000#32 = ((2 : ℝ) : EReal) := by
  simp [Ideal.ofBits, Ideal.ieee, -EReal.coe_mul]
  norm_num

theorem bits_eighth : Ideal.ofBits .f32 0x3E000000#32 = ((1 / 8 : ℝ) : EReal) := by
  simp [Ideal.ofBits, Ideal.ieee, -EReal.coe_mul]
  norm_num

theorem bits_fifth : ∃ r : ℝ, Ideal.ofBits .f32 0x3E4CCCCD#32 = (r : EReal) := by
  refine ⟨13421773 / 67108864, ?_⟩
  simp [Ideal.ofBits, Ideal.ieee, -EReal.coe_mul]
  norm_num

theorem bits_bot : Ideal.ofBits .f32 0xFF800000#32 = (⊥ : EReal) := by
  simp [Ideal.ofBits, Ideal.ieee]

theorem qs_eq : qs = (((8 * Real.log 2)⁻¹ : ℝ) : EReal) := rfl

/-- The angles are real numbers. -/
theorem fin'_ang (n : ℕ) (d : Fin 64) : Fin' (ang n d) := by
  unfold ang angk
  rw [bits_theta, bits_two, bits_64]
  generalize d.val % 32 = j
  refine Fin'.mul ⟨_, rfl⟩ ?_
  have h : (((2 : ℝ) : EReal) * FloatOps.sitofp (F := Ideal) .f32 (BitVec.ofNat 32 j) : EReal)
      = ((2 * ((BitVec.ofNat 32 j).toInt : ℝ) : ℝ) : EReal) := (EReal.coe_mul _ _).symm
  rw [h, div_coe (by norm_num)]
  show Fin' (Ideal.div 1 ((Real.rpow 10000 _ : ℝ) : EReal))
  rw [← EReal.coe_one, Real.rpow_eq_pow, div_coe (Real.rpow_pos_of_pos (by norm_num) _).ne']
  exact ⟨_, rfl⟩

theorem fin'_qn (t g : Fin 64 → EReal) (hg : ∀ d, Fin' (g d)) (d : Fin 64) : Fin' (qn t g d) := by
  unfold qn
  rw [bits_inv64, bits_eps]
  exact (fin'_normed t (by norm_num) (by norm_num) d).mul (hg d)

theorem fin'_rope (y a : Fin 64 → EReal) (hy : ∀ d, Fin' (y d)) (ha : ∀ d, Fin' (a d)) (d : Fin 64) : Fin' (rope y a d) := by
  unfold rope
  refine ((hy d).mul (ha d).cos).add (Fin'.mul ?_ (ha d).sin)
  split
  · exact (hy _).neg
  · exact hy _

theorem fin'_lamOf {q1 k1 q2 k2 : Fin 64 → EReal} (h1 : ∀ d, Fin' (q1 d)) (h2 : ∀ d, Fin' (k1 d)) (h3 : ∀ d, Fin' (q2 d))
    (h4 : ∀ d, Fin' (k2 d)) : Fin' (lamOf q1 k1 q2 k2) := by
  unfold lamOf
  exact ((Fin'.sum _ _ fun d => (h1 d).mul (h2 d)).exp.sub (Fin'.sum _ _ fun d => (h3 d).mul (h4 d)).exp).add bits_fifth

/-- The two forms of a head's row before its normalisation, over real scores, values and weight. -/
theorem heads_eq (S : Fin 2 → Fin 4096 → ℝ) (a b : Fin 2 → Fin 4096 → EReal) (lam : EReal) (v : Fin 4096 → EReal)
    (ha : ∀ c j, a c j = ((S c j * (8 * Real.log 2)⁻¹ : ℝ) : EReal)) (hb : ∀ c j, b c j = ((S c j / 8 : ℝ) : EReal))
    (hl : Fin' lam) (hv : ∀ j, Fin' (v j)) :
    avg2 (a 0) v - lam * avg2 (a 1) v
      = ∑ k, v k * (Ideal.div (w1 (b 0) k) (0 + ∑ j, w1 (b 0) j) - lam * Ideal.div (w1 (b 1) k) (0 + ∑ j, w1 (b 1) j)) := by
  obtain ⟨l, rfl⟩ := hl
  choose w hw using hv
  obtain rfl : v = fun j => (w j : EReal) := funext hw
  have h2 : ∀ c k, w2 (a c) k = (num (S c) k : EReal) := fun c k => by
    unfold w2
    rw [bits_bot]
    exact num_exp2 (S c) (a c) (ha c) k
  have h1 : ∀ c k, w1 (b c) k = (num (S c) k : EReal) := fun c k => by
    unfold w1
    rw [bits_bot]
    exact num_exp (S c) (b c) (hb c) k
  unfold avg2
  simp only [h1, h2]
  exact (davg_of_outs (S 0) (S 1) l w).trans (davg_of_weights (S 0) (S 1) l w).symm

variable (P : Vec Ideal S8x4096x7168 .bf16) (gq gk q1 k1 q2 k2 : Vec Ideal S64 .f32) (g : Vec Ideal S128 .f32)

theorem r50_Qf (b : Fin 8) (n : Fin 4096) (h : Fin 4) (c : Fin 2) (d : Fin 64) :
    (Cert.ReferenceIdeal.Read.val_main_v50 (F := Ideal) P gq (ix5 b n h c d) : EReal) = Qf P gq b n h c d := by
  refine (r50 P gq b n h c d).trans ?_
  unfold Qf lane
  simp only [Nat.zero_add]

theorem r74_Kf (b : Fin 8) (n : Fin 4096) (h : Fin 4) (c : Fin 2) (d : Fin 64) :
    (Cert.ReferenceIdeal.Read.val_main_v74 (F := Ideal) P gk (ix5 b n h c d) : EReal) = Kf P gk b n h c d :=
  r74 P gk b n h c d

variable (hq : ∀ d, Fin' (gq (ix1 d))) (hk : ∀ d, Fin' (gk (ix1 d)))
include hq hk

/-- The scores of the two sides: the same real numbers, in units of the logarithm of two and of one. -/
theorem scores (b : Fin 8) (n : Fin 4096) (h : Fin 4) : ∃ S : Fin 2 → Fin 4096 → ℝ,
    (∀ c j, sc P gq gk b n h c j = ((S c j * (8 * Real.log 2)⁻¹ : ℝ) : EReal))
    ∧ ∀ c j, sr P gq gk b h c n j = ((S c j / 8 : ℝ) : EReal) := by
  have hQ : ∀ c d, Fin' (Qf P gq b n h c d) := fun c d => fin'_rope _ _ (fin'_qn _ _ hq) (fin'_ang _) d
  have hK : ∀ c j d, Fin' (Kf P gk b j h c d) := fun c j d => fin'_rope _ _ (fin'_qn _ _ hk) (fin'_ang _) d
  choose q hq' using hQ
  choose k hk' using hK
  refine ⟨fun c j => ∑ d, q c d * k c j d, fun c j => ?_, fun c j => ?_⟩
  · unfold sc
    rw [Finset.sum_mul, coe_sum]
    refine Finset.sum_congr rfl fun d _ => ?_
    rw [hq', hk', qs_eq, ← EReal.coe_mul, ← EReal.coe_mul]
    congr 1
    ring
  · unfold sr
    refine (r85 P gq gk b h c n j).trans ?_
    have hr : ((∑ d, q c d * k c j d : ℝ) / 8) = (∑ d, q c d * k c j d) * (1 / 8) := div_eq_mul_one_div _ _
    show _ = (((∑ d, q c d * k c j d) / 8 : ℝ) : EReal)
    rw [bits_eighth, hr, EReal.coe_mul, coe_sum]
    refine congrArg (· * _) (Finset.sum_congr rfl fun d _ => ?_)
    rw [r50_Qf, r74_Kf, hq', hk', EReal.coe_mul]

/-- The result of the two sides at an index. -/
theorem out_eq (h1 : ∀ d, Fin' (q1 (ix1 d))) (h2 : ∀ d, Fin' (k1 (ix1 d))) (h3 : ∀ d, Fin' (q2 (ix1 d)))
    (h4 : ∀ d, Fin' (k2 (ix1 d))) (hv : ∀ b n (l : Fin 512), Fin' (P (ix3 b n ⟨1024 + l.val, by omega⟩)))
    (b : Fin 8) (n : Fin 4096) (h : Fin 4) (e : Fin 128) :
    (Cert.ReferenceIdeal.Read.val_main_v122 (F := Ideal) P gq gk q1 k1 q2 k2 g (ix3 b n (vcol h e)) : EReal)
      = Of P gq gk q1 k1 q2 k2 g b n h e := by
  refine (r122 P gq gk q1 k1 q2 k2 g b n h e).trans ?_
  unfold Of
  refine congrArg (fun o => headOut o _ e) (funext fun x => ?_)
  obtain ⟨S, ha, hb⟩ := scores P gq gk hq hk b n h
  unfold diff2
  rw [heads_eq S (sc P gq gk b n h) (fun c => sr P gq gk b h c n) _ _ ha hb (fin'_lamOf h1 h2 h3 h4) (fun j => hv b j _)]
  refine (r105 P gq gk q1 k1 q2 k2 b n h x).trans (Finset.sum_congr rfl fun j _ => ?_)
  refine congrArg (fun z => _ * z) ((r103 P gq gk q1 k1 q2 k2 b h n j).trans ?_)
  exact congr (congrArg _ (r96 P gq gk b h 0 n j)) (congrArg _ (r96 P gq gk b h 1 n j))

/-- The whole result of the two sides. -/
theorem result_eq (h1 : ∀ d, Fin' (q1 (ix1 d))) (h2 : ∀ d, Fin' (k1 (ix1 d))) (h3 : ∀ d, Fin' (q2 (ix1 d)))
    (h4 : ∀ d, Fin' (k2 (ix1 d))) (hv : ∀ b n (l : Fin 512), Fin' (P (ix3 b n ⟨1024 + l.val, by omega⟩))) :
    (Cert.ReferenceIdeal.Read.val_main_v122 (F := Ideal) P gq gk q1 k1 q2 k2 g : Vec Ideal S8x4096x512 .bf16)
      = Oarr P gq gk q1 k1 q2 k2 g := by
  funext y
  obtain ⟨h, e, hl⟩ := eq_vcol (y 2)
  have hy : y = ix3 (y 0) (y 1) (vcol h e) := by rw [← hl]; exact eq_ix3 y
  rw [hy]
  exact (out_eq P gq gk q1 k1 q2 k2 g hq hk h1 h2 h3 h4 hv _ _ h e).trans (Oarr_apply P gq gk q1 k1 q2 k2 g _ _ h e).symm

end Cert.KernelIdeal.Attn

end
-- ==== Proof.Row.Math.lean ====
/- The row formulas the projection and the merge share. -/
module

public import Idealize.ShloMosaic.Lib.Pipeline.ValueKit
public import Idealize.ShloMosaic.Lib.KernelVsHost

@[expose] public section

noncomputable section

namespace Cert.RowMath

open Idealize.ShloMosaic

/-- The normalized row, shifted and scaled. -/
def hrow (x g sc sh : Fin 1024 → EReal) (k : Fin 1024) : EReal :=
  x k * Ideal.rsqrt (Ideal.div (∑ j, x j * x j) (Ideal.ofBits .f32 0x44800000#32) + Ideal.ofBits .f32 0x358637BD#32)
      * g k * (1 + sc k) + sh k

/-- The gated sum of the three branches' projections. -/
def mix (o0 o1 o2 : Fin 512 → EReal) (g0 g1 g2 : Fin 1024 → EReal) (w : Fin 3 → Fin 512 → Fin 1024 → EReal)
    (j : Fin 1024) : EReal :=
  (∑ k, o0 k * w 0 k j) * Ideal.logistic (g0 j) + (∑ k, o1 k * w 1 k j) * Ideal.logistic (g1 j)
    + (∑ k, o2 k * w 2 k j) * Ideal.logistic (g2 j)

/-- The residual row with its gated projection added. -/
def resid (x g y : Fin 1024 → EReal) (w : Fin 1024 → Fin 1024 → EReal) (k : Fin 1024) : EReal :=
  x k + g k * ∑ j, y j * w j k

theorem bits_zero : Ideal.ofBits .f32 0x00000000#32 = 0 := by
  simp [Ideal.ofBits, Ideal.ieee]

theorem bits_one : Ideal.ofBits .f32 0x3F800000#32 = 1 := by
  simp [Ideal.ofBits, Ideal.ieee, -EReal.coe_mul]
  norm_num

/-- The zero the padding lanes hold. -/
theorem lane_zero : ((FloatOps.sitofp (F := Ideal) .f32 (0#32 : BitVec 32) : Ideal .f32) : EReal) = 0 := by
  show (((0#32 : BitVec 32).toInt : ℝ) : EReal) = 0
  simp

/-- The batch a row belongs to. -/
def batch (r : Fin 32768) : Fin 8 := ⟨r.val / 4096, by omega⟩

/-- The row of the flat array that row `n` of batch `b` is. -/
def flat (b : Fin 8) (n : Fin 4096) : Fin 32768 := ⟨b.val * 4096 + n.val, by omega⟩

theorem batch_flat (b : Fin 8) (n : Fin 4096) : batch (flat b n) = b :=
  Fin.ext (by
    show (b.val * 4096 + n.val) / 4096 = b.val
    omega)

theorem eq_flat (r : Fin 32768) : ∃ b n, r = flat b n :=
  ⟨batch r, ⟨r.val % 4096, by omega⟩, Fin.ext (by
    show r.val = r.val / 4096 * 4096 + r.val % 4096
    omega)⟩

end Cert.RowMath

end
-- ==== Proof.Proj.Block.lean ====
/- The projection's scratch and output block, read at an index. -/
module

public import proofs.«01_k».proof.Proof.Gen.Kernel3Ideal.Frame
public import proofs.«01_k».proof.Proof.Row.Math
public import Idealize.ShloMosaic.Lib.Pipeline.ValueKit

@[expose] public section

set_option maxRecDepth 16384

noncomputable section

namespace Cert.Kernel3Ideal.Proj

open Idealize.ShloMosaic Idealize.ShloMosaic.TcCoe
open Cert.Kernel3Ideal Cert.Kernel3Ideal.Gen Cert.RowMath

theorem pay1_apply (x0 : Vec Ideal S1024x1024 .f32) (x1 x2 : Vec Ideal S1x1x1024 .f32) (x3 : Vec Ideal S1x1024 .f32)
    (r : Fin 1024) (k : Fin 1024) : (k0_pay1 x0 x3 x2 x1 (ix2 r k) : EReal)
      = hrow (fun j => x0 (ix2 r j)) (fun j => x3 (ix2 0 j)) (fun j => x2 (ix3 0 0 j)) (fun j => x1 (ix3 0 0 j)) k := by
  pointwise [k0_pay1]
  rfl

theorem pay2_apply (x0 : Vec Ideal S1024x1024 .bf16) (x1 : Vec Ideal S1024x1792 .bf16) (x2 : Vec Ideal S1x1792 .f32)
    (r : Fin 1024) (k : Fin 1792) : (k0_pay2 x0 x1 x2 (ix2 r k) : EReal)
      = ∑ j, (x0 (ix2 r j) : EReal) * x1 (ix2 j k) + x2 (ix2 0 k) := by
  pointwise [k0_pay2]

variable (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x1792 .bf16) (harg6 : arg6.IsWhole) (arg7 : Memref sig .tc .vmem S1x1792 .f32) (harg7 : arg7.IsWhole) (arg8 : Memref sig .tc .vmem S1024x1792 .bf16) (harg8 : arg8.IsWhole) (arg9 : Memref sig .tc .vmem S1024x1024 .bf16) (harg9 : arg9.IsWhole)
  (x0 : Vec Ideal S1024x1024 .f32) (x1 : Vec Ideal S1x1x1024 .f32) (x2 : Vec Ideal S1x1x1024 .f32) (x3 : Vec Ideal S1x1024 .f32) (x4 : Vec Ideal S1024x1792 .bf16) (x5 : Vec Ideal S1x1792 .f32) (xs0 : Vec Ideal S1024x1024 .bf16)

theorem souA (hc0 : cond0_0 i) : sout0_A_0 c i arg2 harg2 arg3 harg3 arg4 harg4 arg5 harg5 arg6 harg6 arg7 harg7 arg8 harg8 arg9 harg9 hc0 x0 x1 x2 x3 x4 x5 = k0_pay1 x0 x3 x2 x1 := by
  frame_out

theorem outA (hc0 : cond0_0 i) : out0_A_6 c i arg2 harg2 arg3 harg3 arg4 harg4 arg5 harg5 arg6 harg6 arg7 harg7 arg8 harg8 arg9 harg9 hc0 x0 x1 x2 x3 x4 x5 = k0_pay2 (k0_pay1 x0 x3 x2 x1) x4 x5 := by
  frame_out

theorem outB (hc0 : ¬cond0_0 i) : out0_B_6 c i arg2 harg2 arg3 harg3 arg4 harg4 arg5 harg5 arg6 harg6 arg7 harg7 arg8 harg8 arg9 harg9 hc0 x0 x1 x2 x3 x4 x5 xs0 = k0_pay2 xs0 x4 x5 := by
  frame_out

end Cert.Kernel3Ideal.Proj

end
-- ==== Proof.Proj.Arr.lean ====
/- The array the projection leaves, at an index. -/
module

public import proofs.«01_k».proof.Proof.Proj.Block

@[expose] public section

set_option maxRecDepth 16384

noncomputable section

namespace Cert.Kernel3Ideal.Proj

open Idealize.ShloMosaic Idealize.ShloMosaic.TcCoe
open Cert.Kernel3Ideal Cert.Kernel3Ideal.Gen Cert.RowMath

theorem ixw0 : ∀ t : Fin grid0.N, win0_0.index t = ![t.val / 4, 0] := by decide +kernel
theorem ixw1 : ∀ t : Fin grid0.N, win0_1.index t = ![t.val / 16, 0, 0] := by decide +kernel
theorem ixw2 : ∀ t : Fin grid0.N, win0_2.index t = ![t.val / 16, 0, 1] := by decide +kernel
theorem ixw3 : ∀ t : Fin grid0.N, win0_3.index t = ![0, 0] := by decide +kernel
theorem ixw4 : ∀ t : Fin grid0.N, win0_4.index t = ![0, t.val % 4] := by decide +kernel
theorem ixw5 : ∀ t : Fin grid0.N, win0_5.index t = ![0, t.val % 4] := by decide +kernel
theorem ixw6 : ∀ t : Fin grid0.N, win0_6.index t = ![t.val / 4, t.val % 4] := by decide +kernel

theorem t_lt (t : Fin grid0.N) : t.val < 128 := t.isLt

/-- The row of the array that row `r` of the block at point `n` is. -/
def row (n : ℕ) (hn : n < 128) (r : Fin 1024) : Fin 32768 := ⟨n / 4 * 1024 + r.val, by omega⟩

/-- The column of the array that column `l` of the block at point `n` is. -/
def col (n : ℕ) (l : Fin 1792) : Fin 7168 := ⟨n % 4 * 1792 + l.val, by omega⟩

/-- Row `r` of the normalized, shifted and scaled input. -/
def hid (X : Vec Ideal S32768x1024 .f32) (M : Vec Ideal S8x6144 .f32) (G : Vec Ideal S1024 .f32) (r : Fin 32768)
    (k : Fin 1024) : EReal :=
  hrow (fun j => X (ix2 r j)) (fun j => G (ix1 j)) (fun j => M (ix2 (batch r) ⟨1024 + j.val, by omega⟩))
    (fun j => M (ix2 (batch r) ⟨j.val, by omega⟩)) k

/-- The projection as an array. -/
def proj (X : Vec Ideal S32768x1024 .f32) (M : Vec Ideal S8x6144 .f32) (G : Vec Ideal S1024 .f32)
    (W : Vec Ideal S1024x7168 .f32) (B : Vec Ideal S7168 .f32) : Vec Ideal S32768x7168 .bf16 := fun y =>
  (∑ k : Fin 1024, hid X M G (y 0) k * W (ix2 k (y 1)) + B (ix1 (y 1)) : EReal)

variable (m : (ℓ : Loc nD τ sig) → Buf (Elt Ideal) ℓ) (c : Dev nD)

/-- The input rows. -/
abbrev aX : Vec Ideal S32768x1024 .f32 := m ((c : Thread nD τ).loc main_arg0)
/-- The modulation. -/
abbrev aM : Vec Ideal S8x6144 .f32 := m ((c : Thread nD τ).loc main_arg1)
/-- The gain. -/
abbrev aG : Vec Ideal S1024 .f32 := m ((c : Thread nD τ).loc main_arg2)
/-- The weights. -/
abbrev aW : Vec Ideal S1024x7168 .f32 := m ((c : Thread nD τ).loc main_arg3)
/-- The bias. -/
abbrev aB : Vec Ideal S7168 .f32 := m ((c : Thread nD τ).loc main_arg4)

theorem en_x : V m c main_arg0 = aX m c := V_main_arg0 m c

theorem en_mod (b : Fin 8) (j : Fin 6144) : V m c main_v0 (ix3 b 0 j) = aM m c (ix2 b j) := by
  unfold_abbrev_sides
  after_results
  pointwise

theorem en_w (k : Fin 1024) (j : Fin 7168) : V m c main_v1 (ix2 k j) = aW m c (ix2 k j) := by
  unfold_abbrev_sides
  after_results
  pointwise

theorem en_g (j : Fin 1024) : V m c main_v2 (ix2 0 j) = aG m c (ix1 j) := by
  unfold_abbrev_sides
  after_results
  pointwise

theorem en_b (j : Fin 7168) : V m c main_v3 (ix2 0 j) = aB m c (ix1 j) := by
  unfold_abbrev_sides
  after_results
  pointwise

section
variable (t : Fin grid0.N)

theorem rdv0 (r k : Fin 1024) : iblk m c 0 t (ix2 r k) = (V m c main_arg0 : Vec Ideal S32768x1024 .f32) (ix2 (row t.val (t_lt t) r) k) := by
  blk_ext [iblk, ixw0 t, row]

theorem rdv1 (k : Fin 1024) : iblk m c 1 t (ix3 0 0 k)
    = (V m c main_v0 : Vec Ideal S8x1x6144 .f32) (ix3 ⟨t.val / 16, by have := t_lt t; omega⟩ 0 ⟨k.val, by omega⟩) := by
  blk_ext [iblk, ixw1 t]

theorem rdv2 (k : Fin 1024) : iblk m c 2 t (ix3 0 0 k)
    = (V m c main_v0 : Vec Ideal S8x1x6144 .f32) (ix3 ⟨t.val / 16, by have := t_lt t; omega⟩ 0 ⟨1024 + k.val, by omega⟩) := by
  blk_ext [iblk, ixw2 t]

theorem rdv3 (k : Fin 1024) : iblk m c 3 t (ix2 0 k) = (V m c main_v2 : Vec Ideal S1x1024 .f32) (ix2 0 k) := by
  blk_ext [iblk, ixw3 t]

theorem rdv4 (k : Fin 1024) (l : Fin 1792) : iblk m c 4 t (ix2 k l)
    = (V m c main_v1 : Vec Ideal S1024x7168 .bf16) (ix2 k (col t.val l)) := by
  blk_ext [iblk, ixw4 t, col]

theorem rdv5 (l : Fin 1792) : iblk m c 5 t (ix2 0 l) = (V m c main_v3 : Vec Ideal S1x7168 .f32) (ix2 0 (col t.val l)) := by
  blk_ext [iblk, ixw5 t, col]

theorem rd0 (r k : Fin 1024) : iblk m c 0 t (ix2 r k) = aX m c (ix2 (row t.val (t_lt t) r) k) :=
  (rdv0 m c t r k).trans (congrFun (en_x m c) _)

theorem rd1 (k : Fin 1024) : iblk m c 1 t (ix3 0 0 k)
    = aM m c (ix2 ⟨t.val / 16, by have := t_lt t; omega⟩ ⟨k.val, by omega⟩) := (rdv1 m c t k).trans (en_mod m c _ _)

theorem rd2 (k : Fin 1024) : iblk m c 2 t (ix3 0 0 k)
    = aM m c (ix2 ⟨t.val / 16, by have := t_lt t; omega⟩ ⟨1024 + k.val, by omega⟩) := (rdv2 m c t k).trans (en_mod m c _ _)

theorem rd3 (k : Fin 1024) : iblk m c 3 t (ix2 0 k) = aG m c (ix1 k) := (rdv3 m c t k).trans (en_g m c _)

theorem rd4 (k : Fin 1024) (l : Fin 1792) : iblk m c 4 t (ix2 k l) = aW m c (ix2 k (col t.val l)) :=
  (rdv4 m c t k l).trans (en_w m c _ _)

theorem rd5 (l : Fin 1792) : iblk m c 5 t (ix2 0 l) = aB m c (ix1 (col t.val l)) := (rdv5 m c t l).trans (en_b m c _)

theorem em6 (r : Fin 1024) (l : Fin 1792) :
    ((win0_6.blk t).view.emb (ix2 r l) : S32768x7168.Idx) = ix2 (row t.val (t_lt t) r) (col t.val l) := by
  blk_ext [ixw6 t, row, col]

theorem batch_row (r : Fin 1024) : batch (row t.val (t_lt t) r) = ⟨t.val / 16, by have := t_lt t; omega⟩ :=
  Fin.ext (by
    show (t.val / 4 * 1024 + r.val) / 4096 = t.val / 16
    omega)

/-- What a first point of a row tile stores into the scratch. -/
theorem pay_hid (r k : Fin 1024) :
    (k0_pay1 (iblk m c 0 t) (iblk m c 3 t) (iblk m c 2 t) (iblk m c 1 t) (ix2 r k) : EReal)
      = hid (aX m c) (aM m c) (aG m c) (row t.val (t_lt t) r) k := by
  refine (pay1_apply (iblk m c 0 t) (iblk m c 1 t) (iblk m c 2 t) (iblk m c 3 t) r k).trans ?_
  unfold hid
  simp only [rd0, rd1, rd2, rd3, batch_row]

end

/-- The scratch after point `n` holds the hidden rows of its row tile. -/
theorem scr : ∀ (n : ℕ) (hn : n < cfg0.N) (hn' : n < 128) (r k : Fin 1024),
    ((outsAt0 m c n hn).2 (ix2 r k) : EReal) = hid (aX m c) (aM m c) (aG m c) (row n hn' r) k := by
  intro n
  induction n with
  | zero =>
    intro hn hn' r k
    rw [outsAt0_A m c ⟨0, hn⟩ rfl]
    dsimp only
    rw [souA]
    exact pay_hid m c ⟨0, hn⟩ r k
  | succ n ih =>
    intro hn hn' r k
    by_cases h0 : (n + 1) % 4 = 0
    · rw [outsAt0_A m c ⟨n + 1, hn⟩ h0]
      dsimp only
      rw [souA]
      exact pay_hid m c ⟨n + 1, hn⟩ r k
    · rw [outsAt0_B m c ⟨n + 1, hn⟩ h0]
      refine (ih (Nat.lt_of_succ_lt hn) (by omega) r k).trans ?_
      congr 1
      exact Fin.ext (by
        show n / 4 * 1024 + r.val = (n + 1) / 4 * 1024 + r.val
        omega)

/-- The output block of point `t`, at an index. -/
theorem outs_apply (t : Fin cfg0.N) (r : Fin 1024) (l : Fin 1792) :
    ((outsAt0 m c t.val t.isLt).1 (ix2 r l) : EReal)
      = ∑ k : Fin 1024, hid (aX m c) (aM m c) (aG m c) (row t.val (t_lt t) r) k * aW m c (ix2 k (col t.val l))
        + aB m c (ix1 (col t.val l)) := by
  by_cases h0 : t.val % 4 = 0
  · rw [outsAt0_A m c t h0]
    dsimp only
    rw [outA]
    refine (pay2_apply _ _ _ r l).trans ?_
    simp only [pay_hid, rd4, rd5]
  · rw [outsAt0_B m c t h0]
    dsimp only
    rw [outB]
    refine (pay2_apply _ _ _ r l).trans ?_
    have e : ∀ k, ((outsAt0 m c (t.val - 1) (Nat.lt_of_le_of_lt (Nat.sub_le _ _) t.isLt)).2 (ix2 r k) : EReal)
        = hid (aX m c) (aM m c) (aG m c) (row t.val (t_lt t) r) k := fun k => by
      refine (scr m c (t.val - 1) _ (by have := t_lt t; omega) r k).trans ?_
      congr 1
      exact Fin.ext (by
        show (t.val - 1) / 4 * 1024 + r.val = t.val / 4 * 1024 + r.val
        omega)
    simp only [e, rd4, rd5]

theorem arr6 : (dats m 0 c).arrAt 6 cfg0.N = proj (aX m c) (aM m c) (aG m c) (aW m c) (aB m c) := by
  refine (dats m 0 c).arrAt_eq_of_covers 6 _ (by decide +kernel) fun t hf y => ?_
  blk_simp
  rw [after0_6]
  obtain ⟨r, l, rfl⟩ : ∃ r l, y = ix2 r l := ⟨y 0, y 1, eq_ix2 y⟩
  refine Eq.trans ?_ (congrArg (proj _ _ _ _ _) (em6 t r l)).symm
  exact outs_apply m c t r l

end Cert.Kernel3Ideal.Proj

end
-- ==== Proof.Proj.Ref.lean ====
/- The reference's projection, at an index. -/
module

public import proofs.«01_k».proof.Proof.Gen.Reference3Ideal.Read
public import proofs.«01_k».proof.Proof.Proj.Arr

@[expose] public section

set_option maxRecDepth 16384

noncomputable section

namespace Cert.Reference3Ideal.Proj

open Idealize.ShloMosaic Idealize.ShloMosaic.TcCoe
open Cert.Reference3Ideal Cert.Reference3Ideal.Read Cert.Kernel3Ideal.Proj Cert.RowMath

variable (x0 : Vec Ideal S32768x1024 .f32) (x1 : Vec Ideal S8x6144 .f32) (x2 : Vec Ideal S1024 .f32)
  (x3 : Vec Ideal S1024x7168 .f32) (x4 : Vec Ideal S7168 .f32)

theorem r0 (b : Fin 8) (n : Fin 4096) (k : Fin 1024) : val_main_v0 (F := Ideal) x0 (ix3 b n k) = x0 (ix2 (flat b n) k) := by
  rw [val_main_v0_apply]
  refine congrArg x0 (funext fun a => ?_)
  fin_cases a
  · exact Fin.ext (by
      show ((b.val * 4096 + n.val) * 1024 + k.val) / 1024 = b.val * 4096 + n.val
      omega)
  · exact Fin.ext (by
      show ((b.val * 4096 + n.val) * 1024 + k.val) % 1024 = k.val
      omega)

theorem r6 (b : Fin 8) (n : Fin 4096) : (val_main_v6 (F := Ideal) x0 (ix2 b n) : EReal)
    = ∑ k : Fin 1024, (x0 (ix2 (flat b n) k) : EReal) * x0 (ix2 (flat b n) k) := by
  rw [val_main_v6_apply]
  have hz : ∀ i, (val_main_cst (F := Ideal) i : EReal) = 0 := fun i => bits_zero
  rw [hz, zero_add]
  refine Finset.sum_congr rfl fun k _ => ?_
  have e : idx_main_v6 (ix2 b n) k = ix3 b n k := funext fun a => by fin_cases a <;> rfl
  rw [e, val_main_v5_apply, r0]
  rfl

theorem r23 (b : Fin 8) (n : Fin 4096) (k : Fin 1024) : (val_main_v23 (F := Ideal) x0 x1 x2 (ix3 b n k) : EReal)
    = hid x0 x1 x2 (flat b n) k := by
  rw [val_main_v23_apply, val_main_v21_apply, val_main_v17_apply, val_main_v14_apply, val_main_v13_apply, val_main_v12_apply,
    val_main_v11_apply, val_main_v10_apply, val_main_v9_apply, val_main_v8_apply, val_main_v7_apply, val_main_v16_apply,
    val_main_v15_apply, val_main_v20_apply, val_main_v19_apply, val_main_v18_apply, val_main_v4_apply, val_main_v3_apply,
    val_main_v22_apply, val_main_v2_apply, val_main_v1_apply, r0]
  have e6 : idx_main_v7 (idx_main_v13 (ix3 b n k)) = ix2 b n := funext fun a => by fin_cases a <;> rfl
  have e1 : (idx_main_v15 (idx_main_v16 (ix3 b n k))) = ix1 k := funext fun a => by fin_cases a <;> rfl
  have e3 : (idx_main_v3 (idx_main_v4 (idx_main_v20 (ix3 b n k)))) = ix2 b ⟨1024 + k.val, by omega⟩ :=
    funext fun a => by
      fin_cases a
      · rfl
      · exact Fin.ext rfl
  have e4 : (idx_main_v1 (idx_main_v2 (idx_main_v22 (ix3 b n k)))) = ix2 b ⟨k.val, by omega⟩ :=
    funext fun a => by
      fin_cases a
      · rfl
      · exact Fin.ext rfl
  rw [e6, e1, e3, e4, r6]
  unfold hid hrow
  rw [batch_flat, ← bits_one]
  rfl

theorem result_eq : val_main_v29 (F := Ideal) x0 x1 x2 x3 x4 = proj x0 x1 x2 x3 x4 := by
  funext y
  obtain ⟨r, l, rfl⟩ : ∃ r l, y = ix2 r l := ⟨y 0, y 1, eq_ix2 y⟩
  obtain ⟨b, n, rfl⟩ := eq_flat r
  rw [val_main_v29_apply, val_main_v28_apply]
  have e : idx_main_v28 (ix2 (flat b n) l) = ix3 b n l := funext fun a => by
    fin_cases a
    · exact Fin.ext (by
        show ((b.val * 4096 + n.val) * 7168 + l.val) / 29360128 = b.val
        omega)
    · exact Fin.ext (by
        show ((b.val * 4096 + n.val) * 7168 + l.val) / 7168 % 4096 = n.val
        omega)
    · exact Fin.ext (by
        show ((b.val * 4096 + n.val) * 7168 + l.val) % 7168 = l.val
        omega)
  rw [e, val_main_v27_apply, val_main_v26_apply, val_main_v25_apply, val_main_v24_apply]
  have el : ∀ k, lidx_main_v24 (ix3 b n l) k = ix3 b n k := fun k => funext fun a => by fin_cases a <;> rfl
  have er : ∀ k, ridx_main_v24 (ix3 b n l) k = ix2 k l := fun k => funext fun a => by fin_cases a <;> rfl
  have eb : idx_main_v25 (idx_main_v26 (ix3 b n l)) = ix1 l := funext fun a => by fin_cases a <;> rfl
  rw [eb]
  show (∑ k : Fin 1024, (val_main_v23 (F := Ideal) x0 x1 x2 (lidx_main_v24 (ix3 b n l) k) : EReal)
      * x3 (ridx_main_v24 (ix3 b n l) k)) + x4 (ix1 l) = _
  simp only [el, er, r23]
  rfl

end Cert.Reference3Ideal.Proj

end
-- ==== Proof.Proj.Claims.lean ====
/- The claims of the projection call: the reference's frame, and the two results being one. -/
module

public import proofs.«01_k».proof.Defs
public import proofs.«01_k».proof.Proof.Proj.Ref
public import proofs.«01_k».proof.Proof.Gen.Kernel3Ideal.Value
public import proofs.«01_k».proof.Proof.Gen.Reference3Ideal.Run
public import Idealize.ShloMosaic.Lib.Quiescent

@[expose] public section

noncomputable section

namespace Cert.ProjClaims

open Idealize.ShloMosaic Idealize.ShloMosaic.TcCoe Idealize.SL.Sem

/-- The reference runs, and leaves its arguments and the counters alone. -/
theorem frame_ri : Cert.quiescent_Reference3Ideal (hReference3Ideal := Cert.Reference3Ideal.Gen.facts) := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- From arguments that agree, both runs end with the same result. -/
theorem algebraic : Cert.algebraic_Kernel3Ideal_Reference3Ideal (hKernel3Ideal := Cert.Kernel3Ideal.Gen.facts)
    (hReference3Ideal := Cert.Reference3Ideal.Gen.facts) := by
  intro m ρ m' ρ' hpre hagree
  refine ⟨fun c => (Cert.Kernel3Ideal.Gen.dats m 0 c).arrAt 6 Cert.Kernel3Ideal.cfg0.N,
    Cert.Kernel3Ideal.Value.run_blocks m ρ, ?_⟩
  refine (θ_run Cert.Reference3Ideal.defs _ _).mono (fun _ h c => ⟨(h c).1.trans ?_, (h c).2⟩)
    (Cert.Reference3Ideal.Value.run (F := Ideal) m' ρ')
  refine (Cert.Reference3Ideal.Read.val_main_v29_eq (F := Ideal) _ _ _ _ _).trans ?_
  refine Eq.trans ?_ (Cert.Kernel3Ideal.Proj.arr6 m c).symm
  show Cert.Reference3Ideal.Read.val_main_v29 (F := Ideal)
    (m' ((c.tc : Thread Cert.Reference3Ideal.nD Cert.Reference3Ideal.τ).loc Cert.Reference3Ideal.main_arg0))
    (m' ((c.tc : Thread Cert.Reference3Ideal.nD Cert.Reference3Ideal.τ).loc Cert.Reference3Ideal.main_arg1))
    (m' ((c.tc : Thread Cert.Reference3Ideal.nD Cert.Reference3Ideal.τ).loc Cert.Reference3Ideal.main_arg2))
    (m' ((c.tc : Thread Cert.Reference3Ideal.nD Cert.Reference3Ideal.τ).loc Cert.Reference3Ideal.main_arg3))
    (m' ((c.tc : Thread Cert.Reference3Ideal.nD Cert.Reference3Ideal.τ).loc Cert.Reference3Ideal.main_arg4)) = _
  obtain ⟨h0, h1, h2, h3, h4⟩ := hagree c
  rw [h0, h1, h2, h3, h4]
  exact Cert.Reference3Ideal.Proj.result_eq _ _ _ _ _

end Cert.ProjClaims

end
-- ==== Proof.Merge.Block.lean ====
/- The merge's three output blocks, read at an index. -/
module

public import proofs.«01_k».proof.Proof.Gen.Kernel4Ideal.Frame
public import proofs.«01_k».proof.Proof.Row.Math
public import Idealize.ShloMosaic.Lib.Pipeline.ValueKit

@[expose] public section

set_option maxRecDepth 16384

noncomputable section

namespace Cert.Kernel4Ideal.Merge

open Idealize.ShloMosaic Idealize.ShloMosaic.TcCoe
open Cert.Kernel4Ideal Cert.Kernel4Ideal.Gen Cert.RowMath

variable (x0 x1 x2 : Vec Ideal S512x512 .bf16) (x3 x4 x5 : Vec Ideal S512x1024 .bf16) (x6 : Vec Ideal S3x512x1024 .bf16)
  (x7 : Vec Ideal S1024x1024 .bf16) (x8 : Vec Ideal S512x1024 .f32) (x9 : Vec Ideal S1x1x1024 .f32)
  (x10 : Vec Ideal S1x1024 .f32) (x11 x12 : Vec Ideal S1x1x1024 .f32) (x13 : Vec Ideal S1024x128 .f32)
  (x14 : Vec Ideal S1x128 .f32)

/-- The new residual row of the block. -/
def xblk (r : Fin 512) (k : Fin 1024) : EReal :=
  resid (fun k => x8 (ix2 r k)) (fun k => x9 (ix3 0 0 k))
    (mix (fun k => x0 (ix2 r k)) (fun k => x1 (ix2 r k)) (fun k => x2 (ix2 r k)) (fun j => x3 (ix2 r j))
      (fun j => x4 (ix2 r j)) (fun j => x5 (ix2 r j)) (fun n k j => x6 (ix3 n k j)))
    (fun j k => x7 (ix2 j k)) k

/-- The normalized row of the block. -/
def hblk (r : Fin 512) (k : Fin 1024) : EReal :=
  hrow (xblk x0 x1 x2 x3 x4 x5 x6 x7 x8 x9 r) (fun k => x10 (ix2 0 k)) (fun k => x12 (ix3 0 0 k))
    (fun k => x11 (ix3 0 0 k)) k

theorem pay3_apply (r : Fin 512) (k : Fin 1024) :
    (k0_pay3 (k0_pay6 x0 x1 x2 x3 x4 x5 x6 x7 x8 x9 x10 x11 x12 x13 x14) x8 x9 (ix2 r k) : EReal)
      = xblk x0 x1 x2 x3 x4 x5 x6 x7 x8 x9 r k := by
  pointwise [k0_pay6, k0_pay2, k0_pay3]
  rfl

theorem pay4_apply (r : Fin 512) (k : Fin 1024) :
    (k0_pay4 (k0_pay6 x0 x1 x2 x3 x4 x5 x6 x7 x8 x9 x10 x11 x12 x13 x14) x8 x9 x10 x12 x11 (ix2 r k) : EReal)
      = hblk x0 x1 x2 x3 x4 x5 x6 x7 x8 x9 x10 x11 x12 r k := by
  pointwise [k0_pay4]
  simp only [pay3_apply]
  rfl

theorem out15_apply (r : Fin 512) (k : Fin 1024) :
    (out0_15 x0 x1 x2 x3 x4 x5 x6 x7 x8 x9 x10 x11 x12 x13 x14 (ix2 r k) : EReal)
      = xblk x0 x1 x2 x3 x4 x5 x6 x7 x8 x9 r k := by
  frame_out
  exact pay3_apply x0 x1 x2 x3 x4 x5 x6 x7 x8 x9 x10 x11 x12 x13 x14 r k

theorem out16_apply (r : Fin 512) (k : Fin 1024) :
    (out0_16 x0 x1 x2 x3 x4 x5 x6 x7 x8 x9 x10 x11 x12 x13 x14 (ix2 r k) : EReal)
      = hblk x0 x1 x2 x3 x4 x5 x6 x7 x8 x9 x10 x11 x12 r k := by
  frame_out
  exact pay4_apply x0 x1 x2 x3 x4 x5 x6 x7 x8 x9 x10 x11 x12 x13 x14 r k

theorem out17_apply (r : Fin 512) (e : Fin 128) :
    (out0_17 x0 x1 x2 x3 x4 x5 x6 x7 x8 x9 x10 x11 x12 x13 x14 (ix2 r e) : EReal)
      = ∑ k, hblk x0 x1 x2 x3 x4 x5 x6 x7 x8 x9 x10 x11 x12 r k * x13 (ix2 k e) + x14 (ix2 0 e) := by
  frame_out
  pointwise [k0_pay1, k0_pay5]
  simp only [pay4_apply]

end Cert.Kernel4Ideal.Merge

end
-- ==== Proof.Merge.Arr.lean ====
/- The arrays the merge leaves, at an index. -/
module

public import proofs.«01_k».proof.Proof.Merge.Block

@[expose] public section

set_option maxRecDepth 16384

noncomputable section

namespace Cert.Kernel4Ideal.Merge

open Idealize.ShloMosaic Idealize.ShloMosaic.TcCoe
open Cert.Kernel4Ideal Cert.Kernel4Ideal.Gen Cert.RowMath

theorem ixw0 : ∀ t : Fin grid0.N, win0_0.index t = ![t.val, 0] := by decide +kernel
theorem ixw1 : ∀ t : Fin grid0.N, win0_1.index t = ![t.val, 0] := by decide +kernel
theorem ixw2 : ∀ t : Fin grid0.N, win0_2.index t = ![t.val, 0] := by decide +kernel
theorem ixw3 : ∀ t : Fin grid0.N, win0_3.index t = ![t.val, 4] := by decide +kernel
theorem ixw4 : ∀ t : Fin grid0.N, win0_4.index t = ![t.val, 5] := by decide +kernel
theorem ixw5 : ∀ t : Fin grid0.N, win0_5.index t = ![t.val, 6] := by decide +kernel
theorem ixw6 : ∀ t : Fin grid0.N, win0_6.index t = ![0, 0, 0] := by decide +kernel
theorem ixw7 : ∀ t : Fin grid0.N, win0_7.index t = ![0, 0] := by decide +kernel
theorem ixw8 : ∀ t : Fin grid0.N, win0_8.index t = ![t.val, 0] := by decide +kernel
theorem ixw9 : ∀ t : Fin grid0.N, win0_9.index t = ![t.val / 8, 0, 2] := by decide +kernel
theorem ixw10 : ∀ t : Fin grid0.N, win0_10.index t = ![0, 0] := by decide +kernel
theorem ixw11 : ∀ t : Fin grid0.N, win0_11.index t = ![t.val / 8, 0, 3] := by decide +kernel
theorem ixw12 : ∀ t : Fin grid0.N, win0_12.index t = ![t.val / 8, 0, 4] := by decide +kernel
theorem ixw13 : ∀ t : Fin grid0.N, win0_13.index t = ![0, 0] := by decide +kernel
theorem ixw14 : ∀ t : Fin grid0.N, win0_14.index t = ![0, 0] := by decide +kernel
theorem ixw15 : ∀ t : Fin grid0.N, win0_15.index t = ![t.val, 0] := by decide +kernel
theorem ixw16 : ∀ t : Fin grid0.N, win0_16.index t = ![t.val, 0] := by decide +kernel
theorem ixw17 : ∀ t : Fin grid0.N, win0_17.index t = ![t.val, 0] := by decide +kernel

theorem t_lt (t : Fin grid0.N) : t.val < 64 := t.isLt

/-- The row of the array that row `r` of the block at point `t` is. -/
def row (t : Fin grid0.N) (r : Fin 512) : Fin 32768 := ⟨t.val * 512 + r.val, by have := t_lt t; omega⟩

/-- The batch point `t` is in. -/
def bat (t : Fin grid0.N) : Fin 8 := ⟨t.val / 8, by have := t_lt t; omega⟩

theorem batch_row (t : Fin grid0.N) (r : Fin 512) : batch (row t r) = bat t :=
  Fin.ext (by
    show (t.val * 512 + r.val) / 4096 = t.val / 8
    omega)

section
variable (O0 O1 O2 : Vec Ideal S32768x512 .bf16) (P : Vec Ideal S32768x7168 .bf16) (WB : Vec Ideal S3x512x1024 .f32)
  (WO : Vec Ideal S1024x1024 .f32) (X : Vec Ideal S32768x1024 .f32) (M : Vec Ideal S8x6144 .f32)
  (G : Vec Ideal S1024 .f32) (WR : Vec Ideal S1024x32 .f32) (BR : Vec Ideal S32 .f32)

/-- The gated sum of the branches, at a row. -/
def mixA (r : Fin 32768) (j : Fin 1024) : EReal :=
  mix (fun k => O0 (ix2 r k)) (fun k => O1 (ix2 r k)) (fun k => O2 (ix2 r k))
    (fun j => P (ix2 r ⟨4096 + j.val, by omega⟩)) (fun j => P (ix2 r ⟨5120 + j.val, by omega⟩))
    (fun j => P (ix2 r ⟨6144 + j.val, by omega⟩)) (fun n k j => WB (ix3 n k j)) j

/-- The new residual, at a row. -/
def xA (r : Fin 32768) (k : Fin 1024) : EReal :=
  resid (fun k => X (ix2 r k)) (fun k => M (ix2 (batch r) ⟨2048 + k.val, by omega⟩)) (mixA O0 O1 O2 P WB r)
    (fun j k => WO (ix2 j k)) k

/-- The normalized residual, at a row. -/
def hA (r : Fin 32768) (k : Fin 1024) : EReal :=
  hrow (xA O0 O1 O2 P WB WO X M r) (fun k => G (ix1 k)) (fun k => M (ix2 (batch r) ⟨4096 + k.val, by omega⟩))
    (fun k => M (ix2 (batch r) ⟨3072 + k.val, by omega⟩)) k

/-- The router's logits, at a row; zero in the lanes past the last expert. -/
def lA (r : Fin 32768) (e : Fin 128) : EReal :=
  if h : e.val < 32 then
    ∑ k, hA O0 O1 O2 P WB WO X M G r k * WR (ix2 k ⟨e.val, h⟩) + BR (ix1 ⟨e.val, h⟩)
  else 0

/-- The new residual as an array. -/
def arrX : Vec Ideal S32768x1024 .f32 := fun y => xA O0 O1 O2 P WB WO X M (y 0) (y 1)
/-- The normalized residual as an array. -/
def arrH : Vec Ideal S32768x1024 .f32 := fun y => hA O0 O1 O2 P WB WO X M G (y 0) (y 1)
/-- The logits as an array. -/
def arrL : Vec Ideal S32768x128 .f32 := fun y => lA O0 O1 O2 P WB WO X M G WR BR (y 0) (y 1)

end

variable (m : (ℓ : Loc nD τ sig) → Buf (Elt Ideal) ℓ) (c : Dev nD)

/-- The first branch. -/
abbrev a0 : Vec Ideal S32768x512 .bf16 := m ((c : Thread nD τ).loc main_arg0)
/-- The second branch. -/
abbrev a1 : Vec Ideal S32768x512 .bf16 := m ((c : Thread nD τ).loc main_arg1)
/-- The third branch. -/
abbrev a2 : Vec Ideal S32768x512 .bf16 := m ((c : Thread nD τ).loc main_arg2)
/-- The projection the gates are in. -/
abbrev a3 : Vec Ideal S32768x7168 .bf16 := m ((c : Thread nD τ).loc main_arg3)
/-- The branches' weights. -/
abbrev a4 : Vec Ideal S3x512x1024 .f32 := m ((c : Thread nD τ).loc main_arg4)
/-- The output weights. -/
abbrev a5 : Vec Ideal S1024x1024 .f32 := m ((c : Thread nD τ).loc main_arg5)
/-- The residual. -/
abbrev a6 : Vec Ideal S32768x1024 .f32 := m ((c : Thread nD τ).loc main_arg6)
/-- The modulation. -/
abbrev a7 : Vec Ideal S8x6144 .f32 := m ((c : Thread nD τ).loc main_arg7)
/-- The gain. -/
abbrev a8 : Vec Ideal S1024 .f32 := m ((c : Thread nD τ).loc main_arg8)
/-- The router's weights. -/
abbrev a9 : Vec Ideal S1024x32 .f32 := m ((c : Thread nD τ).loc main_arg9)
/-- The router's bias. -/
abbrev a10 : Vec Ideal S32 .f32 := m ((c : Thread nD τ).loc main_arg10)

theorem en_mod (b : Fin 8) (j : Fin 6144) : V m c main_v0 (ix3 b 0 j) = a7 m c (ix2 b j) := by
  unfold_abbrev_sides
  simp only [hostOps0, hostOps0_1, hostOps0_2, hostOps0_3, hostOps0_4, List.flatten_cons, List.flatten_nil,
    List.append_nil, List.cons_append, List.nil_append]
  after_results
  pointwise

theorem en_wb (n : Fin 3) (k : Fin 512) (j : Fin 1024) : V m c main_v4 (ix3 n k j) = a4 m c (ix3 n k j) := by
  unfold_abbrev_sides
  simp only [hostOps0, hostOps0_1, hostOps0_2, hostOps0_3, hostOps0_4, List.flatten_cons, List.flatten_nil,
    List.append_nil, List.cons_append, List.nil_append]
  after_results
  pointwise

theorem en_wo (j k : Fin 1024) : V m c main_v5 (ix2 j k) = a5 m c (ix2 j k) := by
  unfold_abbrev_sides
  simp only [hostOps0, hostOps0_1, hostOps0_2, hostOps0_3, hostOps0_4, List.flatten_cons, List.flatten_nil,
    List.append_nil, List.cons_append, List.nil_append]
  after_results
  pointwise

theorem en_g (k : Fin 1024) : V m c main_v6 (ix2 0 k) = a8 m c (ix1 k) := by
  unfold_abbrev_sides
  simp only [hostOps0, hostOps0_1, hostOps0_2, hostOps0_3, hostOps0_4, List.flatten_cons, List.flatten_nil,
    List.append_nil, List.cons_append, List.nil_append]
  after_results
  pointwise

theorem en_wr (k : Fin 1024) (e : Fin 128) : (V m c main_v1 (ix2 k e) : EReal)
    = if h : e.val < 32 then a9 m c (ix2 k ⟨e.val, h⟩) else 0 := by
  unfold_abbrev_sides
  simp only [hostOps0, hostOps0_1, hostOps0_2, hostOps0_3, hostOps0_4, List.flatten_cons, List.flatten_nil,
    List.append_nil, List.cons_append, List.nil_append]
  after_results
  pointwise
  change (pad S1024x128 ![0, 0] ![0, 96] ![0, 0] (a9 m c) (sitofp (F := Ideal) .f32 (constantI S_ 32 0#32))
    Facts₀.pads_S1024x32_S1024x128_000_0960 Facts₀.h_S_ (ix2 k e) : EReal) = _
  by_cases h : e.val < 32
  · rw [dif_pos h]
    refine pad_apply_of_inside _ _ _ _ _ _ _ _ (ix2 k ⟨e.val, h⟩) fun a => ?_
    fin_cases a
    · show k.val = 0 + k.val * (0 + 1)
      omega
    · show e.val = 0 + e.val * (0 + 1)
      omega
  · rw [dif_neg h]
    refine (pad_apply_of_not_inside _ _ _ _ _ _ _ _ 1 fun hh => h ?_).trans lane_zero
    have h2 : (e.val - 0) / (0 + 1) < 32 := hh.2.2
    omega

theorem en_br (e : Fin 128) : (V m c main_v3 (ix2 0 e) : EReal)
    = if h : e.val < 32 then a10 m c (ix1 ⟨e.val, h⟩) else 0 := by
  unfold_abbrev_sides
  simp only [hostOps0, hostOps0_1, hostOps0_2, hostOps0_3, hostOps0_4, List.flatten_cons, List.flatten_nil,
    List.append_nil, List.cons_append, List.nil_append]
  after_results
  pointwise
  change (pad S128 ![0] ![96] ![0] (a10 m c) (sitofp (F := Ideal) .f32 (constantI S_ 32 0#32))
    Facts₀.pads_S32_S128_0960 Facts₀.h_S_ (ix1 e) : EReal) = _
  by_cases h : e.val < 32
  · rw [dif_pos h]
    refine pad_apply_of_inside _ _ _ _ _ _ _ _ (ix1 ⟨e.val, h⟩) fun a => ?_
    fin_cases a
    show e.val = 0 + e.val * (0 + 1)
    omega
  · rw [dif_neg h]
    refine (pad_apply_of_not_inside _ _ _ _ _ _ _ _ 0 fun hh => h ?_).trans lane_zero
    have h2 : (e.val - 0) / (0 + 1) < 32 := hh.2.2
    omega

section
variable (t : Fin grid0.N)

theorem rdv0 (r k : Fin 512) : iblk m c 0 t (ix2 r k)
    = (V m c main_arg0 : Vec Ideal S32768x512 .bf16) (ix2 (row t r) k) := by
  blk_ext [iblk, ixw0 t, row]

theorem rd0 (r k : Fin 512) : iblk m c 0 t (ix2 r k)
    = a0 m c (ix2 (row t r) k) :=
  (rdv0 m c t r k).trans (congrFun (V_main_arg0 m c) _)

theorem rdv1 (r k : Fin 512) : iblk m c 1 t (ix2 r k)
    = (V m c main_arg1 : Vec Ideal S32768x512 .bf16) (ix2 (row t r) k) := by
  blk_ext [iblk, ixw1 t, row]

theorem rd1 (r k : Fin 512) : iblk m c 1 t (ix2 r k)
    = a1 m c (ix2 (row t r) k) :=
  (rdv1 m c t r k).trans (congrFun (V_main_arg1 m c) _)

theorem rdv2 (r k : Fin 512) : iblk m c 2 t (ix2 r k)
    = (V m c main_arg2 : Vec Ideal S32768x512 .bf16) (ix2 (row t r) k) := by
  blk_ext [iblk, ixw2 t, row]

theorem rd2 (r k : Fin 512) : iblk m c 2 t (ix2 r k)
    = a2 m c (ix2 (row t r) k) :=
  (rdv2 m c t r k).trans (congrFun (V_main_arg2 m c) _)

theorem rdv3 (r : Fin 512) (k : Fin 1024) : iblk m c 3 t (ix2 r k)
    = (V m c main_arg3 : Vec Ideal S32768x7168 .bf16) (ix2 (row t r) ⟨4096 + k.val, by omega⟩) := by
  blk_ext [iblk, ixw3 t, row]

theorem rd3 (r : Fin 512) (k : Fin 1024) : iblk m c 3 t (ix2 r k)
    = a3 m c (ix2 (row t r) ⟨4096 + k.val, by omega⟩) :=
  (rdv3 m c t r k).trans (congrFun (V_main_arg3 m c) _)

theorem rdv4 (r : Fin 512) (k : Fin 1024) : iblk m c 4 t (ix2 r k)
    = (V m c main_arg3 : Vec Ideal S32768x7168 .bf16) (ix2 (row t r) ⟨5120 + k.val, by omega⟩) := by
  blk_ext [iblk, ixw4 t, row]

theorem rd4 (r : Fin 512) (k : Fin 1024) : iblk m c 4 t (ix2 r k)
    = a3 m c (ix2 (row t r) ⟨5120 + k.val, by omega⟩) :=
  (rdv4 m c t r k).trans (congrFun (V_main_arg3 m c) _)

theorem rdv5 (r : Fin 512) (k : Fin 1024) : iblk m c 5 t (ix2 r k)
    = (V m c main_arg3 : Vec Ideal S32768x7168 .bf16) (ix2 (row t r) ⟨6144 + k.val, by omega⟩) := by
  blk_ext [iblk, ixw5 t, row]

theorem rd5 (r : Fin 512) (k : Fin 1024) : iblk m c 5 t (ix2 r k)
    = a3 m c (ix2 (row t r) ⟨6144 + k.val, by omega⟩) :=
  (rdv5 m c t r k).trans (congrFun (V_main_arg3 m c) _)

theorem rdv6 (n : Fin 3) (k : Fin 512) (j : Fin 1024) : iblk m c 6 t (ix3 n k j)
    = (V m c main_v4 : Vec Ideal S3x512x1024 .bf16) (ix3 n k j) := by
  blk_ext [iblk, ixw6 t]

theorem rd6 (n : Fin 3) (k : Fin 512) (j : Fin 1024) : iblk m c 6 t (ix3 n k j)
    = a4 m c (ix3 n k j) :=
  (rdv6 m c t n k j).trans (en_wb m c _ _ _)

theorem rdv7 (j k : Fin 1024) : iblk m c 7 t (ix2 j k)
    = (V m c main_v5 : Vec Ideal S1024x1024 .bf16) (ix2 j k) := by
  blk_ext [iblk, ixw7 t]

theorem rd7 (j k : Fin 1024) : iblk m c 7 t (ix2 j k)
    = a5 m c (ix2 j k) :=
  (rdv7 m c t j k).trans (en_wo m c _ _)

theorem rdv8 (r : Fin 512) (k : Fin 1024) : iblk m c 8 t (ix2 r k)
    = (V m c main_arg6 : Vec Ideal S32768x1024 .f32) (ix2 (row t r) k) := by
  blk_ext [iblk, ixw8 t, row]

theorem rd8 (r : Fin 512) (k : Fin 1024) : iblk m c 8 t (ix2 r k)
    = a6 m c (ix2 (row t r) k) :=
  (rdv8 m c t r k).trans (congrFun (V_main_arg6 m c) _)

theorem rdv9 (k : Fin 1024) : iblk m c 9 t (ix3 0 0 k)
    = (V m c main_v0 : Vec Ideal S8x1x6144 .f32) (ix3 (bat t) 0 ⟨2048 + k.val, by omega⟩) := by
  blk_ext [iblk, ixw9 t, bat]

theorem rd9 (k : Fin 1024) : iblk m c 9 t (ix3 0 0 k)
    = a7 m c (ix2 (bat t) ⟨2048 + k.val, by omega⟩) :=
  (rdv9 m c t k).trans (en_mod m c _ _)

theorem rdv11 (k : Fin 1024) : iblk m c 11 t (ix3 0 0 k)
    = (V m c main_v0 : Vec Ideal S8x1x6144 .f32) (ix3 (bat t) 0 ⟨3072 + k.val, by omega⟩) := by
  blk_ext [iblk, ixw11 t, bat]

theorem rd11 (k : Fin 1024) : iblk m c 11 t (ix3 0 0 k)
    = a7 m c (ix2 (bat t) ⟨3072 + k.val, by omega⟩) :=
  (rdv11 m c t k).trans (en_mod m c _ _)

theorem rdv12 (k : Fin 1024) : iblk m c 12 t (ix3 0 0 k)
    = (V m c main_v0 : Vec Ideal S8x1x6144 .f32) (ix3 (bat t) 0 ⟨4096 + k.val, by omega⟩) := by
  blk_ext [iblk, ixw12 t, bat]

theorem rd12 (k : Fin 1024) : iblk m c 12 t (ix3 0 0 k)
    = a7 m c (ix2 (bat t) ⟨4096 + k.val, by omega⟩) :=
  (rdv12 m c t k).trans (en_mod m c _ _)

theorem rdv10 (k : Fin 1024) : iblk m c 10 t (ix2 0 k)
    = (V m c main_v6 : Vec Ideal S1x1024 .f32) (ix2 0 k) := by
  blk_ext [iblk, ixw10 t]

theorem rd10 (k : Fin 1024) : iblk m c 10 t (ix2 0 k)
    = a8 m c (ix1 k) :=
  (rdv10 m c t k).trans (en_g m c _)

theorem rdv13 (k : Fin 1024) (e : Fin 128) : iblk m c 13 t (ix2 k e)
    = (V m c main_v1 : Vec Ideal S1024x128 .f32) (ix2 k e) := by
  blk_ext [iblk, ixw13 t]

theorem rd13 (k : Fin 1024) (e : Fin 128) : (iblk m c 13 t (ix2 k e) : EReal)
    = if h : e.val < 32 then a9 m c (ix2 k ⟨e.val, h⟩) else 0 :=
  (rdv13 m c t k e).trans (en_wr m c _ _)

theorem rdv14 (e : Fin 128) : iblk m c 14 t (ix2 0 e)
    = (V m c main_v3 : Vec Ideal S1x128 .f32) (ix2 0 e) := by
  blk_ext [iblk, ixw14 t]

theorem rd14 (e : Fin 128) : (iblk m c 14 t (ix2 0 e) : EReal)
    = if h : e.val < 32 then a10 m c (ix1 ⟨e.val, h⟩) else 0 :=
  (rdv14 m c t e).trans (en_br m c _)

theorem em15 (r : Fin 512) (k : Fin 1024) :
    ((win0_15.blk t).view.emb (ix2 r k) : S32768x1024.Idx) = ix2 (row t r) k := by
  blk_ext [ixw15 t, row]

theorem em16 (r : Fin 512) (k : Fin 1024) :
    ((win0_16.blk t).view.emb (ix2 r k) : S32768x1024.Idx) = ix2 (row t r) k := by
  blk_ext [ixw16 t, row]

theorem em17 (r : Fin 512) (k : Fin 128) :
    ((win0_17.blk t).view.emb (ix2 r k) : S32768x128.Idx) = ix2 (row t r) k := by
  blk_ext [ixw17 t, row]

theorem xblk_eq (r : Fin 512) (k : Fin 1024) :
    xblk (iblk m c 0 t) (iblk m c 1 t) (iblk m c 2 t) (iblk m c 3 t) (iblk m c 4 t) (iblk m c 5 t) (iblk m c 6 t) (iblk m c 7 t) (iblk m c 8 t) (iblk m c 9 t) r k
      = xA (a0 m c) (a1 m c) (a2 m c) (a3 m c) (a4 m c) (a5 m c) (a6 m c) (a7 m c) (row t r) k := by
  unfold xblk xA mixA
  simp only [rd0, rd1, rd2, rd3, rd4, rd5, rd6, rd7, rd8, rd9, batch_row]

theorem hblk_eq (r : Fin 512) (k : Fin 1024) :
    hblk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r k
      = hA (a0 m c) (a1 m c) (a2 m c) (a3 m c) (a4 m c) (a5 m c) (a6 m c) (a7 m c) (a8 m c) (row t r) k := by
  unfold hblk hA
  have e : xblk (iblk m c 0 t) (iblk m c 1 t) (iblk m c 2 t) (iblk m c 3 t) (iblk m c 4 t) (iblk m c 5 t) (iblk m c 6 t) (iblk m c 7 t) (iblk m c 8 t) (iblk m c 9 t) r
      = xA (a0 m c) (a1 m c) (a2 m c) (a3 m c) (a4 m c) (a5 m c) (a6 m c) (a7 m c) (row t r) := funext fun k => xblk_eq m c t r k
  rw [e]
  simp only [rd10, rd11, rd12, batch_row]

theorem lblk_eq (r : Fin 512) (e : Fin 128) :
    (∑ k, hblk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r k * (iblk m c 13 t (ix2 k e) : EReal) + (iblk m c 14 t (ix2 0 e) : EReal))
      = lA (a0 m c) (a1 m c) (a2 m c) (a3 m c) (a4 m c) (a5 m c) (a6 m c) (a7 m c) (a8 m c) (a9 m c) (a10 m c) (row t r) e := by
  simp only [hblk_eq, rd13, rd14]
  unfold lA
  by_cases h : e.val < 32
  · simp only [dif_pos h]
  · simp only [dif_neg h, mul_zero, Finset.sum_const_zero, add_zero]

end

theorem arr15 : (dats m 0 c).arrAt 15 cfg0.N = arrX (a0 m c) (a1 m c) (a2 m c) (a3 m c) (a4 m c) (a5 m c) (a6 m c) (a7 m c) := by
  refine (dats m 0 c).arrAt_eq_of_covers 15 _ (by decide +kernel) fun t hf y => ?_
  blk_simp
  rw [after0_15]
  obtain ⟨r, k, rfl⟩ : ∃ r k, y = ix2 r k := ⟨y 0, y 1, eq_ix2 y⟩
  refine Eq.trans ?_ (congrArg (arrX _ _ _ _ _ _ _ _) (em15 t r k)).symm
  exact (out15_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r k).trans (xblk_eq m c t r k)

theorem arr16 : (dats m 0 c).arrAt 16 cfg0.N = arrH (a0 m c) (a1 m c) (a2 m c) (a3 m c) (a4 m c) (a5 m c) (a6 m c) (a7 m c) (a8 m c) := by
  refine (dats m 0 c).arrAt_eq_of_covers 16 _ (by decide +kernel) fun t hf y => ?_
  blk_simp
  rw [after0_16]
  obtain ⟨r, k, rfl⟩ : ∃ r k, y = ix2 r k := ⟨y 0, y 1, eq_ix2 y⟩
  refine Eq.trans ?_ (congrArg (arrH _ _ _ _ _ _ _ _ _) (em16 t r k)).symm
  exact (out16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r k).trans (hblk_eq m c t r k)

theorem arr17 : (dats m 0 c).arrAt 17 cfg0.N
    = arrL (a0 m c) (a1 m c) (a2 m c) (a3 m c) (a4 m c) (a5 m c) (a6 m c) (a7 m c) (a8 m c) (a9 m c) (a10 m c) := by
  refine (dats m 0 c).arrAt_eq_of_covers 17 _ (by decide +kernel) fun t hf y => ?_
  blk_simp
  rw [after0_17]
  obtain ⟨r, e, rfl⟩ : ∃ r e, y = ix2 r e := ⟨y 0, y 1, eq_ix2 y⟩
  refine Eq.trans ?_ (congrArg (arrL _ _ _ _ _ _ _ _ _ _ _) (em17 t r e)).symm
  exact (out17_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r e).trans (lblk_eq m c t r e)

end Cert.Kernel4Ideal.Merge

end
-- ==== Proof.Merge.Ref.lean ====
/- The reference's merge, at an index. -/
module

public import proofs.«01_k».proof.Proof.Gen.Reference4Ideal.Read
public import proofs.«01_k».proof.Proof.Merge.Arr

@[expose] public section

set_option maxRecDepth 16384

noncomputable section

namespace Cert.Reference4Ideal.Merge

open Idealize.ShloMosaic Idealize.ShloMosaic.TcCoe
open Cert.Reference4Ideal Cert.Reference4Ideal.Read Cert.Kernel4Ideal.Merge Cert.RowMath

variable (x0 x1 x2 : Vec Ideal S32768x512 .bf16) (x3 : Vec Ideal S32768x7168 .bf16) (x4 : Vec Ideal S3x512x1024 .f32)
  (x5 : Vec Ideal S1024x1024 .f32) (x6 : Vec Ideal S32768x1024 .f32) (x7 : Vec Ideal S8x6144 .f32)
  (x8 : Vec Ideal S1024 .f32) (x9 : Vec Ideal S1024x32 .f32) (x10 : Vec Ideal S32 .f32)

theorem r0 (b : Fin 8) (n : Fin 4096) (k : Fin 1024) : val_main_v0 (F := Ideal) x6 (ix3 b n k) = x6 (ix2 (flat b n) k) := by
  rw [val_main_v0_apply]
  refine congrArg x6 (funext fun a => ?_)
  fin_cases a
  · exact Fin.ext (by
      show ((b.val * 4096 + n.val) * 1024 + k.val) / 1024 = b.val * 4096 + n.val
      omega)
  · exact Fin.ext (by
      show ((b.val * 4096 + n.val) * 1024 + k.val) % 1024 = k.val
      omega)

theorem r13_0 (r : Fin 32768) (k : Fin 512) : (val_main_v13 (F := Ideal) x0 x1 x2 (ix3 r 0 k) : EReal) = x0 (ix2 r k) := by
  unfold val_main_v13
  refine (concatenate_apply_piece (1 : Fin S32768x3x512.rank) _ _ _ 0 (Nat.le_of_ble_eq_true rfl) S32768x1x512 _ rfl rfl 0 rfl
    (ix3 r 0 k) (fun b hb => ?_) rfl).trans ?_
  · fin_cases b
    · rfl
    · exact absurd rfl hb
    · rfl
  · rw [val_main_v10_apply, val_main_v7_apply]
    have e : idx_main_v10 (ix3 r 0 k) = ix2 r k := funext fun a => by fin_cases a <;> rfl
    rw [e]
    rfl

theorem r13_1 (r : Fin 32768) (k : Fin 512) : (val_main_v13 (F := Ideal) x0 x1 x2 (ix3 r 1 k) : EReal) = x1 (ix2 r k) := by
  unfold val_main_v13
  refine (concatenate_apply_piece (1 : Fin S32768x3x512.rank) _ _ _ 1 (Nat.le_of_ble_eq_true rfl) S32768x1x512 _ rfl rfl 1 rfl
    (ix3 r 0 k) (fun b hb => ?_) rfl).trans ?_
  · fin_cases b
    · rfl
    · exact absurd rfl hb
    · rfl
  · rw [val_main_v11_apply, val_main_v8_apply]
    have e : idx_main_v11 (ix3 r 0 k) = ix2 r k := funext fun a => by fin_cases a <;> rfl
    rw [e]
    rfl

theorem r13_2 (r : Fin 32768) (k : Fin 512) : (val_main_v13 (F := Ideal) x0 x1 x2 (ix3 r 2 k) : EReal) = x2 (ix2 r k) := by
  unfold val_main_v13
  refine (concatenate_apply_piece (1 : Fin S32768x3x512.rank) _ _ _ 2 (Nat.le_of_ble_eq_true rfl) S32768x1x512 _ rfl rfl 2 rfl
    (ix3 r 0 k) (fun b hb => ?_) rfl).trans ?_
  · fin_cases b
    · rfl
    · exact absurd rfl hb
    · rfl
  · rw [val_main_v12_apply, val_main_v9_apply]
    have e : idx_main_v12 (ix3 r 0 k) = ix2 r k := funext fun a => by fin_cases a <;> rfl
    rw [e]
    rfl

/-- The three branches by number. -/
def br (n : Fin 3) : Vec Ideal S32768x512 .bf16 := ![x0, x1, x2] n

theorem r13 (r : Fin 32768) (n : Fin 3) (k : Fin 512) :
    (val_main_v13 (F := Ideal) x0 x1 x2 (ix3 r n k) : EReal) = br x0 x1 x2 n (ix2 r k) := by
  fin_cases n
  · exact r13_0 x0 x1 x2 r k
  · exact r13_1 x0 x1 x2 r k
  · exact r13_2 x0 x1 x2 r k

theorem r14 (b : Fin 8) (n : Fin 4096) (s : Fin 3) (k : Fin 512) :
    (val_main_v14 (F := Ideal) x0 x1 x2 (ix4 b n s k) : EReal) = br x0 x1 x2 s (ix2 (flat b n) k) := by
  rw [val_main_v14_apply]
  have e : idx_main_v14 (ix4 b n s k) = ix3 (flat b n) s k := funext fun a => by
    fin_cases a
    · exact Fin.ext (by
        show (((b.val * 4096 + n.val) * 3 + s.val) * 512 + k.val) / 1536 = b.val * 4096 + n.val
        omega)
    · exact Fin.ext (by
        show (((b.val * 4096 + n.val) * 3 + s.val) * 512 + k.val) / 512 % 3 = s.val
        omega)
    · exact Fin.ext (by
        show (((b.val * 4096 + n.val) * 3 + s.val) * 512 + k.val) % 512 = k.val
        omega)
  rw [e]
  exact r13 x0 x1 x2 _ s k

theorem r25 (b : Fin 8) (n : Fin 4096) (s : Fin 3) (j : Fin 1024) :
    (val_main_v25 (F := Ideal) x0 x1 x2 x4 (ix4 b n s j) : EReal)
      = ∑ k : Fin 512, (br x0 x1 x2 s (ix2 (flat b n) k) : EReal) * x4 (ix3 s k j) := by
  rw [val_main_v25_apply, val_main_v24_apply]
  refine Finset.sum_congr rfl fun k _ => ?_
  have el : lidx_main_v24 (idx_main_v25 (ix4 b n s j)) k = ix3 s k j := funext fun a => by fin_cases a <;> rfl
  have er : ridx_main_v24 (idx_main_v25 (ix4 b n s j)) k = ix4 b n s k := funext fun a => by fin_cases a <;> rfl
  rw [el, er, r14]
  exact mul_comm (x4 (ix3 s k j) : EReal) _

theorem r17 (b : Fin 8) (n : Fin 4096) (s : Fin 3) (j : Fin 1024) :
    (val_main_v17 (F := Ideal) x3 (ix4 b n s j) : EReal)
      = x3 (ix2 (flat b n) ⟨4096 + (s.val * 1024 + j.val), by omega⟩) := by
  rw [val_main_v17_apply, val_main_v16_apply, val_main_v15_apply]
  have e : idx_main_v16 (idx_main_v17 (ix4 b n s j)) = ix2 (flat b n) ⟨4096 + (s.val * 1024 + j.val), by omega⟩ :=
    funext fun a => by
      fin_cases a
      · exact Fin.ext (by
          show (((b.val * 4096 + n.val) * 3 + s.val) * 1024 + j.val) / 3072 = b.val * 4096 + n.val
          omega)
      · exact Fin.ext (by
          show 4096 + (((b.val * 4096 + n.val) * 3 + s.val) * 1024 + j.val) % 3072 = 4096 + (s.val * 1024 + j.val)
          omega)
  rw [e]
  rfl

theorem r23 (b : Fin 8) (n : Fin 4096) (s : Fin 3) (j : Fin 1024) :
    (val_main_v23 (F := Ideal) x3 (ix4 b n s j) : EReal)
      = Ideal.logistic (x3 (ix2 (flat b n) ⟨4096 + (s.val * 1024 + j.val), by omega⟩)) := by
  rw [val_main_v23_apply, val_main_v22_apply, val_main_v21_apply, val_main_v20_apply, val_main_v19_apply, val_main_v18_apply,
    r17]
  unfold Ideal.logistic
  rw [← bits_one]
  rfl

theorem r27 (b : Fin 8) (n : Fin 4096) (j : Fin 1024) :
    (val_main_v27 (F := Ideal) x0 x1 x2 x3 x4 (ix3 b n j) : EReal) = mixA x0 x1 x2 x3 x4 (flat b n) j := by
  rw [val_main_v27_apply]
  have hz : ∀ i, (val_main_cst_1 (F := Ideal) i : EReal) = 0 := fun i => bits_zero
  rw [hz, zero_add]
  have e : ∀ s, idx_main_v27 (ix3 b n j) s = ix4 b n s j := fun s => funext fun a => by fin_cases a <;> rfl
  have t : ∀ s, (val_main_v26 (F := Ideal) x0 x1 x2 x3 x4 (ix4 b n s j) : EReal)
      = (∑ k : Fin 512, (br x0 x1 x2 s (ix2 (flat b n) k) : EReal) * x4 (ix3 s k j))
        * Ideal.logistic (x3 (ix2 (flat b n) ⟨4096 + (s.val * 1024 + j.val), by omega⟩)) := fun s => by
    rw [val_main_v26_apply, r25, r23]
    rfl
  refine (Finset.sum_congr rfl fun s _ => (congrArg _ (e s)).trans (t s)).trans ?_
  rw [Fin.sum_univ_three]
  unfold mixA mix
  have c0 : (⟨4096 + ((0 : Fin 3).val * 1024 + j.val), by omega⟩ : Fin 7168) = ⟨4096 + j.val, by omega⟩ :=
    Fin.ext (by
      show 4096 + (0 * 1024 + j.val) = 4096 + j.val
      omega)
  have c1 : (⟨4096 + ((1 : Fin 3).val * 1024 + j.val), by have : (1 : Fin 3).val = 1 := rfl; omega⟩ : Fin 7168)
      = ⟨5120 + j.val, by omega⟩ :=
    Fin.ext (by
      show 4096 + (1 * 1024 + j.val) = 5120 + j.val
      omega)
  have c2 : (⟨4096 + ((2 : Fin 3).val * 1024 + j.val), by have : (2 : Fin 3).val = 2 := rfl; omega⟩ : Fin 7168)
      = ⟨6144 + j.val, by omega⟩ :=
    Fin.ext (by
      show 4096 + (2 * 1024 + j.val) = 6144 + j.val
      omega)
  rw [c0, c1, c2]
  rfl

theorem r31 (b : Fin 8) (n : Fin 4096) (k : Fin 1024) :
    (val_main_v31 (F := Ideal) x0 x1 x2 x3 x4 x5 x6 x7 (ix3 b n k) : EReal)
      = xA x0 x1 x2 x3 x4 x5 x6 x7 (flat b n) k := by
  rw [val_main_v31_apply, val_main_v30_apply, val_main_v29_apply, val_main_v2_apply, val_main_v1_apply, val_main_v28_apply, r0]
  have el : ∀ j, lidx_main_v28 (ix3 b n k) j = ix3 b n j := fun j => funext fun a => by fin_cases a <;> rfl
  have er : ∀ j, ridx_main_v28 (ix3 b n k) j = ix2 j k := fun j => funext fun a => by fin_cases a <;> rfl
  have eg : idx_main_v1 (idx_main_v2 (idx_main_v29 (ix3 b n k))) = ix2 b ⟨2048 + k.val, by omega⟩ := funext fun a => by
    fin_cases a
    · rfl
    · exact Fin.ext rfl
  rw [eg]
  have es : (∑ j : Fin 1024, (val_main_v27 (F := Ideal) x0 x1 x2 x3 x4 (lidx_main_v28 (ix3 b n k) j) : EReal)
      * x5 (ridx_main_v28 (ix3 b n k) j)) = ∑ j : Fin 1024, mixA x0 x1 x2 x3 x4 (flat b n) j * x5 (ix2 j k) :=
    Finset.sum_congr rfl fun j _ => by rw [el, er, r27]
  unfold xA resid
  rw [batch_flat, ← es]
  rfl

theorem r33 (b : Fin 8) (n : Fin 4096) : (val_main_v33 (F := Ideal) x0 x1 x2 x3 x4 x5 x6 x7 (ix2 b n) : EReal)
    = ∑ k : Fin 1024, xA x0 x1 x2 x3 x4 x5 x6 x7 (flat b n) k * xA x0 x1 x2 x3 x4 x5 x6 x7 (flat b n) k := by
  rw [val_main_v33_apply]
  have hz : ∀ i, (val_main_cst_2 (F := Ideal) i : EReal) = 0 := fun i => bits_zero
  rw [hz, zero_add]
  refine Finset.sum_congr rfl fun k _ => ?_
  have e : idx_main_v33 (ix2 b n) k = ix3 b n k := funext fun a => by fin_cases a <;> rfl
  rw [e, val_main_v32_apply, r31]
  rfl

theorem r50 (b : Fin 8) (n : Fin 4096) (k : Fin 1024) :
    (val_main_v50 (F := Ideal) x0 x1 x2 x3 x4 x5 x6 x7 x8 (ix3 b n k) : EReal)
      = hA x0 x1 x2 x3 x4 x5 x6 x7 x8 (flat b n) k := by
  rw [val_main_v50_apply, val_main_v48_apply, val_main_v44_apply, val_main_v41_apply, val_main_v40_apply, val_main_v39_apply,
    val_main_v38_apply, val_main_v37_apply, val_main_v36_apply, val_main_v35_apply, val_main_v34_apply, val_main_v43_apply,
    val_main_v42_apply, val_main_v47_apply, val_main_v46_apply, val_main_v45_apply, val_main_v6_apply, val_main_v5_apply,
    val_main_v49_apply, val_main_v4_apply, val_main_v3_apply, r31]
  have e6 : idx_main_v34 (idx_main_v40 (ix3 b n k)) = ix2 b n := funext fun a => by fin_cases a <;> rfl
  have e1 : (idx_main_v42 (idx_main_v43 (ix3 b n k))) = ix1 k := funext fun a => by fin_cases a <;> rfl
  have e3 : (idx_main_v5 (idx_main_v6 (idx_main_v47 (ix3 b n k)))) = ix2 b ⟨4096 + k.val, by omega⟩ :=
    funext fun a => by
      fin_cases a
      · rfl
      · exact Fin.ext rfl
  have e4 : (idx_main_v3 (idx_main_v4 (idx_main_v49 (ix3 b n k)))) = ix2 b ⟨3072 + k.val, by omega⟩ :=
    funext fun a => by
      fin_cases a
      · rfl
      · exact Fin.ext rfl
  rw [e6, e1, e3, e4, r33]
  unfold hA hrow
  rw [batch_flat, ← bits_one]
  rfl

theorem resX : val_main_v57 (F := Ideal) x0 x1 x2 x3 x4 x5 x6 x7 = arrX x0 x1 x2 x3 x4 x5 x6 x7 := by
  funext y
  obtain ⟨r, l, rfl⟩ : ∃ r l, y = ix2 r l := ⟨y 0, y 1, eq_ix2 y⟩
  obtain ⟨b, n, rfl⟩ := eq_flat r
  rw [val_main_v57_apply]
  have e : idx_main_v57 (ix2 (flat b n) l) = ix3 b n l := funext fun a => by
    fin_cases a
    · exact Fin.ext (by
        show ((b.val * 4096 + n.val) * 1024 + l.val) / 4194304 = b.val
        omega)
    · exact Fin.ext (by
        show ((b.val * 4096 + n.val) * 1024 + l.val) / 1024 % 4096 = n.val
        omega)
    · exact Fin.ext (by
        show ((b.val * 4096 + n.val) * 1024 + l.val) % 1024 = l.val
        omega)
  rw [e]
  exact r31 x0 x1 x2 x3 x4 x5 x6 x7 b n l

theorem resH : val_main_v58 (F := Ideal) x0 x1 x2 x3 x4 x5 x6 x7 x8 = arrH x0 x1 x2 x3 x4 x5 x6 x7 x8 := by
  funext y
  obtain ⟨r, l, rfl⟩ : ∃ r l, y = ix2 r l := ⟨y 0, y 1, eq_ix2 y⟩
  obtain ⟨b, n, rfl⟩ := eq_flat r
  rw [val_main_v58_apply]
  have e : idx_main_v58 (ix2 (flat b n) l) = ix3 b n l := funext fun a => by
    fin_cases a
    · exact Fin.ext (by
        show ((b.val * 4096 + n.val) * 1024 + l.val) / 4194304 = b.val
        omega)
    · exact Fin.ext (by
        show ((b.val * 4096 + n.val) * 1024 + l.val) / 1024 % 4096 = n.val
        omega)
    · exact Fin.ext (by
        show ((b.val * 4096 + n.val) * 1024 + l.val) % 1024 = l.val
        omega)
  rw [e]
  exact r50 x0 x1 x2 x3 x4 x5 x6 x7 x8 b n l

theorem r55 (r : Fin 32768) (l : Fin 32) : (val_main_v55 (F := Ideal) x0 x1 x2 x3 x4 x5 x6 x7 x8 x9 x10 (ix2 r l) : EReal)
    = ∑ k, hA x0 x1 x2 x3 x4 x5 x6 x7 x8 r k * x9 (ix2 k l) + x10 (ix1 l) := by
  obtain ⟨b, n, rfl⟩ := eq_flat r
  rw [val_main_v55_apply]
  have e : idx_main_v55 (ix2 (flat b n) l) = ix3 b n l := funext fun a => by
    fin_cases a
    · exact Fin.ext (by
        show ((b.val * 4096 + n.val) * 32 + l.val) / 131072 = b.val
        omega)
    · exact Fin.ext (by
        show ((b.val * 4096 + n.val) * 32 + l.val) / 32 % 4096 = n.val
        omega)
    · exact Fin.ext (by
        show ((b.val * 4096 + n.val) * 32 + l.val) % 32 = l.val
        omega)
  rw [e, val_main_v54_apply, val_main_v53_apply, val_main_v52_apply, val_main_v51_apply]
  have el : ∀ k, lidx_main_v51 (ix3 b n l) k = ix3 b n k := fun k => funext fun a => by fin_cases a <;> rfl
  have er : ∀ k, ridx_main_v51 (ix3 b n l) k = ix2 k l := fun k => funext fun a => by fin_cases a <;> rfl
  have eb : idx_main_v52 (idx_main_v53 (ix3 b n l)) = ix1 l := funext fun a => by fin_cases a <;> rfl
  rw [eb]
  show (∑ k : Fin 1024, (val_main_v50 (F := Ideal) x0 x1 x2 x3 x4 x5 x6 x7 x8 (lidx_main_v51 (ix3 b n l) k) : EReal)
      * x9 (ridx_main_v51 (ix3 b n l) k)) + x10 (ix1 l) = _
  simp only [el, er, r50]

theorem resL : val_main_v56 (F := Ideal) x0 x1 x2 x3 x4 x5 x6 x7 x8 x9 x10 = arrL x0 x1 x2 x3 x4 x5 x6 x7 x8 x9 x10 := by
  funext y
  obtain ⟨r, e, rfl⟩ : ∃ r e, y = ix2 r e := ⟨y 0, y 1, eq_ix2 y⟩
  unfold val_main_v56
  show _ = lA x0 x1 x2 x3 x4 x5 x6 x7 x8 x9 x10 r e
  unfold lA
  by_cases h : e.val < 32
  · rw [dif_pos h]
    refine (pad_apply_of_inside _ _ _ _ _ _ _ _ (ix2 r ⟨e.val, h⟩) fun a => ?_).trans (r55 x0 x1 x2 x3 x4 x5 x6 x7 x8 x9 x10 r ⟨e.val, h⟩)
    fin_cases a
    · show r.val = 0 + r.val * (0 + 1)
      omega
    · show e.val = 0 + e.val * (0 + 1)
      omega
  · rw [dif_neg h]
    refine (pad_apply_of_not_inside _ _ _ _ _ _ _ _ 1 fun hh => h ?_).trans lane_zero
    have h2 : (e.val - 0) / (0 + 1) < 32 := hh.2.2
    omega

end Cert.Reference4Ideal.Merge

end
-- ==== Proof.Merge.Claims.lean ====
/- The claims of the merge call: the reference's frame, and the results being the same. -/
module

public import proofs.«01_k».proof.Defs
public import proofs.«01_k».proof.Proof.Merge.Ref
public import proofs.«01_k».proof.Proof.Gen.Kernel4Ideal.Value
public import proofs.«01_k».proof.Proof.Gen.Reference4Ideal.Run
public import Idealize.ShloMosaic.Lib.Quiescent

@[expose] public section

noncomputable section

namespace Cert.MergeClaims

open Idealize.ShloMosaic Idealize.ShloMosaic.TcCoe Idealize.SL.Sem

/-- The reference runs, and leaves its arguments and the counters alone. -/
theorem frame_ri : Cert.quiescent_Reference4Ideal (hReference4Ideal := Cert.Reference4Ideal.Gen.facts) := fun m ρ _ =>
  (θ_run Cert.Reference4Ideal.defs _ _).mono (fun r h => ⟨fun c => (h c).2.2.2,
      Idealize.ShloMosaic.sem_eq_zero_of_no_sems (by decide) r.2⟩)
    (Cert.Reference4Ideal.Value.run (F := Ideal) m ρ)

/-- From arguments that agree, both runs end with the same three results. -/
theorem algebraic : Cert.algebraic_Kernel4Ideal_Reference4Ideal (hKernel4Ideal := Cert.Kernel4Ideal.Gen.facts)
    (hReference4Ideal := Cert.Reference4Ideal.Gen.facts) := by
  intro m ρ m' ρ' hpre hagree
  refine ⟨fun c => (Cert.Kernel4Ideal.Gen.dats m 0 c).arrAt 15 Cert.Kernel4Ideal.cfg0.N,
    fun c => (Cert.Kernel4Ideal.Gen.dats m 0 c).arrAt 16 Cert.Kernel4Ideal.cfg0.N,
    fun c => (Cert.Kernel4Ideal.Gen.dats m 0 c).arrAt 17 Cert.Kernel4Ideal.cfg0.N,
    Cert.Kernel4Ideal.Value.run_blocks m ρ, ?_⟩
  refine (θ_run Cert.Reference4Ideal.defs _ _).mono
    (fun _ h c => ⟨(h c).1.trans ?_, (h c).2.1.trans ?_, (h c).2.2.1.trans ?_, (h c).2.2.2⟩)
    (Cert.Reference4Ideal.Value.run (F := Ideal) m' ρ')
  all_goals obtain ⟨h0, h1, h2, h3, h4, h5, h6, h7, h8, h9, h10⟩ := hagree c
  · refine (Cert.Reference4Ideal.Read.val_main_v57_eq (F := Ideal) _ _ _ _ _ _ _ _).trans ?_
    refine Eq.trans ?_ (Cert.Kernel4Ideal.Merge.arr15 m c).symm
    show Cert.Reference4Ideal.Read.val_main_v57 (F := Ideal)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3))
      (m' ((c.tc : Thread Cert.Reference4Ideal.nD Cert.Reference4Ideal.τ).loc Cert.Reference4Ideal.main_arg4))
      (m' ((c.tc : Thread Cert.Reference4Ideal.nD Cert.Reference4Ideal.τ).loc Cert.Reference4Ideal.main_arg5))
      (m' ((c.tc : Thread Cert.Reference4Ideal.nD Cert.Reference4Ideal.τ).loc Cert.Reference4Ideal.main_arg6))
      (m' ((c.tc : Thread Cert.Reference4Ideal.nD Cert.Reference4Ideal.τ).loc Cert.Reference4Ideal.main_arg7)) = _
    rw [h0, h1, h2, h3, h4, h5, h6, h7]
    exact Cert.Reference4Ideal.Merge.resX _ _ _ _ _ _ _ _
  · refine (Cert.Reference4Ideal.Read.val_main_v58_eq (F := Ideal) m' c).trans ?_
    refine Eq.trans ?_ (Cert.Kernel4Ideal.Merge.arr16 m c).symm
    show Cert.Reference4Ideal.Read.val_main_v58 (F := Ideal)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3))
      (m' ((c.tc : Thread Cert.Reference4Ideal.nD Cert.Reference4Ideal.τ).loc Cert.Reference4Ideal.main_arg4))
      (m' ((c.tc : Thread Cert.Reference4Ideal.nD Cert.Reference4Ideal.τ).loc Cert.Reference4Ideal.main_arg5))
      (m' ((c.tc : Thread Cert.Reference4Ideal.nD Cert.Reference4Ideal.τ).loc Cert.Reference4Ideal.main_arg6))
      (m' ((c.tc : Thread Cert.Reference4Ideal.nD Cert.Reference4Ideal.τ).loc Cert.Reference4Ideal.main_arg7))
      (m' ((c.tc : Thread Cert.Reference4Ideal.nD Cert.Reference4Ideal.τ).loc Cert.Reference4Ideal.main_arg8)) = _
    rw [h0, h1, h2, h3, h4, h5, h6, h7, h8]
    exact Cert.Reference4Ideal.Merge.resH _ _ _ _ _ _ _ _ _
  · refine (Cert.Reference4Ideal.Read.val_main_v56_eq (F := Ideal) m' c).trans ?_
    refine Eq.trans ?_ (Cert.Kernel4Ideal.Merge.arr17 m c).symm
    show Cert.Reference4Ideal.Read.val_main_v56 (F := Ideal)
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))
      (m' ((c.tc : Thread Cert.Reference4Ideal.nD Cert.Reference4Ideal.τ).loc Cert.Reference4Ideal.main_arg3))
      (m' ((c.tc : Thread Cert.Reference4Ideal.nD Cert.Reference4Ideal.τ).loc Cert.Reference4Ideal.main_arg4))
      (m' ((c.tc : Thread Cert.Reference4Ideal.nD Cert.Reference4Ideal.τ).loc Cert.Reference4Ideal.main_arg5))
      (m' ((c.tc : Thread Cert.Reference4Ideal.nD Cert.Reference4Ideal.τ).loc Cert.Reference4Ideal.main_arg6))
      (m' ((c.tc : Thread Cert.Reference4Ideal.nD Cert.Reference4Ideal.τ).loc Cert.Reference4Ideal.main_arg7))
      (m' ((c.tc : Thread Cert.Reference4Ideal.nD Cert.Reference4Ideal.τ).loc Cert.Reference4Ideal.main_arg8))
      (m' ((c.tc : Thread Cert.Reference4Ideal.nD Cert.Reference4Ideal.τ).loc Cert.Reference4Ideal.main_arg9))
      (m' ((c.tc : Thread Cert.Reference4Ideal.nD Cert.Reference4Ideal.τ).loc Cert.Reference4Ideal.main_arg10)) = _
    rw [h0, h1, h2, h3, h4, h5, h6, h7, h8, h9, h10]
    exact Cert.Reference4Ideal.Merge.resL _ _ _ _ _ _ _ _ _ _ _

end Cert.MergeClaims

end
-- ==== Proof.Mod.Arr.lean ====
/- The array the modulation leaves, at an index. -/
module

public import proofs.«01_k».proof.Proof.Gen.Kernel5Ideal.Frame
public import proofs.«01_k».proof.Proof.Row.Math
public import Idealize.ShloMosaic.Lib.Pipeline.ValueKit

@[expose] public section

set_option maxRecDepth 16384

noncomputable section

namespace Cert.Kernel5Ideal.Mod

open Idealize.ShloMosaic Idealize.ShloMosaic.TcCoe
open Cert.Kernel5Ideal Cert.Kernel5Ideal.Gen

theorem out3_apply (x0 : Vec Ideal S8x1024 .f32) (x1 : Vec Ideal S1x1024x1536 .f32) (x2 : Vec Ideal S1x1x1536 .f32)
    (b : Fin 8) (j : Fin 1536) : (out0_3 x0 x1 x2 (ix3 0 b j) : EReal)
      = ∑ k, (x0 (ix2 b k) * Ideal.logistic (x0 (ix2 b k))) * x1 (ix3 0 k j) + x2 (ix3 0 0 j) := by
  frame_out
  pointwise [k0_pay1]

theorem ixw0 : ∀ t : Fin grid0.N, win0_0.index t = ![0, 0] := by decide +kernel
theorem ixw1 : ∀ t : Fin grid0.N, win0_1.index t = ![t.val / 4, 0, t.val % 4] := by decide +kernel
theorem ixw2 : ∀ t : Fin grid0.N, win0_2.index t = ![t.val / 4, 0, t.val % 4] := by decide +kernel
theorem ixw3 : ∀ t : Fin grid0.N, win0_3.index t = ![t.val / 4, 0, t.val % 4] := by decide +kernel

theorem t_lt (t : Fin grid0.N) : t.val < 16 := t.isLt

/-- The layer point `t` is in. -/
def lay (t : Fin grid0.N) : Fin 4 := ⟨t.val / 4, by have := t_lt t; omega⟩

/-- The column of the array that column `j` of the block at point `t` is. -/
def col (t : Fin grid0.N) (j : Fin 1536) : Fin 6144 := ⟨t.val % 4 * 1536 + j.val, by omega⟩

/-- The modulation of every layer and batch as an array. -/
def modA (C : Vec Ideal S8x1024 .f32) (W : Vec Ideal S4x1024x6144 .f32) (B : Vec Ideal S4x6144 .f32) :
    Vec Ideal S4x8x6144 .f32 := fun y =>
  (∑ k : Fin 1024, (C (ix2 (y 1) k) * Ideal.logistic (C (ix2 (y 1) k))) * W (ix3 (y 0) k (y 2)) + B (ix2 (y 0) (y 2)) : EReal)

variable (m : (ℓ : Loc nD τ sig) → Buf (Elt Ideal) ℓ) (c : Dev nD)

/-- The condition's rows. -/
abbrev aC : Vec Ideal S8x1024 .f32 := m ((c : Thread nD τ).loc main_arg0)
/-- The weights. -/
abbrev aW : Vec Ideal S4x1024x6144 .f32 := m ((c : Thread nD τ).loc main_arg1)
/-- The bias. -/
abbrev aB : Vec Ideal S4x6144 .f32 := m ((c : Thread nD τ).loc main_arg2)

theorem en_b (l : Fin 4) (j : Fin 6144) : V m c main_v0 (ix3 l 0 j) = aB m c (ix2 l j) := by
  unfold_abbrev_sides
  after_results
  pointwise

section
variable (t : Fin grid0.N)

theorem rdv0 (b : Fin 8) (k : Fin 1024) : iblk m c 0 t (ix2 b k) = (V m c main_arg0 : Vec Ideal S8x1024 .f32) (ix2 b k) := by
  blk_ext [iblk, ixw0 t]

theorem rdv1 (k : Fin 1024) (j : Fin 1536) : iblk m c 1 t (ix3 0 k j)
    = (V m c main_arg1 : Vec Ideal S4x1024x6144 .f32) (ix3 (lay t) k (col t j)) := by
  blk_ext [iblk, ixw1 t, lay, col]

theorem rdv2 (j : Fin 1536) : iblk m c 2 t (ix3 0 0 j)
    = (V m c main_v0 : Vec Ideal S4x1x6144 .f32) (ix3 (lay t) 0 (col t j)) := by
  blk_ext [iblk, ixw2 t, lay, col]

theorem rd0 (b : Fin 8) (k : Fin 1024) : iblk m c 0 t (ix2 b k) = aC m c (ix2 b k) :=
  (rdv0 m c t b k).trans (congrFun (V_main_arg0 m c) _)

theorem rd1 (k : Fin 1024) (j : Fin 1536) : iblk m c 1 t (ix3 0 k j) = aW m c (ix3 (lay t) k (col t j)) :=
  (rdv1 m c t k j).trans (congrFun (V_main_arg1 m c) _)

theorem rd2 (j : Fin 1536) : iblk m c 2 t (ix3 0 0 j) = aB m c (ix2 (lay t) (col t j)) :=
  (rdv2 m c t j).trans (en_b m c _ _)

theorem em3 (b : Fin 8) (j : Fin 1536) :
    ((win0_3.blk t).view.emb (ix3 0 b j) : S4x8x6144.Idx) = ix3 (lay t) b (col t j) := by
  blk_ext [ixw3 t, lay, col]

end

theorem arr3 : (dats m 0 c).arrAt 3 cfg0.N = modA (aC m c) (aW m c) (aB m c) := by
  refine (dats m 0 c).arrAt_eq_of_covers 3 _ (by decide +kernel) fun t hf y => ?_
  blk_simp
  rw [after0_3]
  obtain ⟨z, b, j, rfl⟩ : ∃ z b j, y = ix3 z b j := ⟨y 0, y 1, y 2, eq_ix3 y⟩
  obtain rfl : z = 0 := Subsingleton.elim _ _
  refine Eq.trans ?_ (congrArg (modA _ _ _) (em3 t b j)).symm
  refine (out3_apply (iblk m c 0 t) (iblk m c 1 t) (iblk m c 2 t) b j).trans ?_
  simp only [rd0, rd1, rd2]
  rfl

end Cert.Kernel5Ideal.Mod

end
-- ==== Proof.Mod.Ref.lean ====
/- The reference's modulation, at an index. -/
module

public import proofs.«01_k».proof.Proof.Gen.Reference5Ideal.Read
public import proofs.«01_k».proof.Proof.Mod.Arr

@[expose] public section

set_option maxRecDepth 16384

noncomputable section

namespace Cert.Reference5Ideal.Mod

open Idealize.ShloMosaic Idealize.ShloMosaic.TcCoe
open Cert.Reference5Ideal Cert.Reference5Ideal.Read Cert.Kernel5Ideal.Mod Cert.RowMath

variable (x0 : Vec Ideal S8x1024 .f32) (x1 : Vec Ideal S4x1024x6144 .f32) (x2 : Vec Ideal S4x6144 .f32)

theorem r0 (i : S8x1024.Idx) : (val_main_v0 (F := Ideal) x0 i : EReal) = x0 i * Ideal.logistic (x0 i) := by
  rw [val_main_v0_apply, val_main_call0_v5_apply, val_main_call0_v4_apply, val_main_call0_v3_apply, val_main_call0_v2_apply,
    val_main_call0_v1_apply, val_main_call0_v0_apply]
  unfold Ideal.logistic
  rw [← bits_one]
  rfl

theorem result_eq : val_main_v5 (F := Ideal) x0 x1 x2 = modA x0 x1 x2 := by
  funext y
  obtain ⟨l, b, j, rfl⟩ : ∃ l b j, y = ix3 l b j := ⟨y 0, y 1, y 2, eq_ix3 y⟩
  rw [val_main_v5_apply, val_main_v4_apply, val_main_v3_apply, val_main_v2_apply, val_main_v1_apply]
  have el : ∀ k, lidx_main_v1 (idx_main_v2 (ix3 l b j)) k = ix3 l k j := fun k => funext fun a => by fin_cases a <;> rfl
  have er : ∀ k, ridx_main_v1 (idx_main_v2 (ix3 l b j)) k = ix2 b k := fun k => funext fun a => by fin_cases a <;> rfl
  have eb : idx_main_v3 (idx_main_v4 (ix3 l b j)) = ix2 l j := funext fun a => by fin_cases a <;> rfl
  have es : (∑ k : Fin 1024, (x1 (lidx_main_v1 (idx_main_v2 (ix3 l b j)) k) : EReal)
      * val_main_v0 (F := Ideal) x0 (ridx_main_v1 (idx_main_v2 (ix3 l b j)) k))
      = ∑ k : Fin 1024, (x0 (ix2 b k) * Ideal.logistic (x0 (ix2 b k))) * x1 (ix3 l k j) :=
    Finset.sum_congr rfl fun k _ => by
      rw [el, er, r0]
      exact mul_comm (x1 (ix3 l k j) : EReal) _
  rw [eb]
  exact congrArg (· + (x2 (ix2 l j) : EReal)) es

end Cert.Reference5Ideal.Mod

end
-- ==== Proof.Mod.Claims.lean ====
/- The claims of the modulation call: the reference's frame, and the two results being one. -/
module

public import proofs.«01_k».proof.Defs
public import proofs.«01_k».proof.Proof.Mod.Ref
public import proofs.«01_k».proof.Proof.Gen.Kernel5Ideal.Value
public import proofs.«01_k».proof.Proof.Gen.Reference5Ideal.Run
public import Idealize.ShloMosaic.Lib.Quiescent

@[expose] public section

noncomputable section

namespace Cert.ModClaims

open Idealize.ShloMosaic Idealize.ShloMosaic.TcCoe Idealize.SL.Sem

/-- The reference runs, and leaves its arguments and the counters alone. -/
theorem frame_ri : Cert.quiescent_Reference5Ideal (hReference5Ideal := Cert.Reference5Ideal.Gen.facts) := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- From arguments that agree, both runs end with the same result. -/
theorem algebraic : Cert.algebraic_Kernel5Ideal_Reference5Ideal (hKernel5Ideal := Cert.Kernel5Ideal.Gen.facts)
    (hReference5Ideal := Cert.Reference5Ideal.Gen.facts) := by
  intro m ρ m' ρ' hpre hagree
  refine ⟨fun c => (Cert.Kernel5Ideal.Gen.dats m 0 c).arrAt 3 Cert.Kernel5Ideal.cfg0.N,
    Cert.Kernel5Ideal.Value.run_blocks m ρ, ?_⟩
  refine (θ_run Cert.Reference5Ideal.defs _ _).mono (fun _ h c => ⟨(h c).1.trans ?_, (h c).2⟩)
    (Cert.Reference5Ideal.Value.run (F := Ideal) m' ρ')
  refine (Cert.Reference5Ideal.Read.val_main_v5_eq (F := Ideal) _ _ _).trans ?_
  refine Eq.trans ?_ (Cert.Kernel5Ideal.Mod.arr3 m c).symm
  show Cert.Reference5Ideal.Read.val_main_v5 (F := Ideal)
    (m' ((c.tc : Thread Cert.Reference5Ideal.nD Cert.Reference5Ideal.τ).loc Cert.Reference5Ideal.main_arg0))
    (m' ((c.tc : Thread Cert.Reference5Ideal.nD Cert.Reference5Ideal.τ).loc Cert.Reference5Ideal.main_arg1))
    (m' ((c.tc : Thread Cert.Reference5Ideal.nD Cert.Reference5Ideal.τ).loc Cert.Reference5Ideal.main_arg2)) = _
  obtain ⟨h0, h1, h2⟩ := hagree c
  rw [h0, h1, h2]
  exact Cert.Reference5Ideal.Mod.result_eq _ _ _

end Cert.ModClaims

end
-- ==== Proof.Short.Block.lean ====
/- The short convolution's block, read at an index. -/
module

public import proofs.«01_k».proof.Proof.Gen.Kernel6Ideal.Frame
public import proofs.«01_k».proof.Proof.Row.Math
public import Idealize.ShloMosaic.Lib.Pipeline.ValueKit

@[expose] public section

set_option maxRecDepth 16384

noncomputable section

namespace Cert.Kernel6Ideal.Short

open Idealize.ShloMosaic Idealize.ShloMosaic.TcCoe
open Cert.Kernel6Ideal Cert.Kernel6Ideal.Gen Cert.RowMath

/-- The value before position `n`, zero before the first. -/
def before (u : Fin 4096 → EReal) (n : Fin 4096) : EReal :=
  if n.val = 0 then 0 else u ⟨n.val - 1, by omega⟩

/-- The value after position `n`, zero after the last. -/
def next (u : Fin 4096 → EReal) (n : Fin 4096) : EReal :=
  if h : n.val = 4095 then 0 else u ⟨n.val + 1, by omega⟩

/-- The convolution with three taps, centred, plus the bias. -/
def conv (u : Fin 4096 → EReal) (w : Fin 3 → EReal) (b : EReal) (n : Fin 4096) : EReal :=
  w 0 * before u n + w 1 * u n + w 2 * next u n + b

/-- The rows one later, the first one zero, as the block makes them. -/
def beforeV (u : FVec Ideal S4096x128 .f32) : FVec Ideal S4096x128 .f32 :=
  select (cmpi .eq (iota .tc S4096x128 32 [0] iota_S4096x128_d0_w32) (broadcast S4096x128 0#32))
    (broadcast S4096x128 (Scalar.ofBits .f32 0x00000000#32 : Ideal .f32))
    (dynamicRotate 0 1#32 none u rotates_S4096x128_d0)

/-- The rows one earlier, the last one zero, as the block makes them. -/
def nextV (u : FVec Ideal S4096x128 .f32) : FVec Ideal S4096x128 .f32 :=
  select (cmpi .eq (iota .tc S4096x128 32 [0] iota_S4096x128_d0_w32) (broadcast S4096x128 4095#32))
    (broadcast S4096x128 (Scalar.ofBits .f32 0x00000000#32 : Ideal .f32))
    (dynamicRotate 0 4095#32 none u rotates_S4096x128_d0)

/-- Two small numbers are equal as words exactly when they are equal. -/
theorem word_eq (n k : ℕ) (hn : n < 4096) (hk : k < 4096) :
    IntOp.cmpi .eq (BitVec.ofNat 32 n) (BitVec.ofNat 32 k) = BitVec.ofBool (decide (n = k)) := by
  unfold IntOp.cmpi
  refine congrArg BitVec.ofBool ?_
  by_cases h : n = k
  · subst h; simp
  · have : BitVec.ofNat 32 n ≠ BitVec.ofNat 32 k := fun e => h (by
      have e' := congrArg BitVec.toNat e
      rw [BitVec.toNat_ofNat, BitVec.toNat_ofNat, Nat.mod_eq_of_lt (by omega), Nat.mod_eq_of_lt (by omega)] at e'
      exact e')
    rw [decide_eq_false h]; simpa using this

theorem row_word (n : Fin 4096) (l : Fin 128) :
    iota .tc S4096x128 32 [0] iota_S4096x128_d0_w32 (ix2 n l) = BitVec.ofNat 32 n.val := by
  pointwise

theorem beforeV_apply (u : FVec Ideal S4096x128 .f32) (n : Fin 4096) (l : Fin 128) :
    (beforeV u (ix2 n l) : EReal) = before (fun n => u (ix2 n l)) n := by
  show Scalar.select (IntOp.cmpi .eq (iota .tc S4096x128 32 [0] iota_S4096x128_d0_w32 (ix2 n l)) (BitVec.ofNat 32 0))
    (Scalar.ofBits .f32 0x00000000#32 : Ideal .f32) (dynamicRotate 0 1#32 none u rotates_S4096x128_d0 (ix2 n l)) = _
  rw [row_word, word_eq n.val 0 n.isLt (by omega)]
  unfold before
  by_cases h : n.val = 0
  · rw [decide_eq_true h, if_pos h]; exact bits_zero
  · rw [decide_eq_false h, if_neg h]
    refine Eq.trans (b := dynamicRotate 0 1#32 none u rotates_S4096x128_d0 (ix2 n l)) rfl ?_
    refine dynamicRotate_apply (0 : Fin S4096x128.rank) _ _ _ _ _ fun b => ?_
    match b with
    | ⟨0, _⟩ => show n.val - 1 = (n.val + 4096 - 1) % 4096; omega
    | ⟨1, _⟩ => rfl

theorem nextV_apply (u : FVec Ideal S4096x128 .f32) (n : Fin 4096) (l : Fin 128) :
    (nextV u (ix2 n l) : EReal) = next (fun n => u (ix2 n l)) n := by
  show Scalar.select (IntOp.cmpi .eq (iota .tc S4096x128 32 [0] iota_S4096x128_d0_w32 (ix2 n l)) (BitVec.ofNat 32 4095))
    (Scalar.ofBits .f32 0x00000000#32 : Ideal .f32) (dynamicRotate 0 4095#32 none u rotates_S4096x128_d0 (ix2 n l)) = _
  rw [row_word, word_eq n.val 4095 n.isLt (by omega)]
  unfold next
  by_cases h : n.val = 4095
  · rw [decide_eq_true h, dif_pos h]; exact bits_zero
  · rw [decide_eq_false h, dif_neg h]
    refine Eq.trans (b := dynamicRotate 0 4095#32 none u rotates_S4096x128_d0 (ix2 n l)) rfl ?_
    refine dynamicRotate_apply (0 : Fin S4096x128.rank) _ _ _ _ _ fun b => ?_
    match b with
    | ⟨0, _⟩ => show n.val + 1 = (n.val + 4096 - 4095) % 4096; omega
    | ⟨1, _⟩ => rfl

/-- The taps' sum over the three shifted rows, as the block makes it. -/
def taps (p u q : FVec Ideal S4096x128 .f32) (w : Vec Ideal S3x128 .f32) (b : Vec Ideal S1x128 .f32) :
    FVec Ideal S1x1x4096x128 .bf16 :=
  shapeCast S1x1x4096x128 (truncf .bf16 (addf (addf (addf
      (mulf (broadcastTo S4096x128 (extractStridedSlice S1x128 ![0, 0] w slices_S3x128_o0_0_S1x128)
        broadcasts_S1x128_S4096x128) p)
      (mulf (broadcastTo S4096x128 (extractStridedSlice S1x128 ![1, 0] w slices_S3x128_o1_0_S1x128)
        broadcasts_S1x128_S4096x128) u))
      (mulf (broadcastTo S4096x128 (extractStridedSlice S1x128 ![2, 0] w slices_S3x128_o2_0_S1x128)
        broadcasts_S1x128_S4096x128) q))
      (broadcastTo S4096x128 (shapeCast S1x128 b shapeCasts_S1x128_S1x128) broadcasts_S1x128_S4096x128))
    bitsLt_bf16_f32) shapeCasts_S4096x128_S1x1x4096x128

/-- The block's rows, as a matrix. -/
def rowsV (x : Vec Ideal S1x4096x128 .bf16) : FVec Ideal S4096x128 .f32 :=
  extf .f32 (shapeCast S4096x128 x shapeCasts_S1x4096x128_S4096x128) bitsLt_bf16_f32

theorem pay_eq (x0 : Vec Ideal S1x4096x128 .bf16) (x1 : Vec Ideal S3x128 .f32) (x2 : Vec Ideal S1x128 .f32) :
    k0_pay1 (F := Ideal) x0 x1 x2 = taps (beforeV (rowsV x0)) (rowsV x0) (nextV (rowsV x0)) x1 x2 := rfl

theorem taps_apply (p u q : FVec Ideal S4096x128 .f32) (w : Vec Ideal S3x128 .f32) (b : Vec Ideal S1x128 .f32)
    (n : Fin 4096) (l : Fin 128) : (taps p u q w b (ix4 0 0 n l) : EReal)
      = w (ix2 0 l) * p (ix2 n l) + w (ix2 1 l) * u (ix2 n l) + w (ix2 2 l) * q (ix2 n l) + b (ix2 0 l) := by
  pointwise [taps]

theorem rowsV_apply (x : Vec Ideal S1x4096x128 .bf16) (n : Fin 4096) (l : Fin 128) :
    (rowsV x (ix2 n l) : EReal) = x (ix3 0 n l) := by
  pointwise [rowsV]

variable (x0 : Vec Ideal S1x4096x128 .bf16) (x1 : Vec Ideal S3x128 .f32) (x2 : Vec Ideal S1x128 .f32)

theorem out3_apply (n : Fin 4096) (l : Fin 128) : (out0_3 x0 x1 x2 (ix4 0 0 n l) : EReal)
      = conv (fun n => x0 (ix3 0 n l)) (fun j => x1 (ix2 j l)) (x2 (ix2 0 l)) n := by
  frame_out
  rw [pay_eq, taps_apply, beforeV_apply, nextV_apply]
  simp only [rowsV_apply]
  rfl

end Cert.Kernel6Ideal.Short

end
-- ==== Proof.Short.Arr.lean ====
/- The array the short convolution leaves, at an index. -/
module

public import proofs.«01_k».proof.Proof.Short.Block

@[expose] public section

set_option maxRecDepth 16384

noncomputable section

namespace Cert.Kernel6Ideal.Short

open Idealize.ShloMosaic Idealize.ShloMosaic.TcCoe
open Cert.Kernel6Ideal Cert.Kernel6Ideal.Gen

theorem ixw0 : ∀ t : Fin grid0.N, win0_0.index t = ![t.val / 12, 0, 12 + t.val % 12] := by decide +kernel
theorem ixw1 : ∀ t : Fin grid0.N, win0_1.index t = ![0, t.val % 12] := by decide +kernel
theorem ixw2 : ∀ t : Fin grid0.N, win0_2.index t = ![0, t.val % 12] := by decide +kernel
theorem ixw3 : ∀ t : Fin grid0.N, win0_3.index t = ![t.val % 12 / 4, t.val / 12, 0, t.val % 12 % 4] := by
  decide +kernel

theorem t_lt (t : Fin grid0.N) : t.val < 96 := t.isLt

/-- The batch point `t` is in. -/
def bat (t : Fin grid0.N) : Fin 8 := ⟨t.val / 12, by have := t_lt t; omega⟩

/-- The third of the channels point `t` is in. -/
def third (t : Fin grid0.N) : Fin 3 := ⟨t.val % 12 / 4, by omega⟩

/-- The channel of its third that channel `l` of the block at point `t` is. -/
def col (t : Fin grid0.N) (l : Fin 128) : Fin 512 := ⟨t.val % 12 % 4 * 128 + l.val, by omega⟩

/-- Channel `e` of the third `s`, among all the channels. -/
def chan (s : Fin 3) (e : Fin 512) : Fin 1536 := ⟨s.val * 512 + e.val, by omega⟩

/-- The column of the projection that a channel is. -/
def pcol (j : Fin 1536) : Fin 7168 := ⟨1536 + j.val, by omega⟩

/-- The short convolution of every channel as an array. -/
def convA (P : Vec Ideal S8x4096x7168 .bf16) (W : Vec Ideal S3x1536 .f32) (B : Vec Ideal S1536 .f32) :
    Vec Ideal S3x8x4096x512 .bf16 := fun y =>
  (conv (fun n => P (ix3 (y 1) n (pcol (chan (y 0) (y 3))))) (fun j => W (ix2 j (chan (y 0) (y 3))))
    (B (ix1 (chan (y 0) (y 3)))) (y 2) : EReal)

variable (m : (ℓ : Loc nD τ sig) → Buf (Elt Ideal) ℓ) (c : Dev nD)

/-- The input projection. -/
abbrev aP : Vec Ideal S8x4096x7168 .bf16 := m ((c : Thread nD τ).loc main_arg0)
/-- The taps. -/
abbrev aW : Vec Ideal S3x1536 .f32 := m ((c : Thread nD τ).loc main_arg1)
/-- The bias. -/
abbrev aB : Vec Ideal S1536 .f32 := m ((c : Thread nD τ).loc main_arg2)

theorem en_b (j : Fin 1536) : V m c main_v0 (ix2 0 j) = aB m c (ix1 j) := by
  unfold_abbrev_sides
  after_results
  pointwise

section
variable (t : Fin grid0.N)

theorem rdv0 (n : Fin 4096) (l : Fin 128) : iblk m c 0 t (ix3 0 n l)
    = (V m c main_arg0 : Vec Ideal S8x4096x7168 .bf16) (ix3 (bat t) n (pcol (chan (third t) (col t l)))) := by
  blk_ext [iblk, ixw0 t, bat, pcol, chan, third, col]

theorem rdv1 (j : Fin 3) (l : Fin 128) : iblk m c 1 t (ix2 j l)
    = (V m c main_arg1 : Vec Ideal S3x1536 .f32) (ix2 j (chan (third t) (col t l))) := by
  blk_ext [iblk, ixw1 t, chan, third, col]

theorem rdv2 (l : Fin 128) : iblk m c 2 t (ix2 0 l)
    = (V m c main_v0 : Vec Ideal S1x1536 .f32) (ix2 0 (chan (third t) (col t l))) := by
  blk_ext [iblk, ixw2 t, chan, third, col]

theorem rd0 (n : Fin 4096) (l : Fin 128) : iblk m c 0 t (ix3 0 n l)
    = aP m c (ix3 (bat t) n (pcol (chan (third t) (col t l)))) :=
  (rdv0 m c t n l).trans (congrFun (V_main_arg0 m c) _)

theorem rd1 (j : Fin 3) (l : Fin 128) : iblk m c 1 t (ix2 j l) = aW m c (ix2 j (chan (third t) (col t l))) :=
  (rdv1 m c t j l).trans (congrFun (V_main_arg1 m c) _)

theorem rd2 (l : Fin 128) : iblk m c 2 t (ix2 0 l) = aB m c (ix1 (chan (third t) (col t l))) :=
  (rdv2 m c t l).trans (en_b m c _)

theorem em3 (n : Fin 4096) (l : Fin 128) :
    ((win0_3.blk t).view.emb (ix4 0 0 n l) : S3x8x4096x512.Idx) = ix4 (third t) (bat t) n (col t l) := by
  blk_ext [ixw3 t, bat, third, col]

end

theorem arr3 : (dats m 0 c).arrAt 3 cfg0.N = convA (aP m c) (aW m c) (aB m c) := by
  refine (dats m 0 c).arrAt_eq_of_covers 3 _ (by decide +kernel) fun t hf y => ?_
  blk_simp
  rw [after0_3]
  obtain ⟨z, z', n, l, rfl⟩ : ∃ z z' n l, y = ix4 z z' n l := ⟨y 0, y 1, y 2, y 3, eq_ix4 y⟩
  obtain rfl : z = 0 := Subsingleton.elim _ _
  obtain rfl : z' = 0 := Subsingleton.elim _ _
  refine Eq.trans ?_ (congrArg (convA _ _ _) (em3 t n l)).symm
  refine (out3_apply (iblk m c 0 t) (iblk m c 1 t) (iblk m c 2 t) n l).trans ?_
  simp only [rd0, rd1, rd2]
  rfl

end Cert.Kernel6Ideal.Short

end
-- ==== Proof.Short.Ref.lean ====
/- The reference's short convolution, at an index. -/
module

public import proofs.«01_k».proof.Proof.Gen.Reference6Ideal.Read
public import proofs.«01_k».proof.Proof.Short.Arr
public import Idealize.ShloMosaic.Lib.KernelVsHost

@[expose] public section

set_option maxRecDepth 16384

noncomputable section

namespace Cert.Reference6Ideal.Short

open Idealize.ShloMosaic Idealize.ShloMosaic.TcCoe
open Cert.Reference6Ideal Cert.Reference6Ideal.Read Cert.Kernel6Ideal.Short Cert.RowMath

variable (x0 : Vec Ideal S8x4096x7168 .bf16) (x1 : Vec Ideal S3x1536 .f32) (x2 : Vec Ideal S1536 .f32)

theorem r1 (b : Fin 8) (n : Fin 4096) (j : Fin 1536) :
    (val_main_v1 (F := Ideal) x0 (ix3 b n j) : EReal) = x0 (ix3 b n (pcol j)) := by
  rw [val_main_v1_apply, val_main_v0_apply]
  have e : idx_main_v0 (ix3 b n j) = ix3 b n (pcol j) := funext fun a => by fin_cases a <;> rfl
  rw [e]
  rfl

/-- A padded row inside is the row before it. -/
theorem pad_in (b : Fin 8) (r : Fin 4098) (j : Fin 1536) (n : Fin 4096) (h : r.val = n.val + 1) :
    (val_main_v2 (F := Ideal) x0 (ix3 b r j) : EReal) = x0 (ix3 b n (pcol j)) := by
  unfold val_main_v2
  refine (pad_apply_of_inside _ _ _ _ _ _ _ _ (ix3 b n j) fun a => ?_).trans (r1 x0 b n j)
  fin_cases a
  · show b.val = 0 + b.val * (0 + 1)
    omega
  · show r.val = 1 + n.val * (0 + 1)
    omega
  · show j.val = 0 + j.val * (0 + 1)
    omega

/-- A padded row outside is zero. -/
theorem pad_out (b : Fin 8) (r : Fin 4098) (j : Fin 1536) (h : r.val = 0 ∨ r.val = 4097) :
    (val_main_v2 (F := Ideal) x0 (ix3 b r j) : EReal) = 0 := by
  unfold val_main_v2
  refine (pad_apply_of_not_inside _ _ _ _ _ _ _ _ 1 fun hh => ?_).trans lane_zero
  have h1 : 1 ≤ r.val := hh.1
  have h2 : (r.val - 1) / (0 + 1) < 4096 := hh.2.2
  omega

theorem r3 (b : Fin 8) (n : Fin 4096) (j : Fin 1536) :
    (val_main_v3 (F := Ideal) x0 (ix3 b n j) : EReal) = before (fun n => x0 (ix3 b n (pcol j))) n := by
  rw [val_main_v3_apply]
  have e : idx_main_v3 (ix3 b n j) = ix3 b (⟨n.val, by omega⟩ : Fin 4098) j :=
    funext fun a => by fin_cases a <;> exact Fin.ext (by first | rfl | exact Nat.add_comm _ _)
  rw [e]
  unfold before
  by_cases h : n.val = 0
  · rw [if_pos h]
    exact pad_out x0 b _ j (Or.inl h)
  · rw [if_neg h]
    exact pad_in x0 b _ j _ (by show n.val = n.val - 1 + 1; omega)

theorem r9 (b : Fin 8) (n : Fin 4096) (j : Fin 1536) :
    (val_main_v9 (F := Ideal) x0 (ix3 b n j) : EReal) = x0 (ix3 b n (pcol j)) := by
  rw [val_main_v9_apply]
  have e : idx_main_v9 (ix3 b n j) = ix3 b (⟨n.val + 1, by omega⟩ : Fin 4098) j :=
    funext fun a => by fin_cases a <;> exact Fin.ext (by first | rfl | exact Nat.add_comm _ _)
  rw [e]
  exact pad_in x0 b _ j n rfl

theorem r16 (b : Fin 8) (n : Fin 4096) (j : Fin 1536) :
    (val_main_v16 (F := Ideal) x0 (ix3 b n j) : EReal) = next (fun n => x0 (ix3 b n (pcol j))) n := by
  rw [val_main_v16_apply]
  have e : idx_main_v16 (ix3 b n j) = ix3 b (⟨n.val + 2, by omega⟩ : Fin 4098) j :=
    funext fun a => by fin_cases a <;> exact Fin.ext (by first | rfl | exact Nat.add_comm _ _)
  rw [e]
  unfold next
  by_cases h : n.val = 4095
  · rw [dif_pos h]
    exact pad_out x0 b _ j (Or.inr (by show n.val + 2 = 4097; omega))
  · rw [dif_neg h]
    exact pad_in x0 b _ j _ (by show n.val + 2 = n.val + 1 + 1; rfl)

theorem r7 (b : Fin 8) (n : Fin 4096) (j : Fin 1536) :
    (val_main_v7 (F := Ideal) x1 (ix3 b n j) : EReal) = x1 (ix2 0 j) := by
  rw [val_main_v7_apply, val_main_v6_apply, val_main_v5_apply, val_main_v4_apply]
  have e : idx_main_v4 (idx_main_v5 (idx_main_v6 (idx_main_v7 (ix3 b n j)))) = ix2 0 j :=
    funext fun a => by
      fin_cases a
      · rfl
      · exact Fin.ext (by show j.val % 1536 = j.val; omega)
  rw [e]

theorem r13 (b : Fin 8) (n : Fin 4096) (j : Fin 1536) :
    (val_main_v13 (F := Ideal) x1 (ix3 b n j) : EReal) = x1 (ix2 1 j) := by
  rw [val_main_v13_apply, val_main_v12_apply, val_main_v11_apply, val_main_v10_apply]
  have e : idx_main_v10 (idx_main_v11 (idx_main_v12 (idx_main_v13 (ix3 b n j)))) = ix2 1 j :=
    funext fun a => by
      fin_cases a
      · rfl
      · exact Fin.ext (by show j.val % 1536 = j.val; omega)
  rw [e]

theorem r20 (b : Fin 8) (n : Fin 4096) (j : Fin 1536) :
    (val_main_v20 (F := Ideal) x1 (ix3 b n j) : EReal) = x1 (ix2 2 j) := by
  rw [val_main_v20_apply, val_main_v19_apply, val_main_v18_apply, val_main_v17_apply]
  have e : idx_main_v17 (idx_main_v18 (idx_main_v19 (idx_main_v20 (ix3 b n j)))) = ix2 2 j :=
    funext fun a => by
      fin_cases a
      · rfl
      · exact Fin.ext (by show j.val % 1536 = j.val; omega)
  rw [e]

theorem r24 (b : Fin 8) (n : Fin 4096) (j : Fin 1536) :
    (val_main_v24 (F := Ideal) x2 (ix3 b n j) : EReal) = x2 (ix1 j) := by
  rw [val_main_v24_apply, val_main_v23_apply]
  have e : idx_main_v23 (idx_main_v24 (ix3 b n j)) = ix1 j := funext fun a => by fin_cases a <;> rfl
  rw [e]

theorem r25 (b : Fin 8) (n : Fin 4096) (j : Fin 1536) : (val_main_v25 (F := Ideal) x0 x1 x2 (ix3 b n j) : EReal)
    = conv (fun n => x0 (ix3 b n (pcol j))) (fun k => x1 (ix2 k j)) (x2 (ix1 j)) n := by
  rw [val_main_v25_apply, val_main_v22_apply, val_main_v15_apply, val_main_v8_apply, val_main_v14_apply,
    val_main_v21_apply]
  show ((val_main_v3 (F := Ideal) x0 (ix3 b n j) : EReal) * val_main_v7 (F := Ideal) x1 (ix3 b n j)
      + (val_main_v9 (F := Ideal) x0 (ix3 b n j) : EReal) * val_main_v13 (F := Ideal) x1 (ix3 b n j)
      + (val_main_v16 (F := Ideal) x0 (ix3 b n j) : EReal) * val_main_v20 (F := Ideal) x1 (ix3 b n j)
      + val_main_v24 (F := Ideal) x2 (ix3 b n j) : EReal) = _
  rw [r3, r9, r16, r7, r13, r20, r24]
  unfold conv
  rw [mul_comm (before _ n), mul_comm (next _ n), mul_comm (x0 (ix3 b n (pcol j)) : EReal)]

theorem r32_0 (b : Fin 8) (n : Fin 4096) (e : Fin 512) :
    (val_main_v32 (F := Ideal) x0 x1 x2 (ix4 0 b n e) : EReal)
      = val_main_v25 (F := Ideal) x0 x1 x2 (ix3 b n (chan 0 e)) := by
  unfold val_main_v32
  refine (concatenate_apply_piece (0 : Fin S3x8x4096x512.rank) _ _ _ 0 (Nat.le_of_ble_eq_true rfl) S1x8x4096x512 _ rfl
    rfl 0 rfl (ix4 0 b n e) (fun a ha => ?_) rfl).trans ?_
  · fin_cases a
    · exact absurd rfl ha
    · rfl
    · rfl
    · rfl
  · rw [val_main_v29_apply, val_main_v26_apply]
    have h : idx_main_v26 (idx_main_v29 (ix4 0 b n e)) = ix3 b n (chan 0 e) := funext fun a => by
      fin_cases a
      · rfl
      · rfl
      · exact Fin.ext (by show e.val = 0 * 512 + e.val; omega)
    rw [h]

theorem r32_1 (b : Fin 8) (n : Fin 4096) (e : Fin 512) :
    (val_main_v32 (F := Ideal) x0 x1 x2 (ix4 1 b n e) : EReal)
      = val_main_v25 (F := Ideal) x0 x1 x2 (ix3 b n (chan 1 e)) := by
  unfold val_main_v32
  refine (concatenate_apply_piece (0 : Fin S3x8x4096x512.rank) _ _ _ 1 (Nat.le_of_ble_eq_true rfl) S1x8x4096x512 _ rfl
    rfl 1 rfl (ix4 0 b n e) (fun a ha => ?_) rfl).trans ?_
  · fin_cases a
    · exact absurd rfl ha
    · rfl
    · rfl
    · rfl
  · rw [val_main_v30_apply, val_main_v27_apply]
    have h : idx_main_v27 (idx_main_v30 (ix4 0 b n e)) = ix3 b n (chan 1 e) := funext fun a => by
      fin_cases a
      · rfl
      · rfl
      · exact Fin.ext (by show 512 + e.val = 1 * 512 + e.val; omega)
    rw [h]

theorem r32_2 (b : Fin 8) (n : Fin 4096) (e : Fin 512) :
    (val_main_v32 (F := Ideal) x0 x1 x2 (ix4 2 b n e) : EReal)
      = val_main_v25 (F := Ideal) x0 x1 x2 (ix3 b n (chan 2 e)) := by
  unfold val_main_v32
  refine (concatenate_apply_piece (0 : Fin S3x8x4096x512.rank) _ _ _ 2 (Nat.le_of_ble_eq_true rfl) S1x8x4096x512 _ rfl
    rfl 2 rfl (ix4 0 b n e) (fun a ha => ?_) rfl).trans ?_
  · fin_cases a
    · exact absurd rfl ha
    · rfl
    · rfl
    · rfl
  · rw [val_main_v31_apply, val_main_v28_apply]
    have h : idx_main_v28 (idx_main_v31 (ix4 0 b n e)) = ix3 b n (chan 2 e) := funext fun a => by
      fin_cases a
      · rfl
      · rfl
      · exact Fin.ext (by show 1024 + e.val = 2 * 512 + e.val; omega)
    rw [h]

theorem result_eq : val_main_v33 (F := Ideal) x0 x1 x2 = convA x0 x1 x2 := by
  funext y
  obtain ⟨s, b, n, e, rfl⟩ : ∃ s b n e, y = ix4 s b n e := ⟨y 0, y 1, y 2, y 3, eq_ix4 y⟩
  rw [val_main_v33_apply]
  refine Eq.trans (b := (val_main_v32 (F := Ideal) x0 x1 x2 (ix4 s b n e) : EReal)) rfl ?_
  refine Eq.trans ?_ (r25 x0 x1 x2 b n (chan s e))
  fin_cases s
  · exact r32_0 x0 x1 x2 b n e
  · exact r32_1 x0 x1 x2 b n e
  · exact r32_2 x0 x1 x2 b n e

end Cert.Reference6Ideal.Short

end
-- ==== Proof.Short.Claims.lean ====
/- The claims of the short convolution: the reference's frame, and the two results being one. -/
module

public import proofs.«01_k».proof.Defs
public import proofs.«01_k».proof.Proof.Short.Ref
public import proofs.«01_k».proof.Proof.Gen.Kernel6Ideal.Value
public import proofs.«01_k».proof.Proof.Gen.Reference6Ideal.Run
public import Idealize.ShloMosaic.Lib.Quiescent

@[expose] public section

noncomputable section

namespace Cert.ShortClaims

open Idealize.ShloMosaic Idealize.ShloMosaic.TcCoe Idealize.SL.Sem

/-- The reference runs, and leaves its arguments and the counters alone. -/
theorem frame_ri : Cert.quiescent_Reference6Ideal (hReference6Ideal := Cert.Reference6Ideal.Gen.facts) := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- From arguments that agree, both runs end with the same result. -/
theorem algebraic : Cert.algebraic_Kernel6Ideal_Reference6Ideal (hKernel6Ideal := Cert.Kernel6Ideal.Gen.facts)
    (hReference6Ideal := Cert.Reference6Ideal.Gen.facts) := by
  intro m ρ m' ρ' hpre hagree
  refine ⟨fun c => (Cert.Kernel6Ideal.Gen.dats m 0 c).arrAt 3 Cert.Kernel6Ideal.cfg0.N,
    Cert.Kernel6Ideal.Value.run_blocks m ρ, ?_⟩
  refine (θ_run Cert.Reference6Ideal.defs _ _).mono (fun _ h c => ⟨(h c).1.trans ?_, (h c).2⟩)
    (Cert.Reference6Ideal.Value.run (F := Ideal) m' ρ')
  refine (Cert.Reference6Ideal.Read.val_main_v33_eq (F := Ideal) m' c).trans ?_
  refine Eq.trans ?_ (Cert.Kernel6Ideal.Short.arr3 m c).symm
  show Cert.Reference6Ideal.Read.val_main_v33 (F := Ideal)
    (m' ((c.tc : Thread Cert.Reference6Ideal.nD Cert.Reference6Ideal.τ).loc Cert.Reference6Ideal.main_arg0))
    (m' ((c.tc : Thread Cert.Reference6Ideal.nD Cert.Reference6Ideal.τ).loc Cert.Reference6Ideal.main_arg1))
    (m' ((c.tc : Thread Cert.Reference6Ideal.nD Cert.Reference6Ideal.τ).loc Cert.Reference6Ideal.main_arg2)) = _
  obtain ⟨h0, h1, h2⟩ := hagree c
  rw [h0, h1, h2]
  exact Cert.Reference6Ideal.Short.result_eq _ _ _

end Cert.ShortClaims

end
-- ==== Proof.Filt.Block.lean ====
/- The filters' block, read at an index. -/
module

public import proofs.«01_k».proof.Proof.Gen.Kernel7Ideal.Frame
public import proofs.«01_k».proof.Proof.Row.Math
public import Idealize.ShloMosaic.Lib.Pipeline.ValueKit

@[expose] public section

set_option maxRecDepth 16384

noncomputable section

namespace Cert.Kernel7Ideal.Filt

open Idealize.ShloMosaic Idealize.ShloMosaic.TcCoe
open Cert.Kernel7Ideal Cert.Kernel7Ideal.Gen Cert.RowMath

/-- A layer of the network that makes the filters. -/
def layer {d : ℕ} (x : Fin d → EReal) (w : Fin d → Fin 64 → EReal) (b f : Fin 64 → EReal) (j : Fin 64) : EReal :=
  Ideal.sin (f j * (∑ k, x k * w k j + b j))

theorem pay6_apply (v0 : Vec Ideal S1x64 .f32) (v2 : Vec Ideal S512x64 .f32) (v4 : Vec Ideal S64x64 .f32)
    (v7 : Vec Ideal S1x64 .f32) (v14 : Vec Ideal S64x64 .f32) (v16 : Vec Ideal S1x64 .f32) (v23 : Vec Ideal S64x64 .f32)
    (v25 : Vec Ideal S1x64 .f32) (r : Fin 512) (j : Fin 64) :
    (k0_pay6 (F := Ideal) v0 v2 v4 v7 v14 v16 v23 v25 (ix2 r j) : EReal)
      = layer (layer (layer (fun k => v2 (ix2 r k)) (fun k j => v4 (ix2 k j)) (fun j => v7 (ix2 0 j)) (fun j => v0 (ix2 0 j)))
          (fun k j => v14 (ix2 k j)) (fun j => v16 (ix2 0 j)) (fun j => v0 (ix2 0 j)))
          (fun k j => v23 (ix2 k j)) (fun j => v25 (ix2 0 j)) (fun j => v0 (ix2 0 j)) j := by
  pointwise [k0_pay6, layer]

variable (v31 : FVec Ideal S512x64 .f32) (v34 : FVec Ideal S512x1024 .f32) (v35 : Vec Ideal S64x1024 .f32)
  (v38 v40 : Vec Ideal S512x512 .f32)

theorem pay4_apply (r c : Fin 512) : (k0_pay4 (F := Ideal) v31 v34 v35 v38 v40 (ix4 0 0 r c) : EReal)
      = v34 (ix2 r ⟨c.val, by omega⟩) * v38 (ix2 r c)
        + (∑ k, v31 (ix2 r k) * v35 (ix2 k (⟨c.val, by omega⟩ : Fin 1024))) * v40 (ix2 r c) := by
  pointwise [k0_pay4, k0_pay1, k0_pay2, k0_pay3]

theorem pay5_apply (r c : Fin 512) : (k0_pay5 (F := Ideal) v31 v34 v35 v38 v40 (ix4 0 0 r c) : EReal)
      = v34 (ix2 r ⟨512 + c.val, by omega⟩) * v38 (ix2 r c)
        + (∑ k, v31 (ix2 r k) * v35 (ix2 k (⟨512 + c.val, by omega⟩ : Fin 1024))) * v40 (ix2 r c) := by
  pointwise [k0_pay5, k0_pay1, k0_pay2, k0_pay3]

variable (x0 : Vec Ideal S512x64 .f32) (x1 : Vec Ideal S64x64 .f32) (x2 : Vec Ideal S1x64 .f32) (x3 : Vec Ideal S64x64 .f32)
  (x4 : Vec Ideal S1x64 .f32) (x5 : Vec Ideal S64x64 .f32) (x6 x7 : Vec Ideal S1x64 .f32) (x8 x9 : Vec Ideal S64x1024 .f32)
  (x10 x11 : Vec Ideal S512x512 .f32)

/-- The hidden rows of a block. -/
def hidB (r : Fin 512) (j : Fin 64) : EReal :=
  layer (layer (layer (fun k => x0 (ix2 r k)) (fun k j => x1 (ix2 k j)) (fun j => x2 (ix2 0 j)) (fun j => x7 (ix2 0 j)))
    (fun k j => x3 (ix2 k j)) (fun j => x4 (ix2 0 j)) (fun j => x7 (ix2 0 j)))
    (fun k j => x5 (ix2 k j)) (fun j => x6 (ix2 0 j)) (fun j => x7 (ix2 0 j)) j

/-- The column of order `n` and channel `c`. -/
def oc (n : Fin 2) (c : Fin 512) : Fin 1024 := ⟨n.val * 512 + c.val, by omega⟩

theorem hid_apply (r : Fin 512) (j : Fin 64) :
    (k0_pay8 (F := Ideal) x0 x1 x2 x3 x4 x5 x6 x7 x8 x9 x10 x11 (ix2 r j) : EReal) = hidB x0 x1 x2 x3 x4 x5 x6 x7 r j := by
  unfold k0_pay8
  frame_out
  exact pay6_apply _ _ _ _ _ _ _ _ r j

theorem ff_apply (r : Fin 512) (j : Fin 1024) :
    (k0_pay9 (F := Ideal) x0 x1 x2 x3 x4 x5 x6 x7 x8 x9 x10 x11 (ix2 r j) : EReal)
      = ∑ k, hidB x0 x1 x2 x3 x4 x5 x6 x7 r k * x8 (ix2 k j) := by
  unfold k0_pay9
  frame_out
  pointwise [k0_pay7]
  exact Finset.sum_congr rfl fun k _ => congrArg (· * (x8 (ix2 k j) : EReal)) (pay6_apply _ _ _ _ _ _ _ _ r k)

theorem ld_win (x : Vec Ideal S512x512 .f32) (r c : Fin 512) : View.ld x r0_4 (ix2 r c) = x (ix2 r c) := by
  have e : r0_4.emb (ix2 r c : S512x512.Idx) = ix2 r c := funext fun a => by
    fin_cases a
    · exact Fin.ext (by show 0 + 1 * r.val = r.val; omega)
    · exact Fin.ext (by show 0 + 1 * c.val = c.val; omega)
  exact congrArg x e

theorem ld_w4 (x : Vec Ideal S64x1024 .f32) (r : Fin 64) (c : Fin 1024) : View.ld x r0_3 (ix2 r c) = x (ix2 r c) := by
  have e : r0_3.emb (ix2 r c : S64x1024.Idx) = ix2 r c := funext fun a => by
    fin_cases a
    · exact Fin.ext (by show 0 + 1 * r.val = r.val; omega)
    · exact Fin.ext (by show 0 + 1 * c.val = c.val; omega)
  exact congrArg x e

theorem out12_0 (r c : Fin 512) :
    (out0_12 x0 x1 x2 x3 x4 x5 x6 x7 x8 x9 x10 x11 (ix4 0 0 r c) : EReal)
      = (∑ k, hidB x0 x1 x2 x3 x4 x5 x6 x7 r k * x8 (ix2 k (oc 0 c))) * x10 (ix2 r c)
        + (∑ k, hidB x0 x1 x2 x3 x4 x5 x6 x7 r k * x9 (ix2 k (oc 0 c))) * x11 (ix2 r c) := by
  unfold out0_12
  have e : (ix4 0 0 r c : S1x2x512x512.Idx) = r0_5.emb (ix4 0 0 r c) := funext fun a => by
    fin_cases a
    · rfl
    · rfl
    · exact Fin.ext (by show r.val = 0 + 1 * r.val; omega)
    · exact Fin.ext (by show c.val = 0 + 1 * c.val; omega)
  refine (View.canon_cons_of_not_mem _ _ ?_).trans ?_
  · intro h
    have h1 : 1 ≤ 0 := ((Rect.mem_set_unit (inb := inb_S1x2x512x512_S1x1x512x512_0_1_0_0)).mp h 1).1
    omega
  · refine (congrArg _ e).trans ((View.canon_cons_emb _ _ _ _).trans ((pay4_apply _ _ _ _ _ r c).trans ?_))
    have e0 : (⟨c.val, by omega⟩ : Fin 1024) = oc 0 c := Fin.ext (by show c.val = 0 * 512 + c.val; omega)
    rw [e0, ff_apply]
    simp only [hid_apply]
    exact congrArg₂ (fun a b : EReal => a + b) (congrArg (fun a : EReal => _ * a) (ld_win x10 r c))
      (congrArg₂ (fun a b : EReal => a * b)
        (Finset.sum_congr rfl fun k _ => congrArg (fun a : EReal => _ * a) (ld_w4 x9 k _)) (ld_win x11 r c))

theorem out12_1 (r c : Fin 512) :
    (out0_12 x0 x1 x2 x3 x4 x5 x6 x7 x8 x9 x10 x11 (ix4 0 1 r c) : EReal)
      = (∑ k, hidB x0 x1 x2 x3 x4 x5 x6 x7 r k * x8 (ix2 k (oc 1 c))) * x10 (ix2 r c)
        + (∑ k, hidB x0 x1 x2 x3 x4 x5 x6 x7 r k * x9 (ix2 k (oc 1 c))) * x11 (ix2 r c) := by
  unfold out0_12
  have e : (ix4 0 1 r c : S1x2x512x512.Idx) = r0_6.emb (ix4 0 0 r c) := funext fun a => by
    fin_cases a
    · rfl
    · rfl
    · exact Fin.ext (by show r.val = 0 + 1 * r.val; omega)
    · exact Fin.ext (by show c.val = 0 + 1 * c.val; omega)
  refine (congrArg _ e).trans ((View.canon_cons_emb _ _ _ _).trans ((pay5_apply _ _ _ _ _ r c).trans ?_))
  have e0 : (⟨512 + c.val, by omega⟩ : Fin 1024) = oc 1 c := Fin.ext (by show 512 + c.val = 1 * 512 + c.val; omega)
  rw [e0, ff_apply]
  simp only [hid_apply]
  exact congrArg₂ (fun a b : EReal => a + b) (congrArg (fun a : EReal => _ * a) (ld_win x10 r c))
    (congrArg₂ (fun a b : EReal => a * b)
      (Finset.sum_congr rfl fun k _ => congrArg (fun a : EReal => _ * a) (ld_w4 x9 k _)) (ld_win x11 r c))

theorem out12_apply (n : Fin 2) (r c : Fin 512) :
    (out0_12 x0 x1 x2 x3 x4 x5 x6 x7 x8 x9 x10 x11 (ix4 0 n r c) : EReal)
      = (∑ k, hidB x0 x1 x2 x3 x4 x5 x6 x7 r k * x8 (ix2 k (oc n c))) * x10 (ix2 r c)
        + (∑ k, hidB x0 x1 x2 x3 x4 x5 x6 x7 r k * x9 (ix2 k (oc n c))) * x11 (ix2 r c) := by
  fin_cases n
  · exact out12_0 x0 x1 x2 x3 x4 x5 x6 x7 x8 x9 x10 x11 r c
  · exact out12_1 x0 x1 x2 x3 x4 x5 x6 x7 x8 x9 x10 x11 r c

end Cert.Kernel7Ideal.Filt

end
-- ==== Proof.Filt.Gather.lean ====
/- A gather of whole rows, and the mirrored positions, read at an index. -/
module

public import proofs.«01_k».proof.Proof.Row.Math
public import Idealize.ShloMosaic.Lib.Pipeline.ValueKit
public import Idealize.ShloMosaic.Lib.ValueIdx

@[expose] public section

set_option maxRecDepth 16384

noncomputable section

namespace Cert.Filt

open Idealize.ShloMosaic

/-- The dimension numbers of a gather of whole rows. -/
abbrev rowsDims (N C B : ℕ) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- A gather of whole rows reads the row its index names, clamped. -/
theorem gather_rows {α : Type} {N C B w : ℕ} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (b : Fin B) (j : Fin C) :
    Host.gather (rowsDims N C B wf) x idx (ix2 b j)
      = x (ix2 ⟨min (idx (ix2 b 0)).toInt.toNat (N - 1), by omega⟩ j) := by
  unfold Host.gather
  congr 1
  funext a
  refine Fin.ext ?_
  show (rowsDims N C B wf).start (ix2 b j) idx a + (rowsDims N C B wf).batchCoord (ix2 b j) a
      + (rowsDims N C B wf).offCoord (ix2 b j) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C B wf).startIndexMap from List.mem_singleton.mpr rfl)]
    have hsi : (rowsDims N C B wf).siIdx (ix2 b j) ⟨List.idxOf (0 : Fin 2) (rowsDims N C B wf).startIndexMap,
        List.idxOf_lt_length_iff.2 (List.mem_singleton.mpr rfl)⟩ = ix2 b 0 := by
      funext d; refine Fin.ext ?_
      match d with
      | ⟨0, _⟩ => rfl
      | ⟨1, _⟩ => rfl
    rw [hsi]
    rfl
  · rw [GatherDims.batchCoord_eq_zero _ _ _ List.not_mem_nil]
    unfold GatherDims.start
    rw [dif_neg (show ¬(1 : Fin 2) ∈ (rowsDims N C B wf).startIndexMap from fun h => by simp at h)]
    simp only [Nat.zero_add, Nat.add_zero]
    unfold GatherDims.offCoord
    rw [dif_pos ((GatherDims.mem_sKept _ _).mpr ⟨fun h => by simp at h, List.not_mem_nil⟩)]
    rfl

/-- The position a position is mirrored to: zero stays, the others count from the end. -/
def mir (r : Fin 4096) : Fin 4096 := ⟨(4096 - r.val) % 4096, by omega⟩

theorem mir_word (k : ℕ) (h : k < 4095) :
    4095#32 + 4294967295#32 * BitVec.ofNat 32 k = BitVec.ofNat 32 (4095 - k) := by
  refine BitVec.eq_of_toNat_eq ?_
  simp only [BitVec.toNat_add, BitVec.toNat_mul, BitVec.toNat_ofNat]
  omega

theorem word_toInt (k : ℕ) (h : k < 4096) : (BitVec.ofNat 32 k).toInt.toNat = k := by
  have h1 : (BitVec.ofNat 32 k).toNat = k := by rw [BitVec.toNat_ofNat]; omega
  rw [BitVec.toInt_eq_toNat_of_lt (by omega), h1]
  rfl

end Cert.Filt

end
-- ==== Proof.Filt.Host.lean ====
/- What the host makes of the mirrored positions, at an index. -/
module

public import proofs.«01_k».proof.Proof.Filt.Block
public import proofs.«01_k».proof.Proof.Filt.Gather

@[expose] public section

set_option maxRecDepth 16384

noncomputable section

namespace Cert.Kernel7Ideal.Filt

open Idealize.ShloMosaic Idealize.ShloMosaic.TcCoe
open Cert.Kernel7Ideal Cert.Kernel7Ideal.Gen Cert.Filt Cert.RowMath

/-- Two halves of the positions, one above the other. -/
theorem halves {α : Type} {C : ℕ} (a b : (⟨2, ![4096, C]⟩ : Shape).Idx → α)
    (h : Shape.Concatenates [⟨2, ![4096, C]⟩, ⟨2, ![4096, C]⟩] ⟨2, ![8192, C]⟩ 0) (r : Fin 8192) (e : Fin C) :
    concatenate (⟨2, ![8192, C]⟩ : Shape) 0 [⟨⟨2, ![4096, C]⟩, a⟩, ⟨⟨2, ![4096, C]⟩, b⟩] h (ix2 r e)
      = if h : r.val < 4096 then a (ix2 ⟨r.val, h⟩ e) else b (ix2 ⟨r.val - 4096, by omega⟩ e) := by
  by_cases hr : r.val < 4096
  · rw [dif_pos hr]
    refine concatenate_pair_apply_left 0 a b h _ rfl (ix2 ⟨r.val, hr⟩ e) fun d => ?_
    fin_cases d <;> rfl
  · rw [dif_neg hr]
    refine concatenate_pair_apply_right 0 a b h _ rfl rfl (ix2 ⟨r.val - 4096, by omega⟩ e) (fun d hd => ?_) ?_
    · fin_cases d
      · exact absurd rfl hd
      · rfl
    · show r.val - 4096 + 4096 = r.val
      omega

/-- The mirrored positions as words. -/
def mirW : IVec S4096 32 := concatenate S4096 0
  [⟨S1, broadcastInDim S1 ![] Facts₀.bcast_S_S1 (constantI S_ 32 0#32)⟩,
    ⟨S4095, addi (broadcastInDim S4095 ![] Facts₀.bcast_S_S4095 (constantI S_ 32 4095#32))
      (muli (broadcastInDim S4095 ![] Facts₀.bcast_S_S4095 (constantI S_ 32 4294967295#32)) (iotaInDim S4095 32 0))⟩]
  Facts₀.concatenates_S1_S4095_S4096_d0

theorem mirW_apply (r : Fin 4096) : mirW (ix1 r) = BitVec.ofNat 32 (mir r).val := by
  unfold mirW
  by_cases hr : r.val = 0
  · obtain rfl : r = 0 := Fin.ext hr
    refine (concatenate_pair_apply_left (t := S4096) (s₁ := S1) (s₂ := S4095) 0 _ _ _ _ rfl (ix1 (0 : Fin 1)) fun d => ?_).trans ?_
    · fin_cases d; rfl
    · rfl
  · refine (concatenate_pair_apply_right (t := S4096) (s₁ := S1) (s₂ := S4095) 0 _ _ _ _ rfl rfl
      (ix1 (⟨r.val - 1, by have := r.isLt; omega⟩ : Fin 4095)) (fun d hd => ?_) ?_).trans ?_
    · exact absurd (Subsingleton.elim _ _) hd
    · show r.val - 1 + 1 = r.val
      omega
    · refine (mir_word (r.val - 1) (by omega)).trans (congrArg (BitVec.ofNat 32) ?_)
      show 4095 - (r.val - 1) = (4096 - r.val) % 4096
      omega

/-- The mirrored positions as the indices of a gather. -/
def mirI : IVec S4096x1 32 := broadcastInDim S4096x1 ![0] Facts₀.bcast_S4096_S4096x1_0
  (select (cmpi CmpIPredicate.slt mirW (broadcastInDim S4096 ![] Facts₀.bcast_S_S4096 (constantI S_ 32 0#32)))
    (addi mirW (broadcastInDim S4096 ![] Facts₀.bcast_S_S4096 (constantI S_ 32 4096#32))) mirW)

theorem mirI_apply (r : Fin 4096) : mirI (ix2 r 0) = BitVec.ofNat 32 (mir r).val := by
  unfold mirI
  refine (broadcastInDim_apply _ _ _ _ (ix1 r) fun d => ?_).trans ?_
  · fin_cases d
    rfl
  · show (if BitVec.ofBool (BitVec.slt (mirW (ix1 r)) 0#32) = 1#1 then addi mirW _ (ix1 r) else mirW (ix1 r)) = _
    rw [mirW_apply, if_neg]
    have := (mir r).isLt
    have h0 : BitVec.slt (BitVec.ofNat 32 (mir r).val) 0#32 = false := by
      refine decide_eq_false (not_lt.mpr ?_)
      show (0 : ℤ) ≤ _
      rw [BitVec.toInt_eq_toNat_of_lt (by rw [BitVec.toNat_ofNat]; omega)]
      exact Int.natCast_nonneg _
    rw [h0]
    decide

/-- The mirrored rows of an array. -/
theorem mirrored {α : Type} {C : ℕ} (wf : GatherDims.WF ⟨2, ![4096, C]⟩ ⟨2, ![4096, 1]⟩ ⟨2, ![4096, C]⟩ [1] [0] [] [0] [] 1 ![1, C])
    (x : (⟨2, ![4096, C]⟩ : Shape).Idx → α) (r : Fin 4096) (e : Fin C) :
    Host.gather (rowsDims 4096 C 4096 wf) x mirI (ix2 r e) = x (ix2 (mir r) e) := by
  refine (gather_rows (by omega) wf x mirI r e).trans (congrArg (fun a => x (ix2 a e)) (Fin.ext ?_))
  show min (mirI (ix2 r 0)).toInt.toNat (4096 - 1) = (mir r).val
  have := (mir r).isLt
  rw [mirI_apply, word_toInt _ (mir r).isLt]
  omega

/-- Whether a position is the first, over the channels. -/
def firstM : IVec S4096x512 1 := broadcastInDim S4096x512 ![0, 1] Facts₀.bcast_S4096x1_S4096x512_0_1
  (broadcastInDim S4096x1 ![0] Facts₀.bcast_S4096_S4096x1_0
    (cmpi CmpIPredicate.eq (iotaInDim S4096 32 0) (broadcastInDim S4096 ![] Facts₀.bcast_S_S4096 (constantI S_ 32 0#32))))

theorem firstM_apply (r : Fin 4096) (e : Fin 512) : firstM (ix2 r e) = if r.val = 0 then 1#1 else 0#1 := by
  unfold firstM
  refine (broadcastInDim_apply _ _ _ _ (ix2 r 0) fun d => ?_).trans ?_
  · fin_cases d <;> rfl
  refine (broadcastInDim_apply _ _ _ _ (ix1 r) fun d => ?_).trans ?_
  · fin_cases d
    rfl
  · show BitVec.ofBool (BitVec.ofNat 32 r.val == 0#32) = _
    by_cases h : r.val = 0
    · rw [h]; rfl
    · rw [if_neg h]
      have : (BitVec.ofNat 32 r.val == 0#32) = false := by
        refine beq_false_of_ne fun hh => h ?_
        have h2 := congrArg BitVec.toNat hh
        rw [BitVec.toNat_ofNat] at h2
        have h3 : r.val % 4294967296 = 0 := h2
        omega
      rw [this]; rfl

end Cert.Kernel7Ideal.Filt

end
-- ==== Proof.Filt.Arr.lean ====
/- The array the filters' call leaves, at an index. -/
module

public import proofs.«01_k».proof.Proof.Filt.Host

@[expose] public section

set_option maxRecDepth 16384

noncomputable section

namespace Cert.Kernel7Ideal.Filt

open Idealize.ShloMosaic Idealize.ShloMosaic.TcCoe
open Cert.Kernel7Ideal Cert.Kernel7Ideal.Gen Cert.Filt Cert.RowMath

variable (m : (ℓ : Loc nD τ sig) → Buf (Elt Ideal) ℓ) (c : Dev nD)

/-- The embedding of the positions. -/
abbrev aZ : Vec Ideal S4096x33 .f32 := m ((c : Thread nD τ).loc main_arg0)
/-- The window. -/
abbrev aWin : Vec Ideal S4096x512 .f32 := m ((c : Thread nD τ).loc main_arg1)
/-- The weights and the bias of the first layer. -/
abbrev aW1 : Vec Ideal S33x64 .f32 := m ((c : Thread nD τ).loc main_arg2)
abbrev aB1 : Vec Ideal S64 .f32 := m ((c : Thread nD τ).loc main_arg3)
/-- Of the second. -/
abbrev aW2 : Vec Ideal S64x64 .f32 := m ((c : Thread nD τ).loc main_arg4)
abbrev aB2 : Vec Ideal S64 .f32 := m ((c : Thread nD τ).loc main_arg5)
/-- Of the third. -/
abbrev aW3 : Vec Ideal S64x64 .f32 := m ((c : Thread nD τ).loc main_arg6)
abbrev aB3 : Vec Ideal S64 .f32 := m ((c : Thread nD τ).loc main_arg7)
/-- The frequencies. -/
abbrev aF : Vec Ideal S64 .f32 := m ((c : Thread nD τ).loc main_arg8)
/-- The weights of the last layer. -/
abbrev aW4 : Vec Ideal S64x2048 .f32 := m ((c : Thread nD τ).loc main_arg9)

theorem en_b1 (j : Fin 64) : V m c main_v40 (ix2 0 j) = aB1 m c (ix1 j) := by
  unfold_abbrev_sides
  simp only [hostOps0, hostOps0_1, hostOps0_2, hostOps0_3, hostOps0_4, hostOps0_5, hostOps0_6, hostOps0_7, hostOps0_8,
    List.flatten_cons, List.flatten_nil, List.append_nil, List.cons_append, List.nil_append]
  after_results
  pointwise

theorem en_b2 (j : Fin 64) : V m c main_v41 (ix2 0 j) = aB2 m c (ix1 j) := by
  unfold_abbrev_sides
  simp only [hostOps0, hostOps0_1, hostOps0_2, hostOps0_3, hostOps0_4, hostOps0_5, hostOps0_6, hostOps0_7, hostOps0_8,
    List.flatten_cons, List.flatten_nil, List.append_nil, List.cons_append, List.nil_append]
  after_results
  pointwise

theorem en_b3 (j : Fin 64) : V m c main_v42 (ix2 0 j) = aB3 m c (ix1 j) := by
  unfold_abbrev_sides
  simp only [hostOps0, hostOps0_1, hostOps0_2, hostOps0_3, hostOps0_4, hostOps0_5, hostOps0_6, hostOps0_7, hostOps0_8,
    List.flatten_cons, List.flatten_nil, List.append_nil, List.cons_append, List.nil_append]
  after_results
  pointwise

theorem en_f (j : Fin 64) : V m c main_v43 (ix2 0 j) = aF m c (ix1 j) := by
  unfold_abbrev_sides
  simp only [hostOps0, hostOps0_1, hostOps0_2, hostOps0_3, hostOps0_4, hostOps0_5, hostOps0_6, hostOps0_7, hostOps0_8,
    List.flatten_cons, List.flatten_nil, List.append_nil, List.cons_append, List.nil_append]
  after_results
  pointwise

theorem en_w4f (k : Fin 64) (n : Fin 2) (e : Fin 512) :
    V m c main_v36 (ix2 k (oc n e)) = aW4 m c (ix2 k ⟨n.val * 1024 + e.val, by omega⟩) := by
  unfold_abbrev_sides
  simp only [hostOps0, hostOps0_1, hostOps0_2, hostOps0_3, hostOps0_4, hostOps0_5, hostOps0_6, hostOps0_7, hostOps0_8,
    List.flatten_cons, List.flatten_nil, List.append_nil, List.cons_append, List.nil_append]
  after_results
  pointwise
  refine congrArg (fun a => aW4 m c (ix2 k a)) (Fin.ext ?_)
  show (n.val * 512 + e.val) / 512 * 1024 + (n.val * 512 + e.val) % 512 = n.val * 1024 + e.val
  omega

theorem en_w4b (k : Fin 64) (n : Fin 2) (e : Fin 512) :
    V m c main_v39 (ix2 k (oc n e)) = aW4 m c (ix2 k ⟨n.val * 1024 + 512 + e.val, by omega⟩) := by
  unfold_abbrev_sides
  simp only [hostOps0, hostOps0_1, hostOps0_2, hostOps0_3, hostOps0_4, hostOps0_5, hostOps0_6, hostOps0_7, hostOps0_8,
    List.flatten_cons, List.flatten_nil, List.append_nil, List.cons_append, List.nil_append]
  after_results
  pointwise
  refine congrArg (fun a => aW4 m c (ix2 k a)) (Fin.ext ?_)
  show (n.val * 512 + e.val) / 512 * 1024 + 512 + (n.val * 512 + e.val) % 512 = n.val * 1024 + 512 + e.val
  omega

theorem en_w1 (k : Fin 64) (j : Fin 64) : (V m c main_v32 (ix2 k j) : EReal)
    = if h : k.val < 33 then aW1 m c (ix2 ⟨k.val, h⟩ j) else 0 := by
  unfold_abbrev_sides
  simp only [hostOps0, hostOps0_1, hostOps0_2, hostOps0_3, hostOps0_4, hostOps0_5, hostOps0_6, hostOps0_7, hostOps0_8,
    List.flatten_cons, List.flatten_nil, List.append_nil, List.cons_append, List.nil_append]
  after_results
  change (pad S64x64 ![0, 0] ![31, 0] ![0, 0] (aW1 m c) (sitofp (F := Ideal) .f32 (constantI S_ 32 0#32))
    Facts₀.pads_S33x64_S64x64_0310_000 Facts₀.h_S_ (ix2 k j) : EReal) = _
  by_cases h : k.val < 33
  · rw [dif_pos h]
    refine pad_apply_of_inside _ _ _ _ _ _ _ _ (ix2 ⟨k.val, h⟩ j) fun a => ?_
    fin_cases a
    · show k.val = 0 + k.val * (0 + 1)
      omega
    · show j.val = 0 + j.val * (0 + 1)
      omega
  · rw [dif_neg h]
    refine (pad_apply_of_not_inside _ _ _ _ _ _ _ _ 0 fun hh => h ?_).trans lane_zero
    have h2 : (k.val - 0) / (0 + 1) < 33 := hh.2.2
    omega

/-- The position whose rows a row of the two halves holds: the second half is mirrored. -/
def pos (r : Fin 8192) : Fin 4096 := if h : r.val < 4096 then ⟨r.val, h⟩ else mir ⟨r.val - 4096, by omega⟩

theorem en_z (r : Fin 8192) (e : Fin 64) : (V m c main_v15 (ix2 r e) : EReal)
    = if h : e.val < 33 then aZ m c (ix2 (pos r) ⟨e.val, h⟩) else 0 := by
  unfold_abbrev_sides
  simp only [hostOps0, hostOps0_1, hostOps0_2, hostOps0_3, hostOps0_4, hostOps0_5, hostOps0_6, hostOps0_7, hostOps0_8,
    List.flatten_cons, List.flatten_nil, List.append_nil, List.cons_append, List.nil_append]
  after_results
  change (pad S8192x64 ![0, 0] ![0, 31] ![0, 0]
    (concatenate S8192x33 0 [⟨S4096x33, aZ m c⟩, ⟨S4096x33, Host.gather (rowsDims 4096 33 4096
      Facts₀.gather_S4096x33_S4096x1_S4096x33_1_0_n_n_0_1_133_wf) (aZ m c) mirI⟩]
      Facts₀.concatenates_S4096x33_S4096x33_S8192x33_d0)
    (sitofp (F := Ideal) .f32 (constantI S_ 32 0#32))
    Facts₀.pads_S8192x33_S8192x64_000_0310 Facts₀.h_S_ (ix2 r e) : EReal) = _
  by_cases h : e.val < 33
  · rw [dif_pos h]
    refine (pad_apply_of_inside _ _ _ _ _ _ _ _ (ix2 r ⟨e.val, h⟩) fun a => ?_).trans ?_
    · fin_cases a
      · show r.val = 0 + r.val * (0 + 1)
        omega
      · show e.val = 0 + e.val * (0 + 1)
        omega
    · refine (halves _ _ _ r ⟨e.val, h⟩).trans ?_
      unfold pos
      by_cases hr : r.val < 4096
      · rw [dif_pos hr, dif_pos hr]
      · rw [dif_neg hr, dif_neg hr]
        exact mirrored _ _ _ _
  · rw [dif_neg h]
    refine (pad_apply_of_not_inside _ _ _ _ _ _ _ _ 1 fun hh => h ?_).trans lane_zero
    have h2 : (e.val - 0) / (0 + 1) < 33 := hh.2.2
    omega

/-- The window over the forward filters. -/
def winF (W : Vec Ideal S4096x512 .f32) (r : Fin 8192) (e : Fin 512) : EReal :=
  if r.val < 4096 then W (ix2 (pos r) e) else 0

/-- The window over the backward ones. -/
def winB (W : Vec Ideal S4096x512 .f32) (r : Fin 8192) (e : Fin 512) : EReal :=
  if r.val < 4096 then (if r.val = 0 then W (ix2 (pos r) e) else 0)
  else if r.val - 4096 = 0 then 0 else W (ix2 (pos r) e)

theorem en_wf (r : Fin 8192) (e : Fin 512) : (V m c main_v21 (ix2 r e) : EReal) = winF (aWin m c) r e := by
  unfold_abbrev_sides
  simp only [hostOps0, hostOps0_1, hostOps0_2, hostOps0_3, hostOps0_4, hostOps0_5, hostOps0_6, hostOps0_7, hostOps0_8,
    List.flatten_cons, List.flatten_nil, List.append_nil, List.cons_append, List.nil_append]
  after_results
  refine (halves _ _ _ r e).trans ?_
  unfold winF pos
  by_cases hr : r.val < 4096
  · rw [dif_pos hr, if_pos hr, dif_pos hr]
  · rw [dif_neg hr, if_neg hr]
    exact bits_zero

theorem sel_apply {s : Shape} (p : IVec s 1) (x y : Vec Ideal s .f32) (i : s.Idx) :
    select p x y i = if p i = 1#1 then x i else y i := rfl

theorem en_wb (r : Fin 8192) (e : Fin 512) : (V m c main_v31 (ix2 r e) : EReal) = winB (aWin m c) r e := by
  unfold_abbrev_sides
  simp only [hostOps0, hostOps0_1, hostOps0_2, hostOps0_3, hostOps0_4, hostOps0_5, hostOps0_6, hostOps0_7, hostOps0_8,
    List.flatten_cons, List.flatten_nil, List.append_nil, List.cons_append, List.nil_append]
  after_results
  change (concatenate S8192x512 0
    [⟨S4096x512, select firstM (aWin m c) (fun _ => Ideal.ofBits .f32 0#32)⟩,
      ⟨S4096x512, select firstM (fun _ => Ideal.ofBits .f32 0#32) (Host.gather (rowsDims 4096 512 4096
        Facts₀.gather_S4096x512_S4096x1_S4096x512_1_0_n_n_0_1_1512_wf) (aWin m c) mirI)⟩]
    Facts₀.concatenates_S4096x512_S4096x512_S8192x512_d0 (ix2 r e) : EReal) = _
  refine (halves _ _ _ r e).trans ?_
  unfold winB pos
  by_cases hr : r.val < 4096
  · rw [dif_pos hr, if_pos hr, dif_pos hr]
    rw [sel_apply, firstM_apply]
    by_cases h0 : r.val = 0
    · rw [if_pos h0, if_pos h0, if_pos rfl]
    · rw [if_neg h0, if_neg h0, if_neg (by decide)]
      exact bits_zero
  · rw [dif_neg hr, if_neg hr, dif_neg hr]
    rw [sel_apply, firstM_apply]
    by_cases h0 : r.val - 4096 = 0
    · rw [if_pos h0, if_pos h0, if_pos rfl]
      exact bits_zero
    · rw [if_neg h0, if_neg h0, if_neg (by decide)]
      exact mirrored _ _ _ _

/-- The hidden rows. -/
def hid (Z : Vec Ideal S4096x33 .f32) (W1 : Vec Ideal S33x64 .f32) (B1 : Vec Ideal S64 .f32) (W2 : Vec Ideal S64x64 .f32)
    (B2 : Vec Ideal S64 .f32) (W3 : Vec Ideal S64x64 .f32) (B3 : Vec Ideal S64 .f32) (Fq : Vec Ideal S64 .f32)
    (p : Fin 4096) (j : Fin 64) : EReal :=
  layer (layer (layer (fun k : Fin 33 => Z (ix2 p k)) (fun k j => W1 (ix2 k j)) (fun j => B1 (ix1 j)) (fun j => Fq (ix1 j)))
    (fun k j => W2 (ix2 k j)) (fun j => B2 (ix1 j)) (fun j => Fq (ix1 j)))
    (fun k j => W3 (ix2 k j)) (fun j => B3 (ix1 j)) (fun j => Fq (ix1 j)) j

/-- The forward filter of order `n` and channel `e`, before the window. -/
def fwd (H : Fin 64 → EReal) (W4 : Vec Ideal S64x2048 .f32) (n : Fin 2) (e : Fin 512) : EReal :=
  ∑ k, H k * W4 (ix2 k ⟨n.val * 1024 + e.val, by omega⟩)

/-- The backward one. -/
def bwd (H : Fin 64 → EReal) (W4 : Vec Ideal S64x2048 .f32) (n : Fin 2) (e : Fin 512) : EReal :=
  ∑ k, H k * W4 (ix2 k ⟨n.val * 1024 + 512 + e.val, by omega⟩)

/-- A row of the two-sided filter: the forward filters, then the backward ones mirrored, which meet in the first row. -/
def kern (H : Fin 4096 → Fin 64 → EReal) (W : Vec Ideal S4096x512 .f32) (W4 : Vec Ideal S64x2048 .f32)
    (r : Fin 8192) (n : Fin 2) (e : Fin 512) : EReal :=
  fwd (H (pos r)) W4 n e * winF W r e + bwd (H (pos r)) W4 n e * winB W r e

/-- A row of the two halves. -/
def half (h : Fin 2) (q : Fin 4096) : Fin 8192 := ⟨h.val * 4096 + q.val, by omega⟩

/-- The two-sided filters as an array. -/
def filtA (Z : Vec Ideal S4096x33 .f32) (W : Vec Ideal S4096x512 .f32) (W1 : Vec Ideal S33x64 .f32) (B1 : Vec Ideal S64 .f32)
    (W2 : Vec Ideal S64x64 .f32) (B2 : Vec Ideal S64 .f32) (W3 : Vec Ideal S64x64 .f32) (B3 : Vec Ideal S64 .f32)
    (Fq : Vec Ideal S64 .f32) (W4 : Vec Ideal S64x2048 .f32) : Vec Ideal S2x2x4096x512 .bf16 := fun y =>
  (kern (hid Z W1 B1 W2 B2 W3 B3 Fq) W W4 (half (y 0) (y 2)) (y 1) (y 3) : EReal)

theorem ixw0 : ∀ t : Fin grid0.N, win0_0.index t = ![t.val, 0] := by decide +kernel
theorem ixw1 : ∀ t : Fin grid0.N, win0_1.index t = ![0, 0] := by decide +kernel
theorem ixw2 : ∀ t : Fin grid0.N, win0_2.index t = ![0, 0] := by decide +kernel
theorem ixw3 : ∀ t : Fin grid0.N, win0_3.index t = ![0, 0] := by decide +kernel
theorem ixw4 : ∀ t : Fin grid0.N, win0_4.index t = ![0, 0] := by decide +kernel
theorem ixw5 : ∀ t : Fin grid0.N, win0_5.index t = ![0, 0] := by decide +kernel
theorem ixw6 : ∀ t : Fin grid0.N, win0_6.index t = ![0, 0] := by decide +kernel
theorem ixw7 : ∀ t : Fin grid0.N, win0_7.index t = ![0, 0] := by decide +kernel
theorem ixw8 : ∀ t : Fin grid0.N, win0_8.index t = ![0, 0] := by decide +kernel
theorem ixw9 : ∀ t : Fin grid0.N, win0_9.index t = ![0, 0] := by decide +kernel
theorem ixw10 : ∀ t : Fin grid0.N, win0_10.index t = ![t.val, 0] := by decide +kernel
theorem ixw11 : ∀ t : Fin grid0.N, win0_11.index t = ![t.val, 0] := by decide +kernel
theorem ixw12 : ∀ t : Fin grid0.N, win0_12.index t = ![t.val / 8, 0, t.val % 8, 0] := by decide +kernel

theorem t_lt (t : Fin grid0.N) : t.val < 16 := t.isLt

/-- The row that row `r` of the block at point `t` is. -/
def row (t : Fin grid0.N) (r : Fin 512) : Fin 8192 := ⟨t.val * 512 + r.val, by have := t_lt t; omega⟩

/-- The half point `t` is in. -/
def hf (t : Fin grid0.N) : Fin 2 := ⟨t.val / 8, by have := t_lt t; omega⟩

/-- The row of its half that row `r` of the block at point `t` is. -/
def hrow (t : Fin grid0.N) (r : Fin 512) : Fin 4096 := ⟨t.val % 8 * 512 + r.val, by omega⟩

theorem half_hrow (t : Fin grid0.N) (r : Fin 512) : half (hf t) (hrow t r) = row t r := Fin.ext (by
  show t.val / 8 * 4096 + (t.val % 8 * 512 + r.val) = t.val * 512 + r.val
  omega)

section
variable (t : Fin grid0.N)

theorem rdv1 (k : Fin 64) (j : Fin 64) : iblk m c 1 t (ix2 k j) = (V m c main_v32 : Vec Ideal S64x64 .f32) (ix2 k j) := by
  blk_ext [iblk, ixw1 t]

theorem rdv3 (k : Fin 64) (j : Fin 64) : iblk m c 3 t (ix2 k j) = (V m c main_arg4 : Vec Ideal S64x64 .f32) (ix2 k j) := by
  blk_ext [iblk, ixw3 t]

theorem rdv5 (k : Fin 64) (j : Fin 64) : iblk m c 5 t (ix2 k j) = (V m c main_arg6 : Vec Ideal S64x64 .f32) (ix2 k j) := by
  blk_ext [iblk, ixw5 t]

theorem rdv8 (k : Fin 64) (j : Fin 1024) : iblk m c 8 t (ix2 k j) = (V m c main_v36 : Vec Ideal S64x1024 .f32) (ix2 k j) := by
  blk_ext [iblk, ixw8 t]

theorem rdv9 (k : Fin 64) (j : Fin 1024) : iblk m c 9 t (ix2 k j) = (V m c main_v39 : Vec Ideal S64x1024 .f32) (ix2 k j) := by
  blk_ext [iblk, ixw9 t]

theorem rdv2 (j : Fin 64) : iblk m c 2 t (ix2 0 j) = (V m c main_v40 : Vec Ideal S1x64 .f32) (ix2 0 j) := by
  blk_ext [iblk, ixw2 t]

theorem rdv4 (j : Fin 64) : iblk m c 4 t (ix2 0 j) = (V m c main_v41 : Vec Ideal S1x64 .f32) (ix2 0 j) := by
  blk_ext [iblk, ixw4 t]

theorem rdv6 (j : Fin 64) : iblk m c 6 t (ix2 0 j) = (V m c main_v42 : Vec Ideal S1x64 .f32) (ix2 0 j) := by
  blk_ext [iblk, ixw6 t]

theorem rdv7 (j : Fin 64) : iblk m c 7 t (ix2 0 j) = (V m c main_v43 : Vec Ideal S1x64 .f32) (ix2 0 j) := by
  blk_ext [iblk, ixw7 t]

theorem rdv0 (r : Fin 512) (j : Fin 64) : iblk m c 0 t (ix2 r j)
    = (V m c main_v15 : Vec Ideal S8192x64 .f32) (ix2 (row t r) j) := by
  blk_ext [iblk, ixw0 t, row]

theorem rdv10 (r : Fin 512) (j : Fin 512) : iblk m c 10 t (ix2 r j)
    = (V m c main_v21 : Vec Ideal S8192x512 .f32) (ix2 (row t r) j) := by
  blk_ext [iblk, ixw10 t, row]

theorem rdv11 (r : Fin 512) (j : Fin 512) : iblk m c 11 t (ix2 r j)
    = (V m c main_v31 : Vec Ideal S8192x512 .f32) (ix2 (row t r) j) := by
  blk_ext [iblk, ixw11 t, row]

theorem em12 (n : Fin 2) (r e : Fin 512) :
    ((win0_12.blk t).view.emb (ix4 0 n r e) : S2x2x4096x512.Idx) = ix4 (hf t) n (hrow t r) e := by
  blk_ext [ixw12 t, hf, hrow]

end

theorem rd0 (t : Fin grid0.N) (r : Fin 512) (k : Fin 64) : (iblk m c 0 t (ix2 r k) : EReal)
    = if h : k.val < 33 then aZ m c (ix2 (pos (row t r)) ⟨k.val, h⟩) else 0 :=
  (rdv0 m c t r k).trans (en_z m c _ _)
theorem rd1 (t : Fin grid0.N) (k j : Fin 64) : (iblk m c 1 t (ix2 k j) : EReal)
    = if h : k.val < 33 then aW1 m c (ix2 ⟨k.val, h⟩ j) else 0 := (rdv1 m c t k j).trans (en_w1 m c _ _)
theorem rd2 (t : Fin grid0.N) (j : Fin 64) : iblk m c 2 t (ix2 0 j) = aB1 m c (ix1 j) := (rdv2 m c t j).trans (en_b1 m c _)
theorem rd3 (t : Fin grid0.N) (k j : Fin 64) : iblk m c 3 t (ix2 k j) = aW2 m c (ix2 k j) :=
  (rdv3 m c t k j).trans (congrFun (V_main_arg4 m c) _)
theorem rd4 (t : Fin grid0.N) (j : Fin 64) : iblk m c 4 t (ix2 0 j) = aB2 m c (ix1 j) := (rdv4 m c t j).trans (en_b2 m c _)
theorem rd5 (t : Fin grid0.N) (k j : Fin 64) : iblk m c 5 t (ix2 k j) = aW3 m c (ix2 k j) :=
  (rdv5 m c t k j).trans (congrFun (V_main_arg6 m c) _)
theorem rd6 (t : Fin grid0.N) (j : Fin 64) : iblk m c 6 t (ix2 0 j) = aB3 m c (ix1 j) := (rdv6 m c t j).trans (en_b3 m c _)
theorem rd7 (t : Fin grid0.N) (j : Fin 64) : iblk m c 7 t (ix2 0 j) = aF m c (ix1 j) := (rdv7 m c t j).trans (en_f m c _)
theorem rd8 (t : Fin grid0.N) (k : Fin 64) (n : Fin 2) (e : Fin 512) : iblk m c 8 t (ix2 k (oc n e))
    = aW4 m c (ix2 k ⟨n.val * 1024 + e.val, by omega⟩) := (rdv8 m c t k _).trans (en_w4f m c k n e)
theorem rd9 (t : Fin grid0.N) (k : Fin 64) (n : Fin 2) (e : Fin 512) : iblk m c 9 t (ix2 k (oc n e))
    = aW4 m c (ix2 k ⟨n.val * 1024 + 512 + e.val, by omega⟩) := (rdv9 m c t k _).trans (en_w4b m c k n e)
theorem rd10 (t : Fin grid0.N) (r e : Fin 512) : (iblk m c 10 t (ix2 r e) : EReal) = winF (aWin m c) (row t r) e :=
  (rdv10 m c t r e).trans (en_wf m c _ _)
theorem rd11 (t : Fin grid0.N) (r e : Fin 512) : (iblk m c 11 t (ix2 r e) : EReal) = winB (aWin m c) (row t r) e :=
  (rdv11 m c t r e).trans (en_wb m c _ _)

/-- A sum padded by zeros. -/
theorem sum_pad (x w : Fin 33 → EReal) :
    ∑ k : Fin 64, (if h : k.val < 33 then x ⟨k.val, h⟩ else 0) * (if h : k.val < 33 then w ⟨k.val, h⟩ else 0)
      = ∑ k : Fin 33, x k * w k := by
  refine (Fin.sum_univ_add (a := 33) (b := 31) _).trans ?_
  rw [Finset.sum_eq_zero (s := Finset.univ) (f := fun i : Fin 31 => _), add_zero]
  · refine Finset.sum_congr rfl fun k _ => ?_
    rw [dif_pos (show (Fin.castAdd 31 k).val < 33 from k.isLt), dif_pos (show (Fin.castAdd 31 k).val < 33 from k.isLt)]
    rfl
  · intro i _
    rw [dif_neg (show ¬(Fin.natAdd 33 i).val < 33 by show ¬(33 + i.val < 33); omega), zero_mul]

/-- The hidden rows of a block are those of the positions its rows hold. -/
theorem hid_blk (t : Fin grid0.N) (r : Fin 512) (j : Fin 64) :
    hidB (iblk m c 0 t) (iblk m c 1 t) (iblk m c 2 t) (iblk m c 3 t) (iblk m c 4 t) (iblk m c 5 t) (iblk m c 6 t)
        (iblk m c 7 t) r j
      = hid (aZ m c) (aW1 m c) (aB1 m c) (aW2 m c) (aB2 m c) (aW3 m c) (aB3 m c) (aF m c) (pos (row t r)) j := by
  unfold hidB hid
  simp only [rd0, rd1, rd2, rd3, rd4, rd5, rd6, rd7]
  refine congrArg (fun x : Fin 64 → EReal => layer (layer x _ _ _) _ _ _ j) (funext fun i => ?_)
  unfold layer
  rw [sum_pad (fun k => aZ m c (ix2 (pos (row t r)) k)) (fun k => aW1 m c (ix2 k i))]

theorem arr12 : (dats m 0 c).arrAt 12 cfg0.N
    = filtA (aZ m c) (aWin m c) (aW1 m c) (aB1 m c) (aW2 m c) (aB2 m c) (aW3 m c) (aB3 m c) (aF m c) (aW4 m c) := by
  refine (dats m 0 c).arrAt_eq_of_covers 12 _ (by decide +kernel) fun t hf' y => ?_
  blk_simp
  rw [after0_12]
  obtain ⟨z, n, r, e, rfl⟩ : ∃ z n r e, y = ix4 z n r e := ⟨y 0, y 1, y 2, y 3, eq_ix4 y⟩
  obtain rfl : z = 0 := Subsingleton.elim _ _
  refine Eq.trans ?_ (congrArg (filtA _ _ _ _ _ _ _ _ _ _) (em12 t n r e)).symm
  refine (out12_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) n r e).trans ?_
  refine Eq.trans ?_ (congrArg (fun a => kern (hid (aZ m c) (aW1 m c) (aB1 m c) (aW2 m c) (aB2 m c) (aW3 m c) (aB3 m c) (aF m c))
    (aWin m c) (aW4 m c) a n e) (half_hrow t r)).symm
  unfold kern fwd bwd
  simp only [hid_blk, rd8, rd9, rd10, rd11]

end Cert.Kernel7Ideal.Filt

end
-- ==== Proof.Filt.Ref.lean ====
/- The reference's filters, at an index. -/
module

public import proofs.«01_k».proof.Proof.Gen.Reference7Ideal.Read
public import proofs.«01_k».proof.Proof.Filt.Arr
public import Idealize.ShloMosaic.Lib.KernelVsHost

@[expose] public section

set_option maxRecDepth 16384

noncomputable section

namespace Cert.Reference7Ideal.Filt

open Idealize.ShloMosaic Idealize.ShloMosaic.TcCoe
open Cert.Reference7Ideal Cert.Reference7Ideal.Read Cert.Kernel7Ideal.Filt Cert.Filt Cert.RowMath

variable (x0 : Vec Ideal S4096x33 .f32) (x1 : Vec Ideal S4096x512 .f32) (x2 : Vec Ideal S33x64 .f32) (x3 : Vec Ideal S64 .f32)
  (x4 : Vec Ideal S64x64 .f32) (x5 : Vec Ideal S64 .f32) (x6 : Vec Ideal S64x64 .f32) (x7 x8 : Vec Ideal S64 .f32)
  (x9 : Vec Ideal S64x2048 .f32)

theorem r7 (p : Fin 4096) (j : Fin 64) : (val_main_v7 (F := Ideal) x0 x2 x3 x8 (ix2 p j) : EReal)
    = layer (fun k : Fin 33 => x0 (ix2 p k)) (fun k j => x2 (ix2 k j)) (fun j => x3 (ix1 j)) (fun j => x8 (ix1 j)) j := by
  pointwise [val_main_v7, val_main_v6, val_main_v5, val_main_v4, val_main_v3, val_main_v0, val_main_v2, val_main_v1, layer]

theorem r15 (p : Fin 4096) (j : Fin 64) : (val_main_v15 (F := Ideal) x0 x2 x3 x4 x5 x8 (ix2 p j) : EReal)
    = layer (fun k => val_main_v7 (F := Ideal) x0 x2 x3 x8 (ix2 p k)) (fun k j => x4 (ix2 k j)) (fun j => x5 (ix1 j))
      (fun j => x8 (ix1 j)) j := by
  pointwise [val_main_v15, val_main_v14, val_main_v13, val_main_v12, val_main_v11, val_main_v8, val_main_v10, val_main_v9, layer]

theorem r23 (p : Fin 4096) (j : Fin 64) : (val_main_v23 (F := Ideal) x0 x2 x3 x4 x5 x6 x7 x8 (ix2 p j) : EReal)
    = hid x0 x2 x3 x4 x5 x6 x7 x8 p j := by
  have h : (val_main_v23 (F := Ideal) x0 x2 x3 x4 x5 x6 x7 x8 (ix2 p j) : EReal)
      = layer (fun k => val_main_v15 (F := Ideal) x0 x2 x3 x4 x5 x8 (ix2 p k)) (fun k j => x6 (ix2 k j)) (fun j => x7 (ix1 j))
        (fun j => x8 (ix1 j)) j := by
    pointwise [val_main_v23, val_main_v22, val_main_v21, val_main_v20, val_main_v19, val_main_v16, val_main_v18, val_main_v17, layer]
  rw [h]
  simp only [r15, r7]
  rfl

theorem r30 (p : Fin 4096) (n : Fin 2) (e : Fin 512) :
    (val_main_v30 (F := Ideal) x0 x1 x2 x3 x4 x5 x6 x7 x8 x9 (ix3 p n e) : EReal)
      = fwd (hid x0 x2 x3 x4 x5 x6 x7 x8 p) x9 n e * x1 (ix2 p e) := by
  have h : (val_main_v30 (F := Ideal) x0 x1 x2 x3 x4 x5 x6 x7 x8 x9 (ix3 p n e) : EReal)
      = fwd (fun k => val_main_v23 (F := Ideal) x0 x2 x3 x4 x5 x6 x7 x8 (ix2 p k)) x9 n e * x1 (ix2 p e) := by
    pointwise [val_main_v30, val_main_v29, val_main_v28, val_main_v27, val_main_v26, val_main_v25, val_main_v24, fwd]
  rw [h]
  simp only [r23]

theorem r32 (p : Fin 4096) (n : Fin 2) (e : Fin 512) :
    (val_main_v32 (F := Ideal) x0 x1 x2 x3 x4 x5 x6 x7 x8 x9 (ix3 p n e) : EReal)
      = bwd (hid x0 x2 x3 x4 x5 x6 x7 x8 p) x9 n e * x1 (ix2 p e) := by
  have h : (val_main_v32 (F := Ideal) x0 x1 x2 x3 x4 x5 x6 x7 x8 x9 (ix3 p n e) : EReal)
      = bwd (fun k => val_main_v23 (F := Ideal) x0 x2 x3 x4 x5 x6 x7 x8 (ix2 p k)) x9 n e * x1 (ix2 p e) := by
    pointwise [val_main_v32, val_main_v31, val_main_v28, val_main_v27, val_main_v26, val_main_v25, val_main_v24, bwd]
  rw [h]
  simp only [r23]

theorem r35 (n : Fin 2) (e : Fin 512) :
    (val_main_v35 (F := Ideal) x0 x1 x2 x3 x4 x5 x6 x7 x8 x9 (ix3 0 n e) : EReal)
      = val_main_v30 (F := Ideal) x0 x1 x2 x3 x4 x5 x6 x7 x8 x9 (ix3 0 n e)
        + val_main_v32 (F := Ideal) x0 x1 x2 x3 x4 x5 x6 x7 x8 x9 (ix3 0 n e) := by
  pointwise [val_main_v35, val_main_v34, val_main_v33]

theorem r36 (i : Fin 4095) (p : Fin 4096) (hp : p.val = i.val + 1) (n : Fin 2) (e : Fin 512) :
    (val_main_v36 (F := Ideal) x0 x1 x2 x3 x4 x5 x6 x7 x8 x9 (ix3 i n e) : EReal)
      = val_main_v30 (F := Ideal) x0 x1 x2 x3 x4 x5 x6 x7 x8 x9 (ix3 p n e) := by
  rw [val_main_v36_apply]
  refine congrArg (val_main_v30 (F := Ideal) x0 x1 x2 x3 x4 x5 x6 x7 x8 x9) (funext fun a => ?_)
  fin_cases a
  · exact Fin.ext (by show 1 + i.val = p.val; omega)
  · exact Fin.ext (by first | rfl | exact Nat.zero_add _)
  · exact Fin.ext (by first | rfl | exact Nat.zero_add _)

theorem r40 (i : Fin 4095) (p : Fin 4096) (hp : p.val + i.val = 4095) (n : Fin 2) (e : Fin 512) :
    (val_main_v40 (F := Ideal) x0 x1 x2 x3 x4 x5 x6 x7 x8 x9 (ix3 i n e) : EReal)
      = val_main_v32 (F := Ideal) x0 x1 x2 x3 x4 x5 x6 x7 x8 x9 (ix3 p n e) := by
  have h : val_main_v40 (F := Ideal) x0 x1 x2 x3 x4 x5 x6 x7 x8 x9 (ix3 i n e)
      = val_main_v39 (F := Ideal) x0 x1 x2 x3 x4 x5 x6 x7 x8 x9 (ix3 i.rev n e) := by
    unfold val_main_v40 Host.reverse
    refine congrArg (val_main_v39 (F := Ideal) x0 x1 x2 x3 x4 x5 x6 x7 x8 x9) (funext fun a => ?_)
    fin_cases a <;> rfl
  rw [h, val_main_v39_apply]
  refine congrArg (val_main_v32 (F := Ideal) x0 x1 x2 x3 x4 x5 x6 x7 x8 x9) (funext fun a => ?_)
  fin_cases a
  · exact Fin.ext (by
      show 1 + (4095 - (i.val + 1)) = p.val
      have := i.isLt
      omega)
  · exact Fin.ext (by first | rfl | exact Nat.zero_add _)
  · exact Fin.ext (by first | rfl | exact Nat.zero_add _)

theorem r38 (n : Fin 2) (e : Fin 512) : (val_main_v38 (F := Ideal) (ix3 0 n e) : EReal) = 0 := by
  pointwise [val_main_v38, val_main_cst]

/-- The row at `p` of the forward filters, with the window. -/
abbrev fw (p : Fin 4096) (n : Fin 2) (e : Fin 512) : EReal := fwd ((hid x0 x2 x3 x4 x5 x6 x7 x8) p) x9 n e * x1 (ix2 p e)
/-- Of the backward ones. -/
abbrev bw (p : Fin 4096) (n : Fin 2) (e : Fin 512) : EReal := bwd ((hid x0 x2 x3 x4 x5 x6 x7 x8) p) x9 n e * x1 (ix2 p e)

theorem kern_first (r : Fin 8192) (h : r.val = 0) (n : Fin 2) (e : Fin 512) :
    kern (hid x0 x2 x3 x4 x5 x6 x7 x8) x1 x9 r n e = fw x0 x1 x2 x3 x4 x5 x6 x7 x8 x9 0 n e + bw x0 x1 x2 x3 x4 x5 x6 x7 x8 x9 0 n e := by
  have hp : pos r = 0 := by
    unfold pos
    rw [dif_pos (by omega)]
    exact Fin.ext h
  unfold kern winF winB
  rw [if_pos (by omega), if_pos (by omega), if_pos h, hp]

theorem kern_fwd (r : Fin 8192) (p : Fin 4096) (h : r.val = p.val) (h0 : p.val ≠ 0) (n : Fin 2) (e : Fin 512) :
    kern (hid x0 x2 x3 x4 x5 x6 x7 x8) x1 x9 r n e = fw x0 x1 x2 x3 x4 x5 x6 x7 x8 x9 p n e := by
  have hp : pos r = p := by
    unfold pos
    rw [dif_pos (by omega)]
    exact Fin.ext h
  unfold kern winF winB
  rw [if_pos (by omega), if_pos (by omega), if_neg (by omega), hp, mul_zero, add_zero]

theorem kern_mid (r : Fin 8192) (h : r.val = 4096) (n : Fin 2) (e : Fin 512) :
    kern (hid x0 x2 x3 x4 x5 x6 x7 x8) x1 x9 r n e = 0 := by
  unfold kern winF winB
  rw [if_neg (by omega), if_neg (by omega), if_pos (by omega), mul_zero, mul_zero, add_zero]

theorem kern_bwd (r : Fin 8192) (p : Fin 4096) (h : r.val + p.val = 8192) (n : Fin 2) (e : Fin 512) :
    kern (hid x0 x2 x3 x4 x5 x6 x7 x8) x1 x9 r n e = bw x0 x1 x2 x3 x4 x5 x6 x7 x8 x9 p n e := by
  have hp : pos r = p := by
    unfold pos
    rw [dif_neg (by omega)]
    refine Fin.ext ?_
    show (4096 - (r.val - 4096)) % 4096 = p.val
    omega
  unfold kern winF winB
  rw [if_neg (by omega), if_neg (by omega), if_neg (by omega), hp, mul_zero, zero_add]

theorem r41 (r : Fin 8192) (n : Fin 2) (e : Fin 512) :
    (val_main_v41 (F := Ideal) x0 x1 x2 x3 x4 x5 x6 x7 x8 x9 (ix3 r n e) : EReal) = kern (hid x0 x2 x3 x4 x5 x6 x7 x8) x1 x9 r n e := by
  have hr := r.isLt
  unfold val_main_v41
  rcases (by omega : r.val = 0 ∨ (0 < r.val ∧ r.val < 4096) ∨ r.val = 4096 ∨ 4096 < r.val) with h | h | h | h
  · refine (concatenate_apply_piece (0 : Fin S8192x2x512.rank) _ _ _ 0 (Nat.le_of_ble_eq_true rfl) S1x2x512 _ rfl rfl 0 rfl
      (ix3 0 n e) (fun b hb => ?_) ?_).trans ?_
    · fin_cases b
      · exact absurd rfl hb
      · rfl
      · rfl
    · exact h.symm
    · exact (r35 x0 x1 x2 x3 x4 x5 x6 x7 x8 x9 n e).trans ((congrArg₂ (fun a b : EReal => a + b) (r30 x0 x1 x2 x3 x4 x5 x6 x7 x8 x9 0 n e)
        (r32 x0 x1 x2 x3 x4 x5 x6 x7 x8 x9 0 n e)).trans (kern_first x0 x1 x2 x3 x4 x5 x6 x7 x8 x9 r h n e).symm)
  · refine (concatenate_apply_piece (0 : Fin S8192x2x512.rank) _ _ _ 1 (Nat.le_of_ble_eq_true rfl) S4095x2x512 _ rfl rfl 1 rfl
      (ix3 (⟨r.val - 1, by omega⟩ : Fin 4095) n e) (fun b hb => ?_) ?_).trans ?_
    · fin_cases b
      · exact absurd rfl hb
      · rfl
      · rfl
    · show 1 + (r.val - 1) = r.val
      omega
    · exact (r36 x0 x1 x2 x3 x4 x5 x6 x7 x8 x9 _ ⟨r.val, h.2⟩ (by show r.val = r.val - 1 + 1; omega) n e).trans
        ((r30 x0 x1 x2 x3 x4 x5 x6 x7 x8 x9 _ n e).trans (kern_fwd x0 x1 x2 x3 x4 x5 x6 x7 x8 x9 r ⟨r.val, h.2⟩ rfl (by show r.val ≠ 0; omega) n e).symm)
  · refine (concatenate_apply_piece (0 : Fin S8192x2x512.rank) _ _ _ 2 (Nat.le_of_ble_eq_true rfl) S1x2x512 _ rfl rfl 4096 rfl
      (ix3 0 n e) (fun b hb => ?_) ?_).trans ?_
    · fin_cases b
      · exact absurd rfl hb
      · rfl
      · rfl
    · exact h.symm
    · exact (r38 n e).trans (kern_mid x0 x1 x2 x3 x4 x5 x6 x7 x8 x9 r h n e).symm
  · refine (concatenate_apply_piece (0 : Fin S8192x2x512.rank) _ _ _ 3 (Nat.le_of_ble_eq_true rfl) S4095x2x512 _ rfl rfl 4097 rfl
      (ix3 (⟨r.val - 4097, by omega⟩ : Fin 4095) n e) (fun b hb => ?_) ?_).trans ?_
    · fin_cases b
      · exact absurd rfl hb
      · rfl
      · rfl
    · show 4097 + (r.val - 4097) = r.val
      omega
    · exact (r40 x0 x1 x2 x3 x4 x5 x6 x7 x8 x9 _ ⟨8192 - r.val, by omega⟩ (by show 8192 - r.val + (r.val - 4097) = 4095; omega) n e).trans
        ((r32 x0 x1 x2 x3 x4 x5 x6 x7 x8 x9 _ n e).trans (kern_bwd x0 x1 x2 x3 x4 x5 x6 x7 x8 x9 r ⟨8192 - r.val, by omega⟩ (by show r.val + (8192 - r.val) = 8192; omega) n e).symm)

theorem r43 (h n : Fin 2) (q : Fin 4096) (e : Fin 512) :
    (val_main_v43 (F := Ideal) x0 x1 x2 x3 x4 x5 x6 x7 x8 x9 (ix4 h n q e) : EReal)
      = val_main_v41 (F := Ideal) x0 x1 x2 x3 x4 x5 x6 x7 x8 x9 (ix3 (half h q) n e) := by
  rw [val_main_v43_apply, val_main_v42_apply]
  refine congrArg (val_main_v41 (F := Ideal) x0 x1 x2 x3 x4 x5 x6 x7 x8 x9) (funext fun a => ?_)
  fin_cases a
  · exact Fin.ext (by
      show (((h.val * 4096 + q.val) * 2 + n.val) * 512 + e.val) / 1024 = h.val * 4096 + q.val
      omega)
  · exact Fin.ext (by
      show (((h.val * 4096 + q.val) * 2 + n.val) * 512 + e.val) / 512 % 2 = n.val
      omega)
  · exact Fin.ext (by
      show (((h.val * 4096 + q.val) * 2 + n.val) * 512 + e.val) % 512 = e.val
      omega)

theorem result_eq : val_main_v44 (F := Ideal) x0 x1 x2 x3 x4 x5 x6 x7 x8 x9 = filtA x0 x1 x2 x3 x4 x5 x6 x7 x8 x9 := by
  funext y
  obtain ⟨h, n, q, e, rfl⟩ : ∃ h n q e, y = ix4 h n q e := ⟨y 0, y 1, y 2, y 3, eq_ix4 y⟩
  rw [val_main_v44_apply]
  refine Eq.trans (b := (val_main_v43 (F := Ideal) x0 x1 x2 x3 x4 x5 x6 x7 x8 x9 (ix4 h n q e) : EReal)) rfl ?_
  exact (r43 x0 x1 x2 x3 x4 x5 x6 x7 x8 x9 h n q e).trans (r41 x0 x1 x2 x3 x4 x5 x6 x7 x8 x9 (half h q) n e)

end Cert.Reference7Ideal.Filt

end
-- ==== Proof.Filt.Claims.lean ====
/- The claims of the filters: the reference's frame, and the two results being one. -/
module

public import proofs.«01_k».proof.Defs
public import proofs.«01_k».proof.Proof.Filt.Ref
public import proofs.«01_k».proof.Proof.Gen.Kernel7Ideal.Value
public import proofs.«01_k».proof.Proof.Gen.Reference7Ideal.Run
public import Idealize.ShloMosaic.Lib.Quiescent

@[expose] public section

noncomputable section

namespace Cert.FiltClaims

open Idealize.ShloMosaic Idealize.ShloMosaic.TcCoe Idealize.SL.Sem

/-- The reference runs, and leaves its arguments and the counters alone. -/
theorem frame_ri : Cert.quiescent_Reference7Ideal (hReference7Ideal := Cert.Reference7Ideal.Gen.facts) := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- From arguments that agree, both runs end with the same result. -/
theorem algebraic : Cert.algebraic_Kernel7Ideal_Reference7Ideal (hKernel7Ideal := Cert.Kernel7Ideal.Gen.facts)
    (hReference7Ideal := Cert.Reference7Ideal.Gen.facts) := by
  intro m ρ m' ρ' hpre hagree
  refine ⟨fun c => (Cert.Kernel7Ideal.Gen.dats m 0 c).arrAt 12 Cert.Kernel7Ideal.cfg0.N,
    Cert.Kernel7Ideal.Value.run_blocks m ρ, ?_⟩
  refine (θ_run Cert.Reference7Ideal.defs _ _).mono (fun _ h c => ⟨(h c).1.trans ?_, (h c).2⟩)
    (Cert.Reference7Ideal.Value.run (F := Ideal) m' ρ')
  refine (Cert.Reference7Ideal.Read.val_main_v44_eq (F := Ideal) m' c).trans ?_
  refine Eq.trans ?_ (Cert.Kernel7Ideal.Filt.arr12 m c).symm
  show Cert.Reference7Ideal.Read.val_main_v44 (F := Ideal)
    (m' ((c.tc : Thread Cert.Reference7Ideal.nD Cert.Reference7Ideal.τ).loc Cert.Reference7Ideal.main_arg0))
    (m' ((c.tc : Thread Cert.Reference7Ideal.nD Cert.Reference7Ideal.τ).loc Cert.Reference7Ideal.main_arg1))
    (m' ((c.tc : Thread Cert.Reference7Ideal.nD Cert.Reference7Ideal.τ).loc Cert.Reference7Ideal.main_arg2))
    (m' ((c.tc : Thread Cert.Reference7Ideal.nD Cert.Reference7Ideal.τ).loc Cert.Reference7Ideal.main_arg3))
    (m' ((c.tc : Thread Cert.Reference7Ideal.nD Cert.Reference7Ideal.τ).loc Cert.Reference7Ideal.main_arg4))
    (m' ((c.tc : Thread Cert.Reference7Ideal.nD Cert.Reference7Ideal.τ).loc Cert.Reference7Ideal.main_arg5))
    (m' ((c.tc : Thread Cert.Reference7Ideal.nD Cert.Reference7Ideal.τ).loc Cert.Reference7Ideal.main_arg6))
    (m' ((c.tc : Thread Cert.Reference7Ideal.nD Cert.Reference7Ideal.τ).loc Cert.Reference7Ideal.main_arg7))
    (m' ((c.tc : Thread Cert.Reference7Ideal.nD Cert.Reference7Ideal.τ).loc Cert.Reference7Ideal.main_arg8))
    (m' ((c.tc : Thread Cert.Reference7Ideal.nD Cert.Reference7Ideal.τ).loc Cert.Reference7Ideal.main_arg9)) = _
  obtain ⟨h0, h1, h2, h3, h4, h5, h6, h7, h8, h9⟩ := hagree c
  rw [h0, h1, h2, h3, h4, h5, h6, h7, h8, h9]
  exact Cert.Reference7Ideal.Filt.result_eq _ _ _ _ _ _ _ _ _ _

end Cert.FiltClaims

end
-- ==== Proof.lean ====
module

public import proofs.«01_k».proof.Defs
public import proofs.«01_k».proof.Proof.Exp.Frames
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Attn.Run
public import proofs.«01_k».proof.Proof.Attn.Equation
public import proofs.«01_k».proof.Proof.Proj.Claims
public import proofs.«01_k».proof.Proof.Merge.Claims
public import proofs.«01_k».proof.Proof.Mod.Claims
public import proofs.«01_k».proof.Proof.Short.Claims
public import proofs.«01_k».proof.Proof.Filt.Claims
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.AttnMath

/-- The side conditions of the precondition's operations. -/
theorem preFacts : Cert.Pre_finite_values.Facts where
  slices_S8x4096x7168_S8x4096x512_0_0_1024 := by decide
  bitsLt_bf16_f32 := by decide
  bcast_S_S8x4096x512 := by decide
  bcast_S_S64 := by decide

/-- A comparison with infinity that holds says that its left side is a real number. -/
theorem fin_of_cmp {x : EReal} (h : (FloatOps.cmpf (F := Ideal) (φ := .f32) .olt (max x (-x))
    (FloatOps.ofBits (F := Ideal) .f32 0x7F800000#32) : BitVec 1) = 1#1) : Fin' x := by
  refine fin'_of_abs_lt ?_
  have ht : (FloatOps.ofBits (F := Ideal) .f32 0x7F800000#32 : EReal) = ⊤ := by
    show Ideal.ofBits .f32 0x7F800000#32 = ⊤
    simp [Ideal.ofBits, Ideal.ieee]
  rw [ht] at h
  by_contra hn
  have h' : (BitVec.ofBool (decide (max x (-x) < ⊤)) : BitVec 1) = 1#1 := h
  rw [decide_eq_false hn] at h'
  exact absurd h' (by decide)

/-- The slice of the values, read at an index. -/
theorem third (x : FVec Ideal Cert.Pre_finite_values.S8x4096x7168 .bf16) (p) (b : Fin 8) (n : Fin 4096) (l : Fin 512) :
    ((extractStridedSlice Cert.Pre_finite_values.S8x4096x512 ![0, 0, 1024] x p
      : FVec Ideal Cert.Pre_finite_values.S8x4096x512 .bf16) (ix3 b n l) : EReal) = x (ix3 b n ⟨1024 + l.val, by omega⟩) := by
  pointwise

/-- The reference runs, and leaves its arguments and the counters alone. -/
theorem frame_ri : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The named scale is the real number the kernel's literal rounds. -/
theorem preserves : Cert.preserves_Kernel_KernelIdeal :=
  IdealRules.named_const.statement Cert.KernelIdeal.κ "q_scale" .f32 0x3E38AA3B#32 (((8 * (Real.log 2))⁻¹ : ℝ) : EReal) rfl

/-- From arguments that agree, with the values, gains and vectors real, both runs end with the same result. -/
theorem algebraic : Cert.algebraic_KernelIdeal_ReferenceIdeal_pre_finite_values (hKernelIdeal := Cert.KernelIdeal.Gen.facts)
    (hReferenceIdeal := Cert.ReferenceIdeal.Gen.facts) (hPre_finite_values := preFacts) := by
  intro m ρ m' ρ' hpre hagree
  refine ⟨_, Cert.KernelIdeal.Attn.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v122_eq (F := Ideal) (StableHlo.launchContents m' c)).trans ?_
  show Cert.ReferenceIdeal.Read.val_main_v122 (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7)) = _
  obtain ⟨h0, h1, h2, h3, h4, h5, h6, h7⟩ := hagree c
  rw [h0, h1, h2, h3, h4, h5, h6, h7]
  obtain ⟨p0, p1, p2, p3, p4, p5, p6⟩ := hpre c
  refine Cert.KernelIdeal.Attn.result_eq _ _ _ _ _ _ _ _ (fun d => fin_of_cmp (congrFun p1 (ix1 d))) (fun d => fin_of_cmp (congrFun p2 (ix1 d)))
    (fun d => fin_of_cmp (congrFun p3 (ix1 d))) (fun d => fin_of_cmp (congrFun p4 (ix1 d))) (fun d => fin_of_cmp (congrFun p5 (ix1 d)))
    (fun d => fin_of_cmp (congrFun p6 (ix1 d))) (fun b n l => ?_)
  have hb : Fin' ((extractStridedSlice Cert.Pre_finite_values.S8x4096x512 ![0, 0, 1024]
      (m ((c.tc : Thread Cert.KernelIdeal.nD Cert.KernelIdeal.τ).loc Cert.KernelIdeal.main_arg0)
        : FVec Ideal Cert.Pre_finite_values.S8x4096x7168 .bf16)
      preFacts.slices_S8x4096x7168_S8x4096x512_0_0_1024 : FVec Ideal Cert.Pre_finite_values.S8x4096x512 .bf16) (ix3 b n l)) :=
    fin_of_cmp (congrFun p0 (ix3 b n l))
  rwa [third] at hb

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, preFacts,
  Cert.Pre_tables_in_range.Gen.facts,
  fun m ρ _ => Cert.Kernel.Gen.frame m ρ, fun m ρ _ => Cert.KernelIdeal.Gen.frame m ρ,
  fun m ρ _ => Cert.KernelIdeal.Gen.frame m ρ, frame_ri, fun m ρ _ => frame_ri m ρ trivial,
  Cert.ExpClaims.frame_k, Cert.ExpClaims.frame_ki, Cert.ExpClaims.frame_ri,
  fun m ρ _ => Cert.ExpClaims.frame_ri m ρ trivial, fun m ρ _ => Cert.Kernel3.Gen.frame m ρ,
  fun m ρ _ => Cert.Kernel3Ideal.Gen.frame m ρ, Cert.ProjClaims.frame_ri, fun m ρ _ => Cert.Kernel4.Gen.frame m ρ,
  fun m ρ _ => Cert.Kernel4Ideal.Gen.frame m ρ, Cert.MergeClaims.frame_ri, fun m ρ _ => Cert.Kernel5.Gen.frame m ρ,
  fun m ρ _ => Cert.Kernel5Ideal.Gen.frame m ρ, Cert.ModClaims.frame_ri,
  fun m ρ _ => Cert.Kernel6.Gen.frame m ρ, fun m ρ _ => Cert.Kernel6Ideal.Gen.frame m ρ, Cert.ShortClaims.frame_ri,
  fun m ρ _ => Cert.Kernel7.Gen.frame m ρ, fun m ρ _ => Cert.Kernel7Ideal.Gen.frame m ρ, Cert.FiltClaims.frame_ri,
  preserves, algebraic, trivial,
  Cert.ExpClaims.algebraic, trivial, Cert.ProjClaims.algebraic, trivial, Cert.MergeClaims.algebraic, trivial,
  Cert.ModClaims.algebraic, trivial, Cert.ShortClaims.algebraic, trivial, Cert.FiltClaims.algebraic⟩

end Cert.Proof

end
